-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_nonpositive [hPre_decay_nonpositive : Cert.Pre_decay_nonpositive.Facts] (m : (ℓ : Loc Cert.KernelIdeal.nD Cert.KernelIdeal.τ Cert.KernelIdeal.sig) → Buf (Elt Ideal) ℓ) : Prop :=
  ∀ c : Dev Cert.KernelIdeal.nD,
    (Cert.Pre_decay_nonpositive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_nonpositive [hPre_decay_nonpositive : Cert.Pre_decay_nonpositive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_nonpositive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjReferenceIdeal (m : (ℓ : Loc Cert.GlaProjReferenceIdeal.nD Cert.GlaProjReferenceIdeal.τ Cert.GlaProjReferenceIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_weights_finite [hPre_weights_finite : Cert.Pre_weights_finite.Facts] (m : (ℓ : Loc Cert.CompressIdeal.nD Cert.CompressIdeal.τ Cert.CompressIdeal.sig) → Buf (Elt Ideal) ℓ) : Prop :=
  ∀ c : Dev Cert.CompressIdeal.nD,
    (Cert.Pre_weights_finite.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3))) = (fun _ => 1#1)

def Pre_CompressReferenceIdeal (m : (ℓ : Loc Cert.CompressReferenceIdeal.nD Cert.CompressReferenceIdeal.τ Cert.CompressReferenceIdeal.sig) → Buf (Elt Ideal) ℓ) : Prop :=
  True

def Pre_CompressReferenceIdeal_weights_finite [hPre_weights_finite : Cert.Pre_weights_finite.Facts] (m : (ℓ : Loc Cert.CompressReferenceIdeal.nD Cert.CompressReferenceIdeal.τ Cert.CompressReferenceIdeal.sig) → Buf (Elt Ideal) ℓ) : Prop :=
  ∀ c : Dev Cert.CompressReferenceIdeal.nD,
    (Cert.Pre_weights_finite.fn (F := Ideal) (m ((c.tc : Thread Cert.CompressReferenceIdeal.nD Cert.CompressReferenceIdeal.τ).loc Cert.CompressReferenceIdeal.main_arg0)) (m ((c.tc : Thread Cert.CompressReferenceIdeal.nD Cert.CompressReferenceIdeal.τ).loc Cert.CompressReferenceIdeal.main_arg1)) (m ((c.tc : Thread Cert.CompressReferenceIdeal.nD Cert.CompressReferenceIdeal.τ).loc Cert.CompressReferenceIdeal.main_arg2)) (m ((c.tc : Thread Cert.CompressReferenceIdeal.nD Cert.CompressReferenceIdeal.τ).loc Cert.CompressReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_decay_nonpositive [hKernelIdeal : Cert.KernelIdeal.Facts] [hPre_decay_nonpositive : Cert.Pre_decay_nonpositive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_nonpositive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_decay_nonpositive [hReferenceIdeal : Cert.ReferenceIdeal.Facts] [hPre_decay_nonpositive : Cert.Pre_decay_nonpositive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_nonpositive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2)
      ∧ r.2.mem ((c.tc : Thread Cert.GlaProj.nD Cert.GlaProj.τ).loc Cert.GlaProj.main_arg3) = m ((c.tc : Thread Cert.GlaProj.nD Cert.GlaProj.τ).loc Cert.GlaProj.main_arg3)
      ∧ r.2.mem ((c.tc : Thread Cert.GlaProj.nD Cert.GlaProj.τ).loc Cert.GlaProj.main_arg4) = m ((c.tc : Thread Cert.GlaProj.nD Cert.GlaProj.τ).loc Cert.GlaProj.main_arg4))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
      ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
      ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ r.2.sem = fun _ => 0)

def quiescent_GlaProjReferenceIdeal [hGlaProjReferenceIdeal : Cert.GlaProjReferenceIdeal.Facts] : Prop :=
  ∀ (m : (ℓ : Loc Cert.GlaProjReferenceIdeal.nD Cert.GlaProjReferenceIdeal.τ Cert.GlaProjReferenceIdeal.sig) → Buf (Elt Ideal) ℓ) (g : Dev Cert.GlaProjReferenceIdeal.nD → PrngReg), Pre_GlaProjReferenceIdeal m →
    θ_run (Cert.GlaProjReferenceIdeal.defs (F := Ideal)) (onTc (τ := Cert.GlaProjReferenceIdeal.τ) (Cert.GlaProjReferenceIdeal.main (F := Ideal))) ⟨m, fun _ => 0, g⟩ (fun r => (∀ c : Dev Cert.GlaProjReferenceIdeal.nD,
      r.2.mem ((c.tc : Thread Cert.GlaProjReferenceIdeal.nD Cert.GlaProjReferenceIdeal.τ).loc Cert.GlaProjReferenceIdeal.main_arg0) = m ((c.tc : Thread Cert.GlaProjReferenceIdeal.nD Cert.GlaProjReferenceIdeal.τ).loc Cert.GlaProjReferenceIdeal.main_arg0)
      ∧ r.2.mem ((c.tc : Thread Cert.GlaProjReferenceIdeal.nD Cert.GlaProjReferenceIdeal.τ).loc Cert.GlaProjReferenceIdeal.main_arg1) = m ((c.tc : Thread Cert.GlaProjReferenceIdeal.nD Cert.GlaProjReferenceIdeal.τ).loc Cert.GlaProjReferenceIdeal.main_arg1)
      ∧ r.2.mem ((c.tc : Thread Cert.GlaProjReferenceIdeal.nD Cert.GlaProjReferenceIdeal.τ).loc Cert.GlaProjReferenceIdeal.main_arg2) = m ((c.tc : Thread Cert.GlaProjReferenceIdeal.nD Cert.GlaProjReferenceIdeal.τ).loc Cert.GlaProjReferenceIdeal.main_arg2)
      ∧ r.2.mem ((c.tc : Thread Cert.GlaProjReferenceIdeal.nD Cert.GlaProjReferenceIdeal.τ).loc Cert.GlaProjReferenceIdeal.main_arg3) = m ((c.tc : Thread Cert.GlaProjReferenceIdeal.nD Cert.GlaProjReferenceIdeal.τ).loc Cert.GlaProjReferenceIdeal.main_arg3)
      ∧ r.2.mem ((c.tc : Thread Cert.GlaProjReferenceIdeal.nD Cert.GlaProjReferenceIdeal.τ).loc Cert.GlaProjReferenceIdeal.main_arg4) = m ((c.tc : Thread Cert.GlaProjReferenceIdeal.nD Cert.GlaProjReferenceIdeal.τ).loc Cert.GlaProjReferenceIdeal.main_arg4))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2)
      ∧ r.2.mem ((c.tc : Thread Cert.NsaProj.nD Cert.NsaProj.τ).loc Cert.NsaProj.main_arg3) = m ((c.tc : Thread Cert.NsaProj.nD Cert.NsaProj.τ).loc Cert.NsaProj.main_arg3)
      ∧ r.2.mem ((c.tc : Thread Cert.NsaProj.nD Cert.NsaProj.τ).loc Cert.NsaProj.main_arg4) = m ((c.tc : Thread Cert.NsaProj.nD Cert.NsaProj.τ).loc Cert.NsaProj.main_arg4))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
      ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
      ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1)
      ∧ r.2.mem ((c.tc : Thread Cert.NsaProjReferenceIdeal.nD Cert.NsaProjReferenceIdeal.τ).loc Cert.NsaProjReferenceIdeal.main_arg2) = m ((c.tc : Thread Cert.NsaProjReferenceIdeal.nD Cert.NsaProjReferenceIdeal.τ).loc Cert.NsaProjReferenceIdeal.main_arg2)
      ∧ r.2.mem ((c.tc : Thread Cert.NsaProjReferenceIdeal.nD Cert.NsaProjReferenceIdeal.τ).loc Cert.NsaProjReferenceIdeal.main_arg3) = m ((c.tc : Thread Cert.NsaProjReferenceIdeal.nD Cert.NsaProjReferenceIdeal.τ).loc Cert.NsaProjReferenceIdeal.main_arg3)
      ∧ r.2.mem ((c.tc : Thread Cert.NsaProjReferenceIdeal.nD Cert.NsaProjReferenceIdeal.τ).loc Cert.NsaProjReferenceIdeal.main_arg4) = m ((c.tc : Thread Cert.NsaProjReferenceIdeal.nD Cert.NsaProjReferenceIdeal.τ).loc Cert.NsaProjReferenceIdeal.main_arg4))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressIdeal_pre_weights_finite [hCompressIdeal : Cert.CompressIdeal.Facts] [hPre_weights_finite : Cert.Pre_weights_finite.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_weights_finite m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def quiescent_CompressReferenceIdeal_pre_weights_finite [hCompressReferenceIdeal : Cert.CompressReferenceIdeal.Facts] [hPre_weights_finite : Cert.Pre_weights_finite.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal_weights_finite m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def preserves_Kernel_KernelIdeal : Prop :=
  True

def algebraic_KernelIdeal_ReferenceIdeal_pre_decay_nonpositive [hKernelIdeal : Cert.KernelIdeal.Facts] [hReferenceIdeal : Cert.ReferenceIdeal.Facts] [hPre_decay_nonpositive : Cert.Pre_decay_nonpositive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_nonpositive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v18) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_GlaProj_GlaProjIdeal : Prop :=
  True

def algebraic_GlaProjIdeal_GlaProjReferenceIdeal [hGlaProjIdeal : Cert.GlaProjIdeal.Facts] [hGlaProjReferenceIdeal : Cert.GlaProjReferenceIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjReferenceIdeal.nD Cert.GlaProjReferenceIdeal.τ Cert.GlaProjReferenceIdeal.sig) → Buf (Elt Ideal) ℓ) (g' : Dev Cert.GlaProjReferenceIdeal.nD → PrngReg), Pre_GlaProjIdeal m →
    (∀ c : Dev Cert.GlaProjIdeal.nD,
      m' ((c.tc : Thread Cert.GlaProjReferenceIdeal.nD Cert.GlaProjReferenceIdeal.τ).loc Cert.GlaProjReferenceIdeal.main_arg0) = m ((c.tc : Thread Cert.GlaProjIdeal.nD Cert.GlaProjIdeal.τ).loc Cert.GlaProjIdeal.main_arg0)
      ∧ m' ((c.tc : Thread Cert.GlaProjReferenceIdeal.nD Cert.GlaProjReferenceIdeal.τ).loc Cert.GlaProjReferenceIdeal.main_arg1) = m ((c.tc : Thread Cert.GlaProjIdeal.nD Cert.GlaProjIdeal.τ).loc Cert.GlaProjIdeal.main_arg1)
      ∧ m' ((c.tc : Thread Cert.GlaProjReferenceIdeal.nD Cert.GlaProjReferenceIdeal.τ).loc Cert.GlaProjReferenceIdeal.main_arg2) = m ((c.tc : Thread Cert.GlaProjIdeal.nD Cert.GlaProjIdeal.τ).loc Cert.GlaProjIdeal.main_arg2)
      ∧ m' ((c.tc : Thread Cert.GlaProjReferenceIdeal.nD Cert.GlaProjReferenceIdeal.τ).loc Cert.GlaProjReferenceIdeal.main_arg3) = m ((c.tc : Thread Cert.GlaProjIdeal.nD Cert.GlaProjIdeal.τ).loc Cert.GlaProjIdeal.main_arg3)
      ∧ m' ((c.tc : Thread Cert.GlaProjReferenceIdeal.nD Cert.GlaProjReferenceIdeal.τ).loc Cert.GlaProjReferenceIdeal.main_arg4) = m ((c.tc : Thread Cert.GlaProjIdeal.nD Cert.GlaProjIdeal.τ).loc Cert.GlaProjIdeal.main_arg4)) →
    ∃ (v0 : (c : Dev Cert.GlaProjIdeal.nD) → Buf (Elt Ideal) ((c.tc : Thread Cert.GlaProjIdeal.nD Cert.GlaProjIdeal.τ).loc Cert.GlaProjIdeal.main_v12_0)) (v1 : (c : Dev Cert.GlaProjIdeal.nD) → Buf (Elt Ideal) ((c.tc : Thread Cert.GlaProjIdeal.nD Cert.GlaProjIdeal.τ).loc Cert.GlaProjIdeal.main_v12_1)) (v2 : (c : Dev Cert.GlaProjIdeal.nD) → Buf (Elt Ideal) ((c.tc : Thread Cert.GlaProjIdeal.nD Cert.GlaProjIdeal.τ).loc Cert.GlaProjIdeal.main_v12_2)) (v3 : (c : Dev Cert.GlaProjIdeal.nD) → Buf (Elt Ideal) ((c.tc : Thread Cert.GlaProjIdeal.nD Cert.GlaProjIdeal.τ).loc Cert.GlaProjIdeal.main_v12_3)) (v4 : (c : Dev Cert.GlaProjIdeal.nD) → Buf (Elt Ideal) ((c.tc : Thread Cert.GlaProjIdeal.nD Cert.GlaProjIdeal.τ).loc Cert.GlaProjIdeal.main_v12_4)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v12_0) = v0 c
          ∧ r.2.mem ((c.tc : Thread Cert.GlaProjIdeal.nD Cert.GlaProjIdeal.τ).loc Cert.GlaProjIdeal.main_v12_1) = v1 c
          ∧ r.2.mem ((c.tc : Thread Cert.GlaProjIdeal.nD Cert.GlaProjIdeal.τ).loc Cert.GlaProjIdeal.main_v12_2) = v2 c
          ∧ r.2.mem ((c.tc : Thread Cert.GlaProjIdeal.nD Cert.GlaProjIdeal.τ).loc Cert.GlaProjIdeal.main_v12_3) = v3 c
          ∧ r.2.mem ((c.tc : Thread Cert.GlaProjIdeal.nD Cert.GlaProjIdeal.τ).loc Cert.GlaProjIdeal.main_v12_4) = v4 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
          ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
          ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ θ_run (Cert.GlaProjReferenceIdeal.defs (F := Ideal)) (onTc (τ := Cert.GlaProjReferenceIdeal.τ) (Cert.GlaProjReferenceIdeal.main (F := Ideal))) ⟨m', fun _ => 0, g'⟩ (fun r => ∀ c : Dev Cert.GlaProjReferenceIdeal.nD,
          r.2.mem ((c.tc : Thread Cert.GlaProjReferenceIdeal.nD Cert.GlaProjReferenceIdeal.τ).loc Cert.GlaProjReferenceIdeal.main_v26) = v0 c
          ∧ r.2.mem ((c.tc : Thread Cert.GlaProjReferenceIdeal.nD Cert.GlaProjReferenceIdeal.τ).loc Cert.GlaProjReferenceIdeal.main_v27) = v1 c
          ∧ r.2.mem ((c.tc : Thread Cert.GlaProjReferenceIdeal.nD Cert.GlaProjReferenceIdeal.τ).loc Cert.GlaProjReferenceIdeal.main_v29) = v2 c
          ∧ r.2.mem ((c.tc : Thread Cert.GlaProjReferenceIdeal.nD Cert.GlaProjReferenceIdeal.τ).loc Cert.GlaProjReferenceIdeal.main_v30) = v3 c
          ∧ r.2.mem ((c.tc : Thread Cert.GlaProjReferenceIdeal.nD Cert.GlaProjReferenceIdeal.τ).loc Cert.GlaProjReferenceIdeal.main_v33) = v4 c
          ∧ r.2.mem ((c.tc : Thread Cert.GlaProjReferenceIdeal.nD Cert.GlaProjReferenceIdeal.τ).loc Cert.GlaProjReferenceIdeal.main_arg0) = m' ((c.tc : Thread Cert.GlaProjReferenceIdeal.nD Cert.GlaProjReferenceIdeal.τ).loc Cert.GlaProjReferenceIdeal.main_arg0)
          ∧ r.2.mem ((c.tc : Thread Cert.GlaProjReferenceIdeal.nD Cert.GlaProjReferenceIdeal.τ).loc Cert.GlaProjReferenceIdeal.main_arg1) = m' ((c.tc : Thread Cert.GlaProjReferenceIdeal.nD Cert.GlaProjReferenceIdeal.τ).loc Cert.GlaProjReferenceIdeal.main_arg1)
          ∧ r.2.mem ((c.tc : Thread Cert.GlaProjReferenceIdeal.nD Cert.GlaProjReferenceIdeal.τ).loc Cert.GlaProjReferenceIdeal.main_arg2) = m' ((c.tc : Thread Cert.GlaProjReferenceIdeal.nD Cert.GlaProjReferenceIdeal.τ).loc Cert.GlaProjReferenceIdeal.main_arg2)
          ∧ r.2.mem ((c.tc : Thread Cert.GlaProjReferenceIdeal.nD Cert.GlaProjReferenceIdeal.τ).loc Cert.GlaProjReferenceIdeal.main_arg3) = m' ((c.tc : Thread Cert.GlaProjReferenceIdeal.nD Cert.GlaProjReferenceIdeal.τ).loc Cert.GlaProjReferenceIdeal.main_arg3)
          ∧ r.2.mem ((c.tc : Thread Cert.GlaProjReferenceIdeal.nD Cert.GlaProjReferenceIdeal.τ).loc Cert.GlaProjReferenceIdeal.main_arg4) = m' ((c.tc : Thread Cert.GlaProjReferenceIdeal.nD Cert.GlaProjReferenceIdeal.τ).loc Cert.GlaProjReferenceIdeal.main_arg4))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)
      ∧ m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2)
      ∧ m' ((c.tc : Thread Cert.NsaProjReferenceIdeal.nD Cert.NsaProjReferenceIdeal.τ).loc Cert.NsaProjReferenceIdeal.main_arg3) = m ((c.tc : Thread Cert.NsaProjIdeal.nD Cert.NsaProjIdeal.τ).loc Cert.NsaProjIdeal.main_arg3)
      ∧ m' ((c.tc : Thread Cert.NsaProjReferenceIdeal.nD Cert.NsaProjReferenceIdeal.τ).loc Cert.NsaProjReferenceIdeal.main_arg4) = m ((c.tc : Thread Cert.NsaProjIdeal.nD Cert.NsaProjIdeal.τ).loc Cert.NsaProjIdeal.main_arg4)) →
    ∃ (v0 : (c : Dev Cert.NsaProjIdeal.nD) → Buf (Elt Ideal) ((c.tc : Thread Cert.NsaProjIdeal.nD Cert.NsaProjIdeal.τ).loc Cert.NsaProjIdeal.main_v38_0)) (v1 : (c : Dev Cert.NsaProjIdeal.nD) → Buf (Elt Ideal) ((c.tc : Thread Cert.NsaProjIdeal.nD Cert.NsaProjIdeal.τ).loc Cert.NsaProjIdeal.main_v38_1)) (v2 : (c : Dev Cert.NsaProjIdeal.nD) → Buf (Elt Ideal) ((c.tc : Thread Cert.NsaProjIdeal.nD Cert.NsaProjIdeal.τ).loc Cert.NsaProjIdeal.main_v38_2)) (v3 : (c : Dev Cert.NsaProjIdeal.nD) → Buf (Elt Ideal) ((c.tc : Thread Cert.NsaProjIdeal.nD Cert.NsaProjIdeal.τ).loc Cert.NsaProjIdeal.main_v38_3)) (v4 : (c : Dev Cert.NsaProjIdeal.nD) → Buf (Elt Ideal) ((c.tc : Thread Cert.NsaProjIdeal.nD Cert.NsaProjIdeal.τ).loc Cert.NsaProjIdeal.main_v38_4)) (v5 : (c : Dev Cert.NsaProjIdeal.nD) → Buf (Elt Ideal) ((c.tc : Thread Cert.NsaProjIdeal.nD Cert.NsaProjIdeal.τ).loc Cert.NsaProjIdeal.main_v38_5)) (v6 : (c : Dev Cert.NsaProjIdeal.nD) → Buf (Elt Ideal) ((c.tc : Thread Cert.NsaProjIdeal.nD Cert.NsaProjIdeal.τ).loc Cert.NsaProjIdeal.main_v38_6)) (v7 : (c : Dev Cert.NsaProjIdeal.nD) → Buf (Elt Ideal) ((c.tc : Thread Cert.NsaProjIdeal.nD Cert.NsaProjIdeal.τ).loc Cert.NsaProjIdeal.main_v38_7)) (v8 : (c : Dev Cert.NsaProjIdeal.nD) → Buf (Elt Ideal) ((c.tc : Thread Cert.NsaProjIdeal.nD Cert.NsaProjIdeal.τ).loc Cert.NsaProjIdeal.main_v38_8)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v38_0) = v0 c
          ∧ r.2.mem ((c.tc : Thread Cert.NsaProjIdeal.nD Cert.NsaProjIdeal.τ).loc Cert.NsaProjIdeal.main_v38_1) = v1 c
          ∧ r.2.mem ((c.tc : Thread Cert.NsaProjIdeal.nD Cert.NsaProjIdeal.τ).loc Cert.NsaProjIdeal.main_v38_2) = v2 c
          ∧ r.2.mem ((c.tc : Thread Cert.NsaProjIdeal.nD Cert.NsaProjIdeal.τ).loc Cert.NsaProjIdeal.main_v38_3) = v3 c
          ∧ r.2.mem ((c.tc : Thread Cert.NsaProjIdeal.nD Cert.NsaProjIdeal.τ).loc Cert.NsaProjIdeal.main_v38_4) = v4 c
          ∧ r.2.mem ((c.tc : Thread Cert.NsaProjIdeal.nD Cert.NsaProjIdeal.τ).loc Cert.NsaProjIdeal.main_v38_5) = v5 c
          ∧ r.2.mem ((c.tc : Thread Cert.NsaProjIdeal.nD Cert.NsaProjIdeal.τ).loc Cert.NsaProjIdeal.main_v38_6) = v6 c
          ∧ r.2.mem ((c.tc : Thread Cert.NsaProjIdeal.nD Cert.NsaProjIdeal.τ).loc Cert.NsaProjIdeal.main_v38_7) = v7 c
          ∧ r.2.mem ((c.tc : Thread Cert.NsaProjIdeal.nD Cert.NsaProjIdeal.τ).loc Cert.NsaProjIdeal.main_v38_8) = v8 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
          ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
          ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v187) = v0 c
          ∧ r.2.mem ((c.tc : Thread Cert.NsaProjReferenceIdeal.nD Cert.NsaProjReferenceIdeal.τ).loc Cert.NsaProjReferenceIdeal.main_v188) = v1 c
          ∧ r.2.mem ((c.tc : Thread Cert.NsaProjReferenceIdeal.nD Cert.NsaProjReferenceIdeal.τ).loc Cert.NsaProjReferenceIdeal.main_v16) = v2 c
          ∧ r.2.mem ((c.tc : Thread Cert.NsaProjReferenceIdeal.nD Cert.NsaProjReferenceIdeal.τ).loc Cert.NsaProjReferenceIdeal.main_v189) = v3 c
          ∧ r.2.mem ((c.tc : Thread Cert.NsaProjReferenceIdeal.nD Cert.NsaProjReferenceIdeal.τ).loc Cert.NsaProjReferenceIdeal.main_v190) = v4 c
          ∧ r.2.mem ((c.tc : Thread Cert.NsaProjReferenceIdeal.nD Cert.NsaProjReferenceIdeal.τ).loc Cert.NsaProjReferenceIdeal.main_v197) = v5 c
          ∧ r.2.mem ((c.tc : Thread Cert.NsaProjReferenceIdeal.nD Cert.NsaProjReferenceIdeal.τ).loc Cert.NsaProjReferenceIdeal.main_v204) = v6 c
          ∧ r.2.mem ((c.tc : Thread Cert.NsaProjReferenceIdeal.nD Cert.NsaProjReferenceIdeal.τ).loc Cert.NsaProjReferenceIdeal.main_v205) = v7 c
          ∧ r.2.mem ((c.tc : Thread Cert.NsaProjReferenceIdeal.nD Cert.NsaProjReferenceIdeal.τ).loc Cert.NsaProjReferenceIdeal.main_v207) = v8 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1)
          ∧ r.2.mem ((c.tc : Thread Cert.NsaProjReferenceIdeal.nD Cert.NsaProjReferenceIdeal.τ).loc Cert.NsaProjReferenceIdeal.main_arg2) = m' ((c.tc : Thread Cert.NsaProjReferenceIdeal.nD Cert.NsaProjReferenceIdeal.τ).loc Cert.NsaProjReferenceIdeal.main_arg2)
          ∧ r.2.mem ((c.tc : Thread Cert.NsaProjReferenceIdeal.nD Cert.NsaProjReferenceIdeal.τ).loc Cert.NsaProjReferenceIdeal.main_arg3) = m' ((c.tc : Thread Cert.NsaProjReferenceIdeal.nD Cert.NsaProjReferenceIdeal.τ).loc Cert.NsaProjReferenceIdeal.main_arg3)
          ∧ r.2.mem ((c.tc : Thread Cert.NsaProjReferenceIdeal.nD Cert.NsaProjReferenceIdeal.τ).loc Cert.NsaProjReferenceIdeal.main_arg4) = m' ((c.tc : Thread Cert.NsaProjReferenceIdeal.nD Cert.NsaProjReferenceIdeal.τ).loc Cert.NsaProjReferenceIdeal.main_arg4))

def preserves_Compress_CompressIdeal : Prop :=
  True

def algebraic_CompressIdeal_CompressReferenceIdeal_pre_weights_finite [hCompressIdeal : Cert.CompressIdeal.Facts] [hCompressReferenceIdeal : Cert.CompressReferenceIdeal.Facts] [hPre_weights_finite : Cert.Pre_weights_finite.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal_weights_finite m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v11)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v11) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v12) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hGlaProj : Cert.GlaProj.Facts) (hGlaProjIdeal : Cert.GlaProjIdeal.Facts) (hGlaProjReferenceIdeal : Cert.GlaProjReferenceIdeal.Facts) (hNsaProj : Cert.NsaProj.Facts) (hNsaProjIdeal : Cert.NsaProjIdeal.Facts) (hNsaProjReferenceIdeal : Cert.NsaProjReferenceIdeal.Facts) (hCompress : Cert.Compress.Facts) (hCompressIdeal : Cert.CompressIdeal.Facts) (hCompressReferenceIdeal : Cert.CompressReferenceIdeal.Facts) (hPre_decay_nonpositive : Cert.Pre_decay_nonpositive.Facts) (hPre_weights_finite : Cert.Pre_weights_finite.Facts),
    quiescent_Kernel (hKernel := hKernel)
    ∧ quiescent_KernelIdeal (hKernelIdeal := hKernelIdeal)
    ∧ quiescent_KernelIdeal_pre_decay_nonpositive (hKernelIdeal := hKernelIdeal) (hPre_decay_nonpositive := hPre_decay_nonpositive)
    ∧ quiescent_ReferenceIdeal (hReferenceIdeal := hReferenceIdeal)
    ∧ quiescent_ReferenceIdeal_pre_decay_nonpositive (hReferenceIdeal := hReferenceIdeal) (hPre_decay_nonpositive := hPre_decay_nonpositive)
    ∧ quiescent_Out (hOut := hOut)
    ∧ quiescent_OutIdeal (hOutIdeal := hOutIdeal)
    ∧ quiescent_OutReferenceIdeal (hOutReferenceIdeal := hOutReferenceIdeal)
    ∧ quiescent_GlaProj (hGlaProj := hGlaProj)
    ∧ quiescent_GlaProjIdeal (hGlaProjIdeal := hGlaProjIdeal)
    ∧ quiescent_GlaProjReferenceIdeal (hGlaProjReferenceIdeal := hGlaProjReferenceIdeal)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ quiescent_Compress (hCompress := hCompress)
    ∧ quiescent_CompressIdeal (hCompressIdeal := hCompressIdeal)
    ∧ quiescent_CompressIdeal_pre_weights_finite (hCompressIdeal := hCompressIdeal) (hPre_weights_finite := hPre_weights_finite)
    ∧ quiescent_CompressReferenceIdeal (hCompressReferenceIdeal := hCompressReferenceIdeal)
    ∧ quiescent_CompressReferenceIdeal_pre_weights_finite (hCompressReferenceIdeal := hCompressReferenceIdeal) (hPre_weights_finite := hPre_weights_finite)
    ∧ preserves_Kernel_KernelIdeal
    ∧ algebraic_KernelIdeal_ReferenceIdeal_pre_decay_nonpositive (hKernelIdeal := hKernelIdeal) (hReferenceIdeal := hReferenceIdeal) (hPre_decay_nonpositive := hPre_decay_nonpositive)
    ∧ preserves_Out_OutIdeal
    ∧ algebraic_OutIdeal_OutReferenceIdeal (hOutIdeal := hOutIdeal) (hOutReferenceIdeal := hOutReferenceIdeal)
    ∧ preserves_GlaProj_GlaProjIdeal
    ∧ algebraic_GlaProjIdeal_GlaProjReferenceIdeal (hGlaProjIdeal := hGlaProjIdeal) (hGlaProjReferenceIdeal := hGlaProjReferenceIdeal)
    ∧ preserves_NsaProj_NsaProjIdeal
    ∧ algebraic_NsaProjIdeal_NsaProjReferenceIdeal (hNsaProjIdeal := hNsaProjIdeal) (hNsaProjReferenceIdeal := hNsaProjReferenceIdeal)
    ∧ preserves_Compress_CompressIdeal
    ∧ algebraic_CompressIdeal_CompressReferenceIdeal_pre_weights_finite (hCompressIdeal := hCompressIdeal) (hCompressReferenceIdeal := hCompressReferenceIdeal) (hPre_weights_finite := hPre_weights_finite)
-- ==== Pre_decay_nonpositive.lean ====
abbrev S8x4096x512 : Shape := ⟨3, ![8, 4096, 512]⟩
abbrev S8x4096x1024 : Shape := ⟨3, ![8, 4096, 1024]⟩
abbrev S256 : Shape := ⟨1, ![256]⟩
abbrev S1024 : Shape := ⟨1, ![1024]⟩
abbrev S1024x1024 : Shape := ⟨2, ![1024, 1024]⟩
abbrev S_ : Shape := ⟨0, ![]⟩

class Facts : Prop where
  bcast_S_S8x4096x512 : S_.BroadcastsInDim S8x4096x512 (![] : Fin 0 → Fin S8x4096x512.rank)

variable [Facts]

def fn {F : FTy → Type} [FloatOps F] (main_arg0 : FVec F S8x4096x512 .f32) (main_arg1 : FVec F S8x4096x512 .f32) (main_arg2 : FVec F S8x4096x1024 .bf16) (main_arg3 : FVec F S8x4096x512 .f32) (main_arg4 : FVec F S8x4096x1024 .bf16) (main_arg5 : FVec F S8x4096x1024 .f32) (main_arg6 : FVec F S256 .f32) (main_arg7 : FVec F S1024 .f32) (main_arg8 : FVec F S1024x1024 .f32) : IVec S8x4096x512 1 :=
  let main_cst : FVec F S_ .f32 := constant S_ .f32 0x00000000#32
  let main_v0 : FVec F S8x4096x512 .f32 := broadcastInDim S8x4096x512 ![] bcast_S_S8x4096x512 main_cst
  let main_v1 : IVec S8x4096x512 1 := cmpf .ole main_arg3 main_v0
  main_v1
-- ==== Pre_weights_finite.lean ====
abbrev S8x4096x256 : Shape := ⟨3, ![8, 4096, 256]⟩
abbrev S32x64 : Shape := ⟨2, ![32, 64]⟩
abbrev S2048x256 : Shape := ⟨2, ![2048, 256]⟩
abbrev S256x64 : Shape := ⟨2, ![256, 64]⟩
abbrev S2048x1 : Shape := ⟨2, ![2048, 1]⟩
abbrev S_ : Shape := ⟨0, ![]⟩

class Facts : Prop where
  shapeCasts_S32x64_S2048x1 : S32x64.ShapeCasts S2048x1
  bcast_S_S2048x1 : S_.BroadcastsInDim S2048x1 (![] : Fin 0 → Fin S2048x1.rank)
  bcast_S_S2048x256 : S_.BroadcastsInDim S2048x256 (![] : Fin 0 → Fin S2048x256.rank)
  bcast_S2048x1_S2048x256_0_1 : S2048x1.BroadcastsInDim S2048x256 (![0, 1] : Fin 2 → Fin S2048x256.rank)

variable [Facts]

def fn {F : FTy → Type} [FloatOps F] (main_arg0 : FVec F S8x4096x256 .f32) (main_arg1 : FVec F S32x64 .f32) (main_arg2 : FVec F S2048x256 .f32) (main_arg3 : FVec F S256x64 .f32) : IVec S2048x256 1 :=
  let main_v0 : FVec F S32x64 .f32 := Host.absf main_arg1
  let main_v1 : FVec F S2048x1 .f32 := shapeCast S2048x1 main_v0 shapeCasts_S32x64_S2048x1
  let main_cst : FVec F S_ .f32 := constant S_ .f32 0x7F800000#32
  let main_v2 : FVec F S2048x1 .f32 := broadcastInDim S2048x1 ![] bcast_S_S2048x1 main_cst
  let main_v3 : IVec S2048x1 1 := cmpf .olt main_v1 main_v2
  let main_v4 : FVec F S2048x256 .f32 := Host.absf main_arg2
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_v7 : IVec S2048x256 1 := broadcastInDim S2048x256 ![0, 1] bcast_S2048x1_S2048x256_0_1 main_v3
  let main_v8 : IVec S2048x256 1 := andi main_v7 main_v6
  main_v8
-- ==== Kernel.lean ====
abbrev S8x4096x512 : Shape := ⟨3, ![8, 4096, 512]⟩
abbrev S8x4096x1024 : Shape := ⟨3, ![8, 4096, 1024]⟩
abbrev S256 : Shape := ⟨1, ![256]⟩
abbrev S1024 : Shape := ⟨1, ![1024]⟩
abbrev S1024x1024 : Shape := ⟨2, ![1024, 1024]⟩
abbrev S1x256 : Shape := ⟨2, ![1, 256]⟩
abbrev S1x1024 : Shape := ⟨2, ![1, 1024]⟩
abbrev S1x256x512 : Shape := ⟨3, ![1, 256, 512]⟩
abbrev S1x256x1024 : Shape := ⟨3, ![1, 256, 1024]⟩
abbrev S4x128x256 : Shape := ⟨3, ![4, 128, 256]⟩
abbrev S256x1024 : Shape := ⟨2, ![256, 1024]⟩
abbrev S64x64 : Shape := ⟨2, ![64, 64]⟩
abbrev S256x256 : Shape := ⟨2, ![256, 256]⟩
abbrev S256x512 : Shape := ⟨2, ![256, 512]⟩
abbrev S64x128 : Shape := ⟨2, ![64, 128]⟩
abbrev S1x128 : Shape := ⟨2, ![1, 128]⟩
abbrev S1x64x128 : Shape := ⟨3, ![1, 64, 128]⟩
abbrev S1x64x256 : Shape := ⟨3, ![1, 64, 256]⟩
abbrev S64x256 : Shape := ⟨2, ![64, 256]⟩
abbrev S128x64 : Shape := ⟨2, ![128, 64]⟩
abbrev S128x256 : Shape := ⟨2, ![128, 256]⟩
abbrev S128x1 : Shape := ⟨2, ![128, 1]⟩
abbrev S1x128x256 : Shape := ⟨3, ![1, 128, 256]⟩
abbrev S64 : Shape := ⟨1, ![64]⟩
abbrev S64x1 : Shape := ⟨2, ![64, 1]⟩
abbrev S256x1 : Shape := ⟨2, ![256, 1]⟩

abbrev nBuf : Space → Nat
  | .hbm => 13
  | .vmem => 19
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .bf16⟩
  | .hbm, ⟨3, _⟩ => ⟨S8x4096x512, .f32⟩
  | .hbm, ⟨4, _⟩ => ⟨S8x4096x1024, .bf16⟩
  | .hbm, ⟨5, _⟩ => ⟨S8x4096x1024, .f32⟩
  | .hbm, ⟨6, _⟩ => ⟨S256, .f32⟩
  | .hbm, ⟨7, _⟩ => ⟨S1024, .f32⟩
  | .hbm, ⟨8, _⟩ => ⟨S1024x1024, .f32⟩
  | .hbm, ⟨9, _⟩ => ⟨S1x256, .f32⟩
  | .hbm, ⟨10, _⟩ => ⟨S1x1024, .f32⟩
  | .hbm, ⟨11, _⟩ => ⟨S1024x1024, .bf16⟩
  | .hbm, ⟨12, _⟩ => ⟨S8x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .f32⟩
  | .local _ .vmem, ⟨7, _⟩ => ⟨S1x256x512, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256, .f32⟩
  | .local _ .vmem, ⟨13, _⟩ => ⟨S1x1024, .f32⟩
  | .local _ .vmem, ⟨14, _⟩ => ⟨S1024x1024, .bf16⟩
  | .local _ .vmem, ⟨15, _⟩ => ⟨S1x256x1024, .f32⟩
  | .local _ .vmem, ⟨16, _⟩ => ⟨S1x256x1024, .f32⟩
  | .local _ .vmem, ⟨17, _⟩ => ⟨S4x128x256, .f32⟩
  | .local _ .vmem, ⟨18, _⟩ => ⟨S256x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x512 : Shape := ⟨3, ![8, 4096, 512]⟩
abbrev S8x4096x1024 : Shape := ⟨3, ![8, 4096, 1024]⟩
abbrev S256 : Shape := ⟨1, ![256]⟩
abbrev S1024 : Shape := ⟨1, ![1024]⟩
abbrev S1024x1024 : Shape := ⟨2, ![1024, 1024]⟩
abbrev S8x4096x4x128 : Shape := ⟨4, ![8, 4096, 4, 128]⟩
abbrev S8x4x4096x128 : Shape := ⟨4, ![8, 4, 4096, 128]⟩
abbrev S_ : Shape := ⟨0, ![]⟩
abbrev S8x4096x4x256 : Shape := ⟨4, ![8, 4096, 4, 256]⟩
abbrev S8x4x4096x256 : Shape := ⟨4, ![8, 4, 4096, 256]⟩
abbrev S8x4x64x64x128 : Shape := ⟨5, ![8, 4, 64, 64, 128]⟩
abbrev S8x4x64x64x256 : Shape := ⟨5, ![8, 4, 64, 64, 256]⟩
abbrev S8x4x64x1x128 : Shape := ⟨5, ![8, 4, 64, 1, 128]⟩
abbrev S64x64 : Shape := ⟨2, ![64, 64]⟩
abbrev S8x4x64x64x64 : Shape := ⟨5, ![8, 4, 64, 64, 64]⟩
abbrev S64x8x4x64x256 : Shape := ⟨5, ![64, 8, 4, 64, 256]⟩
abbrev S64x8x4x64x128 : Shape := ⟨5, ![64, 8, 4, 64, 128]⟩
abbrev S8x4x64x128 : Shape := ⟨4, ![8, 4, 64, 128]⟩
abbrev S64x8x4x128 : Shape := ⟨4, ![64, 8, 4, 128]⟩
abbrev S8x4x128x256 : Shape := ⟨4, ![8, 4, 128, 256]⟩
abbrev S1x8x4x64x256 : Shape := ⟨5, ![1, 8, 4, 64, 256]⟩
abbrev S8x4x64x256 : Shape := ⟨4, ![8, 4, 64, 256]⟩
abbrev S1x8x4x64x128 : Shape := ⟨5, ![1, 8, 4, 64, 128]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x4096 : Shape := ⟨3, ![8, 4, 4096]⟩
abbrev S8x4x4096x1 : Shape := ⟨4, ![8, 4, 4096, 1]⟩
abbrev S1x1x1x256 : Shape := ⟨4, ![1, 1, 1, 256]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 162
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x1024, .bf16⟩
  | 3 => ⟨S8x4096x512, .f32⟩
  | 4 => ⟨S8x4096x1024, .bf16⟩
  | 5 => ⟨S8x4096x1024, .f32⟩
  | 6 => ⟨S256, .f32⟩
  | 7 => ⟨S1024, .f32⟩
  | 8 => ⟨S1024x1024, .f32⟩
  | 9 => ⟨S8x4096x4x128, .f32⟩
  | 10 => ⟨S8x4x4096x128, .f32⟩
  | 11 => ⟨S_, .f32⟩
  | 12 => ⟨S8x4x4096x128, .f32⟩
  | 13 => ⟨S8x4x4096x128, .f32⟩
  | 14 => ⟨S8x4096x4x128, .f32⟩
  | 15 => ⟨S8x4x4096x128, .f32⟩
  | 16 => ⟨S8x4096x1024, .f32⟩
  | 17 => ⟨S8x4096x4x256, .f32⟩
  | 18 => ⟨S8x4x4096x256, .f32⟩
  | 19 => ⟨S8x4096x4x128, .f32⟩
  | 20 => ⟨S8x4x4096x128, .f32⟩
  | 21 => ⟨S8x4x64x64x128, .f32⟩
  | 22 => ⟨S8x4x64x64x128, .f32⟩
  | 23 => ⟨S8x4x64x64x256, .f32⟩
  | 24 => ⟨S8x4x64x64x128, .f32⟩
  | 25 => ⟨S_, .f32⟩
  | 26 => ⟨S_, .f32⟩
  | 27 => ⟨S8x4x64x64x128, .f32⟩
  | 28 => ⟨S8x4x64x1x128, .f32⟩
  | 29 => ⟨S8x4x64x64x128, .f32⟩
  | 30 => ⟨S8x4x64x64x128, .f32⟩
  | 31 => ⟨S8x4x64x64x128, .f32⟩
  | 32 => ⟨S8x4x64x64x128, .f32⟩
  | 33 => ⟨S8x4x64x64x128, .f32⟩
  | 34 => ⟨S8x4x64x64x128, .f32⟩
  | 35 => ⟨S8x4x64x64x128, .f32⟩
  | 36 => ⟨S8x4x64x64x128, .f32⟩
  | 37 => ⟨S8x4x64x64x128, .f32⟩
  | 38 => ⟨S_, .i1⟩
  | 39 => ⟨S64x64, .i1⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i1⟩
  | 47 => ⟨S64x64, .i1⟩
  | 48 => ⟨S64x64, .i1⟩
  | 49 => ⟨S8x4x64x64x64, .f32⟩
  | 50 => ⟨S_, .f32⟩
  | 51 => ⟨S_, .f32⟩
  | 52 => ⟨S8x4x64x64x64, .i1⟩
  | 53 => ⟨S8x4x64x64x64, .f32⟩
  | 54 => ⟨S8x4x64x64x64, .f32⟩
  | 55 => ⟨S8x4x64x64x256, .f32⟩
  | 56 => ⟨S64x8x4x64x256, .f32⟩
  | 57 => ⟨S64x8x4x64x128, .f32⟩
  | 58 => ⟨S64x8x4x64x128, .f32⟩
  | 59 => ⟨S64x8x4x64x256, .f32⟩
  | 60 => ⟨S8x4x64x128, .f32⟩
  | 61 => ⟨S8x4x64x128, .f32⟩
  | 62 => ⟨S64x8x4x128, .f32⟩
  | 63 => ⟨S_, .f32⟩
  | 64 => ⟨S8x4x128x256, .f32⟩
  | 65 => ⟨S_, .f32⟩
  | 66 => ⟨S64x8x4x64x256, .f32⟩
  | 67 => ⟨S_, .i32⟩
  | 68 => ⟨S64x8x4x64x256, .f32⟩
  | 69 => ⟨S64x8x4x64x128, .f32⟩
  | 70 => ⟨S64x8x4x64x128, .f32⟩
  | 71 => ⟨S64x8x4x64x256, .f32⟩
  | 72 => ⟨S64x8x4x128, .f32⟩
  | 73 => ⟨S_, .i32⟩
  | 74 => ⟨S8x4x128x256, .f32⟩
  | 75 => ⟨S64x8x4x64x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1x8x4x64x256, .f32⟩
  | 83 => ⟨S8x4x64x256, .f32⟩
  | 84 => ⟨S_, .i32⟩
  | 85 => ⟨S_, .i32⟩
  | 86 => ⟨S_, .i32⟩
  | 87 => ⟨S_, .i32⟩
  | 88 => ⟨S1x8x4x64x128, .f32⟩
  | 89 => ⟨S8x4x64x128, .f32⟩
  | 90 => ⟨S_, .i32⟩
  | 91 => ⟨S_, .i32⟩
  | 92 => ⟨S_, .i32⟩
  | 93 => ⟨S_, .i32⟩
  | 94 => ⟨S1x8x4x64x128, .f32⟩
  | 95 => ⟨S8x4x64x128, .f32⟩
  | 96 => ⟨S_, .i32⟩
  | 97 => ⟨S_, .i32⟩
  | 98 => ⟨S_, .i32⟩
  | 99 => ⟨S_, .i32⟩
  | 100 => ⟨S1x8x4x64x256, .f32⟩
  | 101 => ⟨S8x4x64x256, .f32⟩
  | 102 => ⟨S_, .i32⟩
  | 103 => ⟨S_, .i32⟩
  | 104 => ⟨S_, .i32⟩
  | 105 => ⟨S1x8x4x128, .f32⟩
  | 106 => ⟨S8x4x128, .f32⟩
  | 107 => ⟨S8x4x64x256, .f32⟩
  | 108 => ⟨S8x4x64x256, .f32⟩
  | 109 => ⟨S8x4x128x1, .f32⟩
  | 110 => ⟨S8x4x128x256, .f32⟩
  | 111 => ⟨S8x4x128x256, .f32⟩
  | 112 => ⟨S8x4x128x256, .f32⟩
  | 113 => ⟨S8x4x128x256, .f32⟩
  | 114 => ⟨S1x8x4x64x256, .f32⟩
  | 115 => ⟨S_, .i32⟩
  | 116 => ⟨S_, .i32⟩
  | 117 => ⟨S_, .i32⟩
  | 118 => ⟨S_, .i32⟩
  | 119 => ⟨S64x8x4x64x256, .f32⟩
  | 120 => ⟨S_, .i32⟩
  | 121 => ⟨S_, .i32⟩
  | 122 => ⟨S8x4x64x64x256, .f32⟩
  | 123 => ⟨S8x4x4096x256, .f32⟩
  | 124 => ⟨S8x4x4096x256, .f32⟩
  | 125 => ⟨S_, .f32⟩
  | 126 => ⟨S8x4x4096, .f32⟩
  | 127 => ⟨S8x4x4096x1, .f32⟩
  | _ => ⟨S8x4096x512, .f32⟩

abbrev hbmTy0_1 (i : Nat) : BufTy := match i % 128 with
  | 0 => ⟨S_, .f32⟩
  | 1 => ⟨S8x4x4096x1, .f32⟩
  | 2 => ⟨S8x4x4096x1, .f32⟩
  | 3 => ⟨S_, .f32⟩
  | 4 => ⟨S8x4x4096x1, .f32⟩
  | 5 => ⟨S8x4x4096x1, .f32⟩
  | 6 => ⟨S8x4x4096x1, .f32⟩
  | 7 => ⟨S8x4x4096x256, .f32⟩
  | 8 => ⟨S8x4x4096x256, .f32⟩
  | 9 => ⟨S1x1x1x256, .f32⟩
  | 10 => ⟨S8x4x4096x256, .f32⟩
  | 11 => ⟨S8x4x4096x256, .f32⟩
  | 12 => ⟨S8x4096x4x256, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S8x4096x1024, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_call0_cst : Ref sig .tc := ⟨.hbm, 25, rfl⟩
abbrev main_call0_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v27 : Ref sig .tc := ⟨.hbm, 48, rfl⟩
abbrev main_v28 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_1 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_c_3 : Ref sig .tc := ⟨.hbm, 67, rfl⟩
abbrev main_v40_0 : Ref sig .tc := ⟨.hbm, 68, rfl⟩
abbrev main_v40_1 : Ref sig .tc := ⟨.hbm, 69, rfl⟩
abbrev main_v40_2 : Ref sig .tc := ⟨.hbm, 70, rfl⟩
abbrev main_v40_3 : Ref sig .tc := ⟨.hbm, 71, rfl⟩
abbrev main_v40_4 : Ref sig .tc := ⟨.hbm, 72, rfl⟩
abbrev main_v40_5 : Ref sig .tc := ⟨.hbm, 73, rfl⟩
abbrev main_v40_6 : Ref sig .tc := ⟨.hbm, 74, rfl⟩
abbrev main_v40_7 : Ref sig .tc := ⟨.hbm, 75, rfl⟩
abbrev main_while0c_c_17 : Ref sig .tc := ⟨.hbm, 76, rfl⟩
abbrev main_while0c_v75 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v75 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v76 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v77 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_call6_c_2 : Ref sig .tc := ⟨.hbm, 99, rfl⟩
abbrev main_while0b_call6_v0 : Ref sig .tc := ⟨.hbm, 100, rfl⟩
abbrev main_while0b_v78 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_c_1 : Ref sig .tc := ⟨.hbm, 104, rfl⟩
abbrev main_while0b_call7_v0 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_call8_v0 : Ref sig .tc := ⟨.hbm, 114, rfl⟩
abbrev main_while0b_call8_c : Ref sig .tc := ⟨.hbm, 115, rfl⟩
abbrev main_while0b_call8_c_0 : Ref sig .tc := ⟨.hbm, 116, rfl⟩
abbrev main_while0b_call8_c_1 : Ref sig .tc := ⟨.hbm, 117, rfl⟩
abbrev main_while0b_call8_c_2 : Ref sig .tc := ⟨.hbm, 118, rfl⟩
abbrev main_while0b_v87 : Ref sig .tc := ⟨.hbm, 119, rfl⟩
abbrev main_while0b_c_17 : Ref sig .tc := ⟨.hbm, 120, rfl⟩
abbrev main_while0b_v88 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_cst_4 : Ref sig .tc := ⟨.hbm, 125, rfl⟩
abbrev main_v44 : Ref sig .tc := ⟨.hbm, 126, rfl⟩
abbrev main_v45 : Ref sig .tc := ⟨.hbm, 127, rfl⟩
abbrev main_cst_5 : Ref sig .tc := ⟨.hbm, 128, rfl⟩
abbrev main_v46 : Ref sig .tc := ⟨.hbm, 129, rfl⟩
abbrev main_v47 : Ref sig .tc := ⟨.hbm, 130, rfl⟩
abbrev main_cst_6 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_cst_7 : Ref sig .tc := ⟨.hbm, 146, rfl⟩
abbrev main_v62 : Ref sig .tc := ⟨.hbm, 147, rfl⟩
abbrev main_v63 : Ref sig .tc := ⟨.hbm, 148, rfl⟩
abbrev main_cst_8 : Ref sig .tc := ⟨.hbm, 149, rfl⟩
abbrev main_v64 : Ref sig .tc := ⟨.hbm, 150, rfl⟩
abbrev main_v65 : Ref sig .tc := ⟨.hbm, 151, rfl⟩
abbrev main_cst_9 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩

abbrev nD : Nat := 1
abbrev τ : Topo := Topo.v7x

variable {F : FTy → Type} [FloatOps F]

abbrev main_while0_count : Scf.Loop 32 := ⟨0#32, 64#32, 1#32⟩
-- ==== Out.lean ====
abbrev S8x4096x1024 : Shape := ⟨3, ![8, 4096, 1024]⟩
abbrev S1024 : Shape := ⟨1, ![1024]⟩
abbrev S1024x1024 : Shape := ⟨2, ![1024, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .f32⟩
  | .hbm, ⟨3, _⟩ => ⟨S1024, .f32⟩
  | .hbm, ⟨4, _⟩ => ⟨S1024x1024, .f32⟩
  | .hbm, ⟨5, _⟩ => ⟨S32768x1024, .bf16⟩
  | .hbm, ⟨6, _⟩ => ⟨S32768x1024, .bf16⟩
  | .hbm, ⟨7, _⟩ => ⟨S32768x1024, .f32⟩
  | .hbm, ⟨8, _⟩ => ⟨S1x1024, .f32⟩
  | .hbm, ⟨9, _⟩ => ⟨S1024x1024, .bf16⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8x4096x1024 : Shape := ⟨3, ![8, 4096, 1024]⟩
abbrev S1024 : Shape := ⟨1, ![1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .f32⟩
  | .hbm, ⟨3, _⟩ => ⟨S1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== GlaProj.lean ====
abbrev S8x4096x1024 : Shape := ⟨3, ![8, 4096, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S32768x1024 : Shape := ⟨2, ![32768, 1024]⟩
abbrev S1024x2048 : Shape := ⟨2, ![1024, 2048]⟩
abbrev S1024x1024 : Shape := ⟨2, ![1024, 1024]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x1024 : Shape := ⟨2, ![1, 1024]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S1024x512 : Shape := ⟨2, ![1024, 512]⟩
abbrev S512x128 : Shape := ⟨2, ![512, 128]⟩

abbrev nBuf : Space → Nat
  | .hbm => 26
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S32768x1024, .f32⟩
  | .hbm, ⟨6, _⟩ => ⟨S1024x2048, .f32⟩
  | .hbm, ⟨7, _⟩ => ⟨S1024x1024, .f32⟩
  | .hbm, ⟨8, _⟩ => ⟨S1024x3072, .f32⟩
  | .hbm, ⟨9, _⟩ => ⟨S1024x3072, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S_, .i32⟩
  | .hbm, ⟨16, _⟩ => ⟨S_, .f32⟩
  | .hbm, ⟨17, _⟩ => ⟨S128x512, .f32⟩
  | .hbm, ⟨18, _⟩ => ⟨S128x512, .bf16⟩
  | .hbm, ⟨19, _⟩ => ⟨S1x1024, .f32⟩
  | .hbm, ⟨20, _⟩ => ⟨S1x512, .f32⟩
  | .hbm, ⟨21, _⟩ => ⟨S32768x512, .f32⟩
  | .hbm, ⟨22, _⟩ => ⟨S32768x512, .f32⟩
  | .hbm, ⟨23, _⟩ => ⟨S32768x1024, .bf16⟩
  | .hbm, ⟨24, _⟩ => ⟨S32768x512, .f32⟩
  | .hbm, ⟨25, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | .local _ .vmem, ⟨16, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlaProjReferenceIdeal.lean ====
abbrev S8x4096x1024 : Shape := ⟨3, ![8, 4096, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3088 : Shape := ⟨3, ![8, 4096, 3088]⟩
abbrev S8x4096x512 : Shape := ⟨3, ![8, 4096, 512]⟩
abbrev S8x4096x16 : Shape := ⟨3, ![8, 4096, 16]⟩
abbrev S1x1x512 : Shape := ⟨3, ![1, 1, 512]⟩
abbrev S32768x512 : Shape := ⟨2, ![32768, 512]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3088, .f32⟩
  | .hbm, ⟨22, _⟩ => ⟨S8x4096x512, .f32⟩
  | .hbm, ⟨23, _⟩ => ⟨S8x4096x512, .f32⟩
  | .hbm, ⟨24, _⟩ => ⟨S8x4096x1024, .f32⟩
  | .hbm, ⟨25, _⟩ => ⟨S8x4096x16, .f32⟩
  | .hbm, ⟨26, _⟩ => ⟨S8x4096x1024, .f32⟩
  | .hbm, ⟨27, _⟩ => ⟨S8x4096x512, .f32⟩
  | .hbm, ⟨28, _⟩ => ⟨S1x1x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x512, .i1⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S_, .f32⟩
  | .hbm, ⟨48, _⟩ => ⟨S8x4096x512, .f32⟩
  | .hbm, ⟨49, _⟩ => ⟨S8x4096x512, .f32⟩
  | .hbm, ⟨50, _⟩ => ⟨S32768x512, .f32⟩
  | .hbm, ⟨51, _⟩ => ⟨S32768x512, .f32⟩
  | .hbm, ⟨52, _⟩ => ⟨S32768x1024, .f32⟩
  | .hbm, ⟨53, _⟩ => ⟨S32768x1024, .bf16⟩
  | .hbm, ⟨54, _⟩ => ⟨S32768x512, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S32768x1024, .f32⟩
  | .hbm, ⟨65, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩

abbrev nD : Nat := 1
abbrev τ : Topo := Topo.v7x

variable {F : FTy → Type} [FloatOps F]
-- ==== NsaProj.lean ====
abbrev S8x4096x1024 : Shape := ⟨3, ![8, 4096, 1024]⟩
abbrev S8x4096 : Shape := ⟨2, ![8, 4096]⟩
abbrev S1024 : Shape := ⟨1, ![1024]⟩
abbrev S1024x3632 : Shape := ⟨2, ![1024, 3632]⟩
abbrev S48 : Shape := ⟨1, ![48]⟩
abbrev S1024x2560 : Shape := ⟨2, ![1024, 2560]⟩
abbrev S1024x1024 : Shape := ⟨2, ![1024, 1024]⟩
abbrev S1024x3584 : Shape := ⟨2, ![1024, 3584]⟩
abbrev S1024x48 : Shape := ⟨2, ![1024, 48]⟩
abbrev S1024x4x12 : Shape := ⟨3, ![1024, 4, 12]⟩
abbrev S_ : Shape := ⟨0, ![]⟩
abbrev S1024x4x16 : Shape := ⟨3, ![1024, 4, 16]⟩
abbrev S1024x64 : Shape := ⟨2, ![1024, 64]⟩
abbrev S1024x128 : Shape := ⟨2, ![1024, 128]⟩
abbrev S4x12 : Shape := ⟨2, ![4, 12]⟩
abbrev S4x16 : Shape := ⟨2, ![4, 16]⟩
abbrev S64 : Shape := ⟨1, ![64]⟩
abbrev S128 : Shape := ⟨1, ![128]⟩
abbrev S1x128 : Shape := ⟨2, ![1, 128]⟩
abbrev S32 : Shape := ⟨1, ![32]⟩
abbrev S1x32 : Shape := ⟨2, ![1, 32]⟩
abbrev S4x32 : Shape := ⟨2, ![4, 32]⟩
abbrev S8x4096x1 : Shape := ⟨3, ![8, 4096, 1]⟩
abbrev S1x1024 : Shape := ⟨2, ![1, 1024]⟩
abbrev S8x4096x256 : Shape := ⟨3, ![8, 4096, 256]⟩
abbrev S8x4x16x256x128 : Shape := ⟨5, ![8, 4, 16, 256, 128]⟩
abbrev S8x4x16x80x256 : Shape := ⟨5, ![8, 4, 16, 80, 256]⟩
abbrev S8x4x16x4096 : Shape := ⟨4, ![8, 4, 16, 4096]⟩
abbrev S1x512x1024 : Shape := ⟨3, ![1, 512, 1024]⟩
abbrev S1x512x1 : Shape := ⟨3, ![1, 512, 1]⟩
abbrev S1x512x256 : Shape := ⟨3, ![1, 512, 256]⟩
abbrev S1x4x2x256x128 : Shape := ⟨5, ![1, 4, 2, 256, 128]⟩
abbrev S1x4x2x80x256 : Shape := ⟨5, ![1, 4, 2, 80, 256]⟩
abbrev S1x4x16x512 : Shape := ⟨4, ![1, 4, 16, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S16x256 : Shape := ⟨2, ![16, 256]⟩
abbrev S512x128 : Shape := ⟨2, ![512, 128]⟩
abbrev S128x512 : Shape := ⟨2, ![128, 512]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S16x512 : Shape := ⟨2, ![16, 512]⟩
abbrev S1x1x16x512 : Shape := ⟨4, ![1, 1, 16, 512]⟩
abbrev S1x512x128 : Shape := ⟨3, ![1, 512, 128]⟩
abbrev S256x128 : Shape := ⟨2, ![256, 128]⟩
abbrev S1x1x1x256x128 : Shape := ⟨5, ![1, 1, 1, 256, 128]⟩

abbrev nBuf : Space → Nat
  | .hbm => 90
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x3632, .f32⟩
  | .hbm, ⟨4, _⟩ => ⟨S48, .f32⟩
  | .hbm, ⟨5, _⟩ => ⟨S1024x2560, .f32⟩
  | .hbm, ⟨6, _⟩ => ⟨S1024x1024, .f32⟩
  | .hbm, ⟨7, _⟩ => ⟨S1024x3584, .f32⟩
  | .hbm, ⟨8, _⟩ => ⟨S1024x3584, .bf16⟩
  | .hbm, ⟨9, _⟩ => ⟨S1024x48, .f32⟩
  | .hbm, ⟨10, _⟩ => ⟨S1024x4x12, .f32⟩
  | .hbm, ⟨11, _⟩ => ⟨S_, .i32⟩
  | .hbm, ⟨12, _⟩ => ⟨S_, .f32⟩
  | .hbm, ⟨13, _⟩ => ⟨S1024x4x16, .f32⟩
  | .hbm, ⟨14, _⟩ => ⟨S1024x64, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S4x12, .f32⟩
  | .hbm, ⟨20, _⟩ => ⟨S_, .i32⟩
  | .hbm, ⟨21, _⟩ => ⟨S_, .f32⟩
  | .hbm, ⟨22, _⟩ => ⟨S4x16, .f32⟩
  | .hbm, ⟨23, _⟩ => ⟨S64, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S1x32, .f32⟩
  | .hbm, ⟨43, _⟩ => ⟨S4x32, .f32⟩
  | .hbm, ⟨44, _⟩ => ⟨S128, .f32⟩
  | .hbm, ⟨45, _⟩ => ⟨S1x128, .f32⟩
  | .hbm, ⟨46, _⟩ => ⟨S128, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S_, .i1⟩
  | .hbm, ⟨63, _⟩ => ⟨S128, .i1⟩
  | .hbm, ⟨64, _⟩ => ⟨S128, .i1⟩
  | .hbm, ⟨65, _⟩ => ⟨S128, .i1⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S_, .i32⟩
  | .hbm, ⟨70, _⟩ => ⟨S128, .i32⟩
  | .hbm, ⟨71, _⟩ => ⟨S128, .i1⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S8x4096x1, .i32⟩
  | .hbm, ⟨80, _⟩ => ⟨S1x1024, .f32⟩
  | .hbm, ⟨81, _⟩ => ⟨S8x4096x1024, .bf16⟩
  | .hbm, ⟨82, _⟩ => ⟨S8x4096x256, .f32⟩
  | .hbm, ⟨83, _⟩ => ⟨S8x4096x256, .f32⟩
  | .hbm, ⟨84, _⟩ => ⟨S8x4x16x256x128, .bf16⟩
  | .hbm, ⟨85, _⟩ => ⟨S8x4x16x256x128, .bf16⟩
  | .hbm, ⟨86, _⟩ => ⟨S8x4x16x80x256, .bf16⟩
  | .hbm, ⟨87, _⟩ => ⟨S8x4x16x80x256, .bf16⟩
  | .hbm, ⟨88, _⟩ => ⟨S8x4x16x4096, .f32⟩
  | .hbm, ⟨89, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x3584, .bf16⟩
  | .local _ .vmem, ⟨8, _⟩ => ⟨S1024x128, .bf16⟩
  | .local _ .vmem, ⟨9, _⟩ => ⟨S1x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x4x2x256x128, .bf16⟩
  | .local _ .vmem, ⟨17, _⟩ => ⟨S1x4x2x256x128, .bf16⟩
  | .local _ .vmem, ⟨18, _⟩ => ⟨S1x4x2x256x128, .bf16⟩
  | .local _ .vmem, ⟨19, _⟩ => ⟨S1x4x2x256x128, .bf16⟩
  | .local _ .vmem, ⟨20, _⟩ => ⟨S1x4x2x80x256, .bf16⟩
  | .local _ .vmem, ⟨21, _⟩ => ⟨S1x4x2x80x256, .bf16⟩
  | .local _ .vmem, ⟨22, _⟩ => ⟨S1x4x2x80x256, .bf16⟩
  | .local _ .vmem, ⟨23, _⟩ => ⟨S1x4x2x80x256, .bf16⟩
  | .local _ .vmem, ⟨24, _⟩ => ⟨S1x4x16x512, .f32⟩
  | .local _ .vmem, ⟨25, _⟩ => ⟨S1x4x16x512, .f32⟩
  | .local _ .vmem, ⟨26, _⟩ => ⟨S1x512x1024, .bf16⟩
  | .local _ .vmem, ⟨27, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call4_v0 : Ref sig .tc := ⟨.hbm, 48, rfl⟩
abbrev main_call4_c : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_c_1 : Ref sig .tc := ⟨.hbm, 55, rfl⟩
abbrev main_call4_v5 : Ref sig .tc := ⟨.hbm, 56, rfl⟩
abbrev main_call4_v6 : Ref sig .tc := ⟨.hbm, 57, rfl⟩
abbrev main_call4_c_2 : Ref sig .tc := ⟨.hbm, 58, rfl⟩
abbrev main_call4_v7 : Ref sig .tc := ⟨.hbm, 59, rfl⟩
abbrev main_call4_v8 : Ref sig .tc := ⟨.hbm, 60, rfl⟩
abbrev main_call4_c_3 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_v12 : Ref sig .tc := ⟨.hbm, 65, rfl⟩
abbrev main_call4_v13 : Ref sig .tc := ⟨.hbm, 66, rfl⟩
abbrev main_call4_v14 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_cst_8 : Ref sig .tc := ⟨.hbm, 72, rfl⟩
abbrev main_cst_9 : Ref sig .tc := ⟨.hbm, 73, rfl⟩
abbrev main_call5_v0 : Ref sig .tc := ⟨.hbm, 74, rfl⟩
abbrev main_call5_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38_0 : Ref sig .tc := ⟨.hbm, 81, rfl⟩
abbrev main_v38_1 : Ref sig .tc := ⟨.hbm, 82, rfl⟩
abbrev main_v38_2 : Ref sig .tc := ⟨.hbm, 83, rfl⟩
abbrev main_v38_3 : Ref sig .tc := ⟨.hbm, 84, rfl⟩
abbrev main_v38_4 : Ref sig .tc := ⟨.hbm, 85, rfl⟩
abbrev main_v38_5 : Ref sig .tc := ⟨.hbm, 86, rfl⟩
abbrev main_v38_6 : Ref sig .tc := ⟨.hbm, 87, rfl⟩
abbrev main_v38_7 : Ref sig .tc := ⟨.hbm, 88, rfl⟩
abbrev main_v38_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x2x80x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x80x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== NsaProjReferenceIdeal.lean ====
abbrev S8x4096x1024 : Shape := ⟨3, ![8, 4096, 1024]⟩
abbrev S8x4096 : Shape := ⟨2, ![8, 4096]⟩
abbrev S1024 : Shape := ⟨1, ![1024]⟩
abbrev S1024x3632 : Shape := ⟨2, ![1024, 3632]⟩
abbrev S48 : Shape := ⟨1, ![48]⟩
abbrev S_ : Shape := ⟨0, ![]⟩
abbrev S8x4096x1 : Shape := ⟨3, ![8, 4096, 1]⟩
abbrev S1x1x1024 : Shape := ⟨3, ![1, 1, 1024]⟩
abbrev S8x4096x3632 : Shape := ⟨3, ![8, 4096, 3632]⟩
abbrev S8x4096x256 : Shape := ⟨3, ![8, 4096, 256]⟩
abbrev S8x4096x48 : Shape := ⟨3, ![8, 4096, 48]⟩
abbrev S8x4096x16x64 : Shape := ⟨4, ![8, 4096, 16, 64]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x16x32 : Shape := ⟨4, ![8, 4096, 16, 32]⟩
abbrev S8x4096x4x64 : Shape := ⟨4, ![8, 4096, 4, 64]⟩
abbrev S8x4096x4x32 : Shape := ⟨4, ![8, 4096, 4, 32]⟩
abbrev S1x1x48 : Shape := ⟨3, ![1, 1, 48]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x1x16x256x64 : Shape := ⟨5, ![1, 1, 16, 256, 64]⟩
abbrev S8x4x4096x64 : Shape := ⟨4, ![8, 4, 4096, 64]⟩
abbrev S8x4x16x256x64 : Shape := ⟨5, ![8, 4, 16, 256, 64]⟩
abbrev S8x4x16x256x128 : Shape := ⟨5, ![8, 4, 16, 256, 128]⟩
abbrev S8x4096x4x12 : Shape := ⟨4, ![8, 4096, 4, 12]⟩
abbrev S8x4096x4x16 : Shape := ⟨4, ![8, 4096, 4, 16]⟩
abbrev S8x4x16x64x256 : Shape := ⟨5, ![8, 4, 16, 64, 256]⟩
abbrev S8x4x16x16x256 : Shape := ⟨5, ![8, 4, 16, 16, 256]⟩
abbrev S8x4x16x80x256 : Shape := ⟨5, ![8, 4, 16, 80, 256]⟩
abbrev S8x4x16x4096 : Shape := ⟨4, ![8, 4, 16, 4096]⟩

abbrev nBuf : Space → Nat
  | .hbm => 271
  | .vmem => 0
  | .smem => 0
  | _ => 0

abbrev hbmTy0_0 (i : Nat) : BufTy := match i % 128 with
  | 0 => ⟨S8x4096x1024, .f32⟩
  | 1 => ⟨S8x4096, .i32⟩
  | 2 => ⟨S1024, .f32⟩
  | 3 => ⟨S1024x3632, .f32⟩
  | 4 => ⟨S48, .f32⟩
  | 5 => ⟨S8x4096x1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x3632, .f32⟩
  | 22 => ⟨S8x4096x1024, .f32⟩
  | 23 => ⟨S8x4096x256, .f32⟩
  | 24 => ⟨S8x4096x256, .f32⟩
  | 25 => ⟨S8x4096x256, .f32⟩
  | 26 => ⟨S8x4096x256, .f32⟩
  | 27 => ⟨S8x4096x256, .f32⟩
  | 28 => ⟨S8x4096x256, .f32⟩
  | 29 => ⟨S8x4096x48, .f32⟩
  | 30 => ⟨S8x4096x1024, .f32⟩
  | 31 => ⟨S8x4096x16x64, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S8x4096, .f32⟩
  | 47 => ⟨S8x4096x1, .f32⟩
  | 48 => ⟨S1x1x32, .f32⟩
  | 49 => ⟨S8x4096x32, .f32⟩
  | 50 => ⟨S8x4096x32, .f32⟩
  | 51 => ⟨S8x4096x32, .f32⟩
  | 52 => ⟨S8x4096x32, .f32⟩
  | 53 => ⟨S8x4096x1x32, .f32⟩
  | 54 => ⟨S8x4096x32, .f32⟩
  | 55 => ⟨S8x4096x1x32, .f32⟩
  | 56 => ⟨S8x4096x16x32, .f32⟩
  | 57 => ⟨S8x4096x16x32, .f32⟩
  | 58 => ⟨S8x4096x16x32, .f32⟩
  | 59 => ⟨S8x4096x16x32, .f32⟩
  | 60 => ⟨S8x4096x16x32, .f32⟩
  | 61 => ⟨S8x4096x16x32, .f32⟩
  | 62 => ⟨S8x4096x16x32, .f32⟩
  | 63 => ⟨S8x4096x16x32, .f32⟩
  | 64 => ⟨S8x4096x16x32, .f32⟩
  | 65 => ⟨S8x4096x16x32, .f32⟩
  | 66 => ⟨S8x4096x16x32, .f32⟩
  | 67 => ⟨S8x4096x16x32, .f32⟩
  | 68 => ⟨S8x4096x16x64, .f32⟩
  | 69 => ⟨S_, .f32⟩
  | 70 => ⟨S8x4096x16x64, .f32⟩
  | 71 => ⟨S8x4096x16x64, .f32⟩
  | 72 => ⟨S8x4096x4x64, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S8x4096, .f32⟩
  | 88 => ⟨S8x4096x1, .f32⟩
  | 89 => ⟨S1x1x32, .f32⟩
  | 90 => ⟨S8x4096x32, .f32⟩
  | 91 => ⟨S8x4096x32, .f32⟩
  | 92 => ⟨S8x4096x32, .f32⟩
  | 93 => ⟨S8x4096x32, .f32⟩
  | 94 => ⟨S8x4096x1x32, .f32⟩
  | 95 => ⟨S8x4096x32, .f32⟩
  | 96 => ⟨S8x4096x1x32, .f32⟩
  | 97 => ⟨S8x4096x4x32, .f32⟩
  | 98 => ⟨S8x4096x4x32, .f32⟩
  | 99 => ⟨S8x4096x4x32, .f32⟩
  | 100 => ⟨S8x4096x4x32, .f32⟩
  | 101 => ⟨S8x4096x4x32, .f32⟩
  | 102 => ⟨S8x4096x4x32, .f32⟩
  | 103 => ⟨S8x4096x4x32, .f32⟩
  | 104 => ⟨S8x4096x4x32, .f32⟩
  | 105 => ⟨S8x4096x4x32, .f32⟩
  | 106 => ⟨S8x4096x4x32, .f32⟩
  | 107 => ⟨S8x4096x4x32, .f32⟩
  | 108 => ⟨S8x4096x4x32, .f32⟩
  | 109 => ⟨S8x4096x4x64, .f32⟩
  | 110 => ⟨S8x4096x4x64, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S8x4096, .f32⟩
  | 126 => ⟨S8x4096x1, .f32⟩
  | 127 => ⟨S1x1x32, .f32⟩
  | _ => ⟨S8x4096x1024, .f32⟩

abbrev hbmTy0_1 (i : Nat) : BufTy := match i % 128 with
  | 0 => ⟨S8x4096x32, .f32⟩
  | 1 => ⟨S8x4096x32, .f32⟩
  | 2 => ⟨S8x4096x32, .f32⟩
  | 3 => ⟨S8x4096x32, .f32⟩
  | 4 => ⟨S8x4096x1x32, .f32⟩
  | 5 => ⟨S8x4096x32, .f32⟩
  | 6 => ⟨S8x4096x1x32, .f32⟩
  | 7 => ⟨S8x4096x4x32, .f32⟩
  | 8 => ⟨S8x4096x4x32, .f32⟩
  | 9 => ⟨S8x4096x4x32, .f32⟩
  | 10 => ⟨S8x4096x4x32, .f32⟩
  | 11 => ⟨S8x4096x4x32, .f32⟩
  | 12 => ⟨S8x4096x4x32, .f32⟩
  | 13 => ⟨S8x4096x4x32, .f32⟩
  | 14 => ⟨S8x4096x4x32, .f32⟩
  | 15 => ⟨S8x4096x4x32, .f32⟩
  | 16 => ⟨S8x4096x4x32, .f32⟩
  | 17 => ⟨S8x4096x4x32, .f32⟩
  | 18 => ⟨S8x4096x4x32, .f32⟩
  | 19 => ⟨S8x4096x4x64, .f32⟩
  | 20 => ⟨S8x4096x4x64, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S8x4096, .f32⟩
  | 36 => ⟨S8x4096x1, .f32⟩
  | 37 => ⟨S1x1x32, .f32⟩
  | 38 => ⟨S8x4096x32, .f32⟩
  | 39 => ⟨S8x4096x32, .f32⟩
  | 40 => ⟨S8x4096x32, .f32⟩
  | 41 => ⟨S8x4096x32, .f32⟩
  | 42 => ⟨S8x4096x1x32, .f32⟩
  | 43 => ⟨S8x4096x32, .f32⟩
  | 44 => ⟨S8x4096x1x32, .f32⟩
  | 45 => ⟨S8x4096x4x32, .f32⟩
  | 46 => ⟨S8x4096x4x32, .f32⟩
  | 47 => ⟨S8x4096x4x32, .f32⟩
  | 48 => ⟨S8x4096x4x32, .f32⟩
  | 49 => ⟨S8x4096x4x32, .f32⟩
  | 50 => ⟨S8x4096x4x32, .f32⟩
  | 51 => ⟨S8x4096x4x32, .f32⟩
  | 52 => ⟨S8x4096x4x32, .f32⟩
  | 53 => ⟨S8x4096x4x32, .f32⟩
  | 54 => ⟨S8x4096x4x32, .f32⟩
  | 55 => ⟨S8x4096x4x32, .f32⟩
  | 56 => ⟨S8x4096x4x32, .f32⟩
  | 57 => ⟨S8x4096x4x64, .f32⟩
  | 58 => ⟨S1x1x48, .f32⟩
  | 59 => ⟨S8x4096x48, .f32⟩
  | 60 => ⟨S8x4096x48, .f32⟩
  | 61 => ⟨S8x4096x48, .f32⟩
  | 62 => ⟨S8x4096x48, .f32⟩
  | 63 => ⟨S_, .f32⟩
  | 64 => ⟨S8x4096x48, .f32⟩
  | 65 => ⟨S8x4096x48, .f32⟩
  | 66 => ⟨S_, .f32⟩
  | 67 => ⟨S8x4096x48, .f32⟩
  | 68 => ⟨S8x4096x48, .f32⟩
  | 69 => ⟨S8x4096x1024, .f32⟩
  | 70 => ⟨S_, .f32⟩
  | 71 => ⟨S8x4096x1024, .f32⟩
  | 72 => ⟨S8x4096x1024, .f32⟩
  | 73 => ⟨S4096, .i32⟩
  | 74 => ⟨S_, .i32⟩
  | 75 => ⟨S_, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i1⟩
  | 82 => ⟨S4096, .i32⟩
  | 83 => ⟨S4096, .i32⟩
  | 84 => ⟨S_, .i32⟩
  | 85 => ⟨S4096, .i32⟩
  | 86 => ⟨S4096, .i1⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S1x64, .i32⟩
  | 94 => ⟨S4096x64, .i32⟩
  | 95 => ⟨S4096x64, .i32⟩
  | 96 => ⟨S4096x64, .i1⟩
  | 97 => ⟨S4096x64, .f32⟩
  | 98 => ⟨S1x1x16x256x64, .f32⟩
  | 99 => ⟨S8x4x4096x64, .f32⟩
  | 100 => ⟨S8x4x16x256x64, .f32⟩
  | 101 => ⟨S8x4x16x256x64, .f32⟩
  | 102 => ⟨S8x4x16x256x128, .f32⟩
  | 103 => ⟨S8x4x4096x64, .f32⟩
  | 104 => ⟨S8x4x16x256x64, .f32⟩
  | 105 => ⟨S_, .f32⟩
  | 106 => ⟨S8x4x16x256x64, .f32⟩
  | 107 => ⟨S8x4x16x256x128, .f32⟩
  | 108 => ⟨S8x4096x4x12, .f32⟩
  | 109 => ⟨S_, .f32⟩
  | 110 => ⟨S_, .f32⟩
  | 111 => ⟨S8x4096x4x16, .f32⟩
  | 112 => ⟨S8x4096x1024, .bf16⟩
  | 113 => ⟨S8x4096x256, .f32⟩
  | 114 => ⟨S8x4x16x256x128, .bf16⟩
  | 115 => ⟨S8x4x16x256x128, .bf16⟩
  | 116 => ⟨S8x4096x4x64, .f32⟩
  | 117 => ⟨S8x4x4096x64, .f32⟩
  | 118 => ⟨S8x4x16x256x64, .f32⟩
  | 119 => ⟨S8x4x16x64x256, .f32⟩
  | 120 => ⟨S_, .f32⟩
  | 121 => ⟨S8x4x16x16x256, .f32⟩
  | 122 => ⟨S8x4x16x80x256, .f32⟩
  | 123 => ⟨S8x4x16x80x256, .bf16⟩
  | 124 => ⟨S8x4096x4x64, .f32⟩
  | 125 => ⟨S8x4x4096x64, .f32⟩
  | 126 => ⟨S8x4x16x256x64, .f32⟩
  | 127 => ⟨S8x4x16x64x256, .f32⟩
  | _ => ⟨S8x4096x1024, .f32⟩

abbrev hbmTy0_2 (i : Nat) : BufTy := match i % 128 with
  | 0 => ⟨S_, .f32⟩
  | 1 => ⟨S8x4x16x16x256, .f32⟩
  | 2 => ⟨S8x4x16x80x256, .f32⟩
  | 3 => ⟨S8x4x16x80x256, .bf16⟩
  | 4 => ⟨S8x4x16x4096, .f32⟩
  | 5 => ⟨S8x4096x1024, .f32⟩
  | 6 => ⟨S8x4096x1024, .f32⟩
  | 7 => ⟨S_, .f32⟩
  | 8 => ⟨S8x4096x1024, .f32⟩
  | 9 => ⟨S8x4096x1024, .f32⟩
  | 10 => ⟨S_, .f32⟩
  | 11 => ⟨S8x4096x1024, .f32⟩
  | 12 => ⟨S8x4096x1024, .f32⟩
  | 13 => ⟨S8x4096x1024, .f32⟩
  | 14 => ⟨S8x4096x1024, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_13 : Ref sig .tc := ⟨.hbm, 119, rfl⟩
abbrev main_v100 : Ref sig .tc := ⟨.hbm, 120, rfl⟩
abbrev main_v101 : Ref sig .tc := ⟨.hbm, 121, rfl⟩
abbrev main_cst_14 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_15 : Ref sig .tc := ⟨.hbm, 150, rfl⟩
abbrev main_v129 : Ref sig .tc := ⟨.hbm, 151, rfl⟩
abbrev main_v130 : Ref sig .tc := ⟨.hbm, 152, rfl⟩
abbrev main_cst_16 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_17 : Ref sig .tc := ⟨.hbm, 157, rfl⟩
abbrev main_v134 : Ref sig .tc := ⟨.hbm, 158, rfl⟩
abbrev main_v135 : Ref sig .tc := ⟨.hbm, 159, rfl⟩
abbrev main_cst_18 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_19 : Ref sig .tc := ⟨.hbm, 191, rfl⟩
abbrev main_v166 : Ref sig .tc := ⟨.hbm, 192, rfl⟩
abbrev main_v167 : Ref sig .tc := ⟨.hbm, 193, rfl⟩
abbrev main_cst_20 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_cst_21 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_c : Ref sig .tc := ⟨.hbm, 202, rfl⟩
abbrev main_call0_v0 : Ref sig .tc := ⟨.hbm, 203, rfl⟩
abbrev main_call0_v1 : Ref sig .tc := ⟨.hbm, 204, rfl⟩
abbrev main_call0_v2 : Ref sig .tc := ⟨.hbm, 205, rfl⟩
abbrev main_call0_v3 : Ref sig .tc := ⟨.hbm, 206, rfl⟩
abbrev main_call0_v4 : Ref sig .tc := ⟨.hbm, 207, rfl⟩
abbrev main_call0_v5 : Ref sig .tc := ⟨.hbm, 208, rfl⟩
abbrev main_call0_v6 : Ref sig .tc := ⟨.hbm, 209, rfl⟩
abbrev main_call0_v7 : Ref sig .tc := ⟨.hbm, 210, rfl⟩
abbrev main_call0_v8 : Ref sig .tc := ⟨.hbm, 211, rfl⟩
abbrev main_call0_c : Ref sig .tc := ⟨.hbm, 212, rfl⟩
abbrev main_call0_v9 : Ref sig .tc := ⟨.hbm, 213, rfl⟩
abbrev main_call0_v10 : Ref sig .tc := ⟨.hbm, 214, rfl⟩
abbrev main_call0_v11 : Ref sig .tc := ⟨.hbm, 215, rfl⟩
abbrev main_call0_c_0 : Ref sig .tc := ⟨.hbm, 216, rfl⟩
abbrev main_call0_v12 : Ref sig .tc := ⟨.hbm, 217, rfl⟩
abbrev main_call0_v13 : Ref sig .tc := ⟨.hbm, 218, rfl⟩
abbrev main_v174 : Ref sig .tc := ⟨.hbm, 219, rfl⟩
abbrev main_call1_v0 : Ref sig .tc := ⟨.hbm, 220, rfl⟩
abbrev main_call1_v1 : Ref sig .tc := ⟨.hbm, 221, rfl⟩
abbrev main_call1_v2 : Ref sig .tc := ⟨.hbm, 222, rfl⟩
abbrev main_call1_v3 : Ref sig .tc := ⟨.hbm, 223, rfl⟩
abbrev main_call1_v4 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_22 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_23 : Ref sig .tc := ⟨.hbm, 237, rfl⟩
abbrev main_call2_v0 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_24 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_25 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_call3_v0 : Ref sig .tc := ⟨.hbm, 261, rfl⟩
abbrev main_call3_v1 : Ref sig .tc := ⟨.hbm, 262, rfl⟩
abbrev main_call3_cst : Ref sig .tc := ⟨.hbm, 263, rfl⟩
abbrev main_call3_v2 : Ref sig .tc := ⟨.hbm, 264, rfl⟩
abbrev main_call3_v3 : Ref sig .tc := ⟨.hbm, 265, rfl⟩
abbrev main_call3_cst_0 : Ref sig .tc := ⟨.hbm, 266, rfl⟩
abbrev main_call3_v4 : Ref sig .tc := ⟨.hbm, 267, rfl⟩
abbrev main_call3_v5 : Ref sig .tc := ⟨.hbm, 268, rfl⟩
abbrev main_v206 : Ref sig .tc := ⟨.hbm, 269, rfl⟩
abbrev main_v207 : Ref sig .tc := ⟨.hbm, 270, rfl⟩

abbrev nD : Nat := 1
abbrev τ : Topo := Topo.v7x

variable {F : FTy → Type} [FloatOps F]
-- ==== Compress.lean ====
abbrev S8x4096x256 : Shape := ⟨3, ![8, 4096, 256]⟩
abbrev S32x64 : Shape := ⟨2, ![32, 64]⟩
abbrev S2048x256 : Shape := ⟨2, ![2048, 256]⟩
abbrev S256x64 : Shape := ⟨2, ![256, 64]⟩
abbrev S8x256x4096 : Shape := ⟨3, ![8, 256, 4096]⟩
abbrev S1x2048 : Shape := ⟨2, ![1, 2048]⟩
abbrev S_ : Shape := ⟨0, ![]⟩
abbrev S8x2048 : Shape := ⟨2, ![8, 2048]⟩
abbrev S2x16x64x256 : Shape := ⟨4, ![2, 16, 64, 256]⟩
abbrev S1x16x64x256 : Shape := ⟨4, ![1, 16, 64, 256]⟩
abbrev S16x64x256 : Shape := ⟨3, ![16, 64, 256]⟩
abbrev S16x64x512 : Shape := ⟨3, ![16, 64, 512]⟩
abbrev S8x4x256x64 : Shape := ⟨4, ![8, 4, 256, 64]⟩
abbrev S1x256x4096 : Shape := ⟨3, ![1, 256, 4096]⟩
abbrev S1x4x256x64 : Shape := ⟨4, ![1, 4, 256, 64]⟩
abbrev S8x256 : Shape := ⟨2, ![8, 256]⟩
abbrev S1x256 : Shape := ⟨2, ![1, 256]⟩
abbrev S256x512 : Shape := ⟨2, ![256, 512]⟩
abbrev S1x256x256 : Shape := ⟨3, ![1, 256, 256]⟩
abbrev S256x256 : Shape := ⟨2, ![256, 256]⟩
abbrev S1x64x512 : Shape := ⟨3, ![1, 64, 512]⟩
abbrev S64x512 : Shape := ⟨2, ![64, 512]⟩
abbrev S1x1x256x64 : Shape := ⟨4, ![1, 1, 256, 64]⟩

abbrev nBuf : Space → Nat
  | .hbm => 18
  | .vmem => 8
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S8x256x4096, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S8x2048, .f32⟩
  | .hbm, ⟨9, _⟩ => ⟨S2048x256, .bf16⟩
  | .hbm, ⟨10, _⟩ => ⟨S2x16x64x256, .bf16⟩
  | .hbm, ⟨11, _⟩ => ⟨S1x16x64x256, .bf16⟩
  | .hbm, ⟨12, _⟩ => ⟨S16x64x256, .bf16⟩
  | .hbm, ⟨13, _⟩ => ⟨S1x16x64x256, .bf16⟩
  | .hbm, ⟨14, _⟩ => ⟨S16x64x256, .bf16⟩
  | .hbm, ⟨15, _⟩ => ⟨S16x64x512, .bf16⟩
  | .hbm, ⟨16, _⟩ => ⟨S256x64, .bf16⟩
  | .hbm, ⟨17, _⟩ => ⟨S8x4x256x64, .f32⟩
  | .local _ .vmem, ⟨0, _⟩ => ⟨S1x256x4096, .f32⟩
  | .local _ .vmem, ⟨1, _⟩ => ⟨S1x256x4096, .f32⟩
  | .local _ .vmem, ⟨2, _⟩ => ⟨S8x2048, .f32⟩
  | .local _ .vmem, ⟨3, _⟩ => ⟨S2048x256, .bf16⟩
  | .local _ .vmem, ⟨4, _⟩ => ⟨S16x64x512, .bf16⟩
  | .local _ .vmem, ⟨5, _⟩ => ⟨S256x64, .bf16⟩
  | .local _ .vmem, ⟨6, _⟩ => ⟨S1x4x256x64, .f32⟩
  | .local _ .vmem, ⟨7, _⟩ => ⟨S1x4x256x64, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressReferenceIdeal.lean ====
abbrev S8x4096x256 : Shape := ⟨3, ![8, 4096, 256]⟩
abbrev S32x64 : Shape := ⟨2, ![32, 64]⟩
abbrev S2048x256 : Shape := ⟨2, ![2048, 256]⟩
abbrev S256x64 : Shape := ⟨2, ![256, 64]⟩
abbrev S8x256x16x4x64 : Shape := ⟨5, ![8, 256, 16, 4, 64]⟩
abbrev S8x255x16x4x64 : Shape := ⟨5, ![8, 255, 16, 4, 64]⟩
abbrev S8x1x16x4x64 : Shape := ⟨5, ![8, 1, 16, 4, 64]⟩
abbrev S8x256x32x4x64 : Shape := ⟨5, ![8, 256, 32, 4, 64]⟩
abbrev S1x1x32x1x64 : Shape := ⟨5, ![1, 1, 32, 1, 64]⟩
abbrev S8x4x256x32x64 : Shape := ⟨5, ![8, 4, 256, 32, 64]⟩
abbrev S8x4x256x2048 : Shape := ⟨4, ![8, 4, 256, 2048]⟩
abbrev S8x4x256x256 : Shape := ⟨4, ![8, 4, 256, 256]⟩
abbrev S_ : Shape := ⟨0, ![]⟩
abbrev S8x4x256x64 : Shape := ⟨4, ![8, 4, 256, 64]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S8x256x16x4x64, .f32⟩
  | .hbm, ⟨5, _⟩ => ⟨S8x255x16x4x64, .f32⟩
  | .hbm, ⟨6, _⟩ => ⟨S8x1x16x4x64, .f32⟩
  | .hbm, ⟨7, _⟩ => ⟨S8x256x16x4x64, .f32⟩
  | .hbm, ⟨8, _⟩ => ⟨S8x256x32x4x64, .f32⟩
  | .hbm, ⟨9, _⟩ => ⟨S1x1x32x1x64, .f32⟩
  | .hbm, ⟨10, _⟩ => ⟨S8x256x32x4x64, .f32⟩
  | .hbm, ⟨11, _⟩ => ⟨S8x256x32x4x64, .f32⟩
  | .hbm, ⟨12, _⟩ => ⟨S8x4x256x32x64, .f32⟩
  | .hbm, ⟨13, _⟩ => ⟨S8x4x256x2048, .f32⟩
  | .hbm, ⟨14, _⟩ => ⟨S8x4x256x256, .f32⟩
  | .hbm, ⟨15, _⟩ => ⟨S8x4x256x256, .f32⟩
  | .hbm, ⟨16, _⟩ => ⟨S8x4x256x256, .f32⟩
  | .hbm, ⟨17, _⟩ => ⟨S_, .f32⟩
  | .hbm, ⟨18, _⟩ => ⟨S8x4x256x256, .f32⟩
  | .hbm, ⟨19, _⟩ => ⟨S8x4x256x256, .f32⟩
  | .hbm, ⟨20, _⟩ => ⟨S_, .f32⟩
  | .hbm, ⟨21, _⟩ => ⟨S8x4x256x256, .f32⟩
  | .hbm, ⟨22, _⟩ => ⟨S8x4x256x256, .f32⟩
  | .hbm, ⟨23, _⟩ => ⟨S8x4x256x256, .f32⟩
  | .hbm, ⟨24, _⟩ => ⟨S8x4x256x64, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.GlaMath.lean ====
/-
Gated linear attention in plain formulas over the extended reals: one chunk of 64 rows of one head, the recurrence
over the chunks, the head's norm, the gate, the output projection, its norm and the residual. Both programs' results
are shown equal to `result`.
-/
module

public import Idealize.ShloMosaic.Lib.Pointwise

@[expose] public section

noncomputable section

open Idealize.ShloMosaic

namespace Cert.Gla

/-! ### One chunk -/

/-- What one chunk of one head reads: log decays, queries, keys, values. -/
structure Chunk where
  g : Fin 64 → Fin 128 → EReal
  q : Fin 64 → Fin 128 → EReal
  k : Fin 64 → Fin 128 → EReal
  v : Fin 64 → Fin 256 → EReal

/-- The query scale `128 ^ -0.5` as the programs hold it. -/
def scale : EReal := Ideal.ofBits .f32 1035273459#32

/-- The running sum of the log decays from the chunk's first row on. -/
def cum (c : Chunk) (i : Fin 64) (d : Fin 128) : EReal := ∑ j : Fin 64, if j ≤ i then c.g j d else 0

/-- The query at a row, scaled and decayed from the chunk's start. -/
def qe (c : Chunk) (i : Fin 64) (d : Fin 128) : EReal := c.q i d * scale * Ideal.exp (cum c i d)

/-- Causal attention within the chunk. -/
def intra (c : Chunk) (i : Fin 64) (e : Fin 256) : EReal :=
  ∑ j : Fin 64, (if j ≤ i then ∑ d : Fin 128, qe c i d * (c.k j d * Ideal.exp (-cum c j d)) else 0) * c.v j e

/-- The recurrence's state after the chunk. -/
def next (c : Chunk) (s : Fin 128 → Fin 256 → EReal) (d : Fin 128) (e : Fin 256) : EReal :=
  Ideal.exp (cum c 63 d) * s d e + ∑ j : Fin 64, c.k j d * Ideal.exp (cum c 63 d - cum c j d) * c.v j e

/-- The chunk's output: the attention within it plus what the state brings. -/
def out (c : Chunk) (s : Fin 128 → Fin 256 → EReal) (i : Fin 64) (e : Fin 256) : EReal :=
  intra c i e + ∑ d : Fin 128, qe c i d * s d e

/-! ### The layer's calls -/

/-- The operands. -/
structure Inp where
  q : Fin 8 → Fin 4096 → Fin 512 → EReal
  k : Fin 8 → Fin 4096 → Fin 512 → EReal
  v : Fin 8 → Fin 4096 → Fin 1024 → EReal
  g : Fin 8 → Fin 4096 → Fin 512 → EReal
  z : Fin 8 → Fin 4096 → Fin 1024 → EReal
  x : Fin 8 → Fin 4096 → Fin 1024 → EReal
  hn : Fin 256 → EReal
  pn : Fin 1024 → EReal
  w : Fin 1024 → Fin 1024 → EReal

/-- Row `i` of chunk `n`. -/
def row (n : ℕ) (i : Fin 64) : Fin 4096 := Fin.ofNat 4096 (n * 64 + i.val)

/-- Column `d` of head `h` among the query and key columns. -/
def colK (h : Fin 4) (d : Fin 128) : Fin 512 := ⟨h.val * 128 + d.val, by omega⟩

/-- Column `e` of head `h` among the value columns. -/
def colV (h : Fin 4) (e : Fin 256) : Fin 1024 := ⟨h.val * 256 + e.val, by omega⟩

/-- Chunk `n` of head `h` of batch entry `b`. -/
def chunk (A : Inp) (b : Fin 8) (h : Fin 4) (n : ℕ) : Chunk where
  g i d := A.g b (row n i) (colK h d)
  q i d := A.q b (row n i) (colK h d)
  k i d := A.k b (row n i) (colK h d)
  v i e := A.v b (row n i) (colV h e)

/-- The recurrence's state before chunk `n`. -/
def state (A : Inp) (b : Fin 8) (h : Fin 4) : ℕ → Fin 128 → Fin 256 → EReal
  | 0 => fun _ _ => 0
  | n + 1 => next (chunk A b h n) (state A b h n)

/-- The attention's output at a row, of one head. -/
def att (A : Inp) (b : Fin 8) (r : Fin 4096) (h : Fin 4) (e : Fin 256) : EReal :=
  out (chunk A b h (r.val / 64)) (state A b h (r.val / 64)) (Fin.ofNat 64 r.val) e

/-- A row times the reciprocal root of its mean square, times a gain. -/
def rms {n : ℕ} (width : BitVec 32) (u : Fin n → EReal) (gain : Fin n → EReal) (e : Fin n) : EReal :=
  u e * Ideal.rsqrt (Ideal.div (∑ x, u x * u x) (Ideal.ofBits .f32 width) + Ideal.ofBits .f32 897988541#32) * gain e

/-- The normed heads of a row, gated. -/
def gated (A : Inp) (b : Fin 8) (r : Fin 4096) (x : Fin 1024) : EReal :=
  rms 1132462080#32 (att A b r (Fin.ofNat 4 (x.val / 256))) A.hn (Fin.ofNat 256 x.val) * A.z b r x

/-- The output projection of a row. -/
def proj (A : Inp) (b : Fin 8) (r : Fin 4096) (e : Fin 1024) : EReal := ∑ x, gated A b r x * A.w x e

/-- The result: the residual plus the normed projection. -/
def result (A : Inp) (b : Fin 8) (r : Fin 4096) (e : Fin 1024) : EReal :=
  A.x b r e + rms 1149239296#32 (proj A b r) A.pn e

end Cert.Gla
-- ==== Proof.Rows.lean ====
/-
The projections' mathematics: rows of the flattened arrays, the normed activations and their product with a weight, and
the elementwise gates.
-/
module

public import proofs.«01_k».proof.Proof.GlaMath
public import Idealize.ShloMosaic.Lib.Pipeline.ValueKit
public import Idealize.ShloMosaic.Lib.Pointwise

@[expose] public section

noncomputable section

open Idealize.ShloMosaic

namespace Cert.Rows

open Cert.Gla

/-- Batch entry of a row of the flattened arrays. -/
def batch (r : Fin 32768) : Fin 8 := ⟨r.val / 4096, by omega⟩

/-- Position of a row of the flattened arrays. -/
def place (r : Fin 32768) : Fin 4096 := ⟨r.val % 4096, by omega⟩

/-- A flattened row of 1024 is its batch entry's place. -/
theorem flat_1024 (u : (⟨3, ![8, 4096, 1024]⟩ : Shape).Idx → EReal)
    (h : (⟨3, ![8, 4096, 1024]⟩ : Shape).ShapeCasts ⟨2, ![32768, 1024]⟩) (r : Fin 32768) (e : Fin 1024) :
    shapeCast (⟨2, ![32768, 1024]⟩ : Shape) u h (ix2 r e) = u (ix3 (batch r) (place r) e) := by
  unfold batch place
  pointwise []
  blk_ext []

/-- A flattened row of 512 is its batch entry's place. -/
theorem flat_512 (u : (⟨3, ![8, 4096, 512]⟩ : Shape).Idx → EReal)
    (h : (⟨3, ![8, 4096, 512]⟩ : Shape).ShapeCasts ⟨2, ![32768, 512]⟩) (r : Fin 32768) (e : Fin 512) :
    shapeCast (⟨2, ![32768, 512]⟩ : Shape) u h (ix2 r e) = u (ix3 (batch r) (place r) e) := by
  unfold batch place
  pointwise []
  blk_ext []

/-- The activations: one row per batch entry and position. -/
abbrev Act := Fin 8 → Fin 4096 → Fin 1024 → EReal

/-- The normed activations against a column of a weight. -/
def proj (x : Act) (g : Fin 1024 → EReal) (w : Fin 1024 → EReal) (b : Fin 8) (r : Fin 4096) : EReal :=
  ∑ y : Fin 1024, rms 1149239296#32 (x b r) g y * w y

/-- `z · σ(z)`. -/
def silu (z : EReal) : EReal := z * Ideal.logistic z

/-- The decay of a logit: a sixteenth of the logarithm of its sigmoid. -/
def decay (p : EReal) : EReal :=
  Ideal.div (min p 0 - Ideal.log (1 + Ideal.exp (0 - FloatOps.absf (F := Ideal) (φ := .f32) p)))
    (Ideal.ofBits .f32 1098907648#32)

/-- The logarithm of one plus an exponential is never `⊥`. -/
theorem log_one_add_exp_ne_bot (y : EReal) : Ideal.log (1 + Ideal.exp y) ≠ ⊥ := by
  have pos : ∀ r : ℝ, 0 < r → Ideal.log (r : EReal) ≠ ⊥ := fun r hr => by
    show (if r ≤ 0 then (⊥ : EReal) else (Real.log r : EReal)) ≠ ⊥
    rw [if_neg (not_le.mpr hr)]
    exact EReal.coe_ne_bot _
  induction y with
  | bot => rw [show Ideal.exp ⊥ = 0 from rfl, add_zero]; exact pos 1 one_pos
  | top =>
    rw [show Ideal.exp ⊤ = ⊤ from rfl, EReal.add_top_of_ne_bot (show (1 : EReal) ≠ ⊥ from EReal.coe_ne_bot 1)]
    exact top_ne_bot
  | coe r =>
    have h : (1 : EReal) + Ideal.exp (r : EReal) = ((1 + Real.exp r : ℝ) : EReal) := (EReal.coe_add 1 (Real.exp r)).symm
    rw [h]
    exact pos _ (by positivity)

/-- The decay by way of the softplus of the negated logit. -/
theorem decay_eq (p : EReal) :
    Ideal.div (-(max (-p) 0 + Ideal.log1p (Ideal.exp (-FloatOps.absf (F := Ideal) (φ := .f32) (-p)))))
      (Ideal.ofBits .f32 1098907648#32) = decay p := by
  have ha : FloatOps.absf (F := Ideal) (φ := .f32) (-p) = FloatOps.absf (F := Ideal) (φ := .f32) p := by
    show max (-p) (- -p) = max p (-p)
    rw [neg_neg, max_comm]
  have hm : -(max (-p) 0) = min p 0 := by
    rcases le_total p 0 with h | h
    · rw [min_eq_left h, max_eq_left (EReal.neg_nonneg.mpr h), neg_neg]
    · rw [min_eq_right h, max_eq_right (by simpa using EReal.neg_le_neg_iff.mpr h), neg_zero]
  unfold decay Ideal.log1p
  rw [ha, zero_sub, EReal.neg_add (.inl (ne_bot_of_le_ne_bot EReal.zero_ne_bot (le_max_right _ _)))
    (.inr (log_one_add_exp_ne_bot _)), hm]

/-- A sum over padded lanes is the sum over the lanes that hold something. -/
theorem sum_lanes (F : Fin 128 → EReal) (G : Fin 16 → EReal) (h : ∀ j : Fin 16, F ⟨j.val, by omega⟩ = G j)
    (h' : ∀ j : Fin 128, 16 ≤ j.val → F j = 0) : ∑ j, F j = ∑ j, G j := by
  refine (Fin.sum_univ_add (a := 16) (b := 112) F).trans ?_
  rw [Finset.sum_eq_zero (f := fun j : Fin 112 => F (Fin.natAdd 16 j)) fun j _ => h' _ (Nat.le_add_right ..), add_zero]
  exact Finset.sum_congr rfl fun j _ => h j

end Cert.Rows
-- ==== Proof.OutKernel.lean ====
/-
The last projection's kernel: what it leaves in its output array, at every row and column.
-/
module

public import proofs.«01_k».proof.Proof.Gen.OutIdeal.Value
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutIdeal.Core

open Cert.OutIdeal Cert.OutIdeal.Gen Cert.Gla Cert.Rows

/-- The gated output's projection at a row. -/
def proj (o z : S8x4096x1024.Idx → EReal) (w : S1024x1024.Idx → EReal) (r : Fin 32768) (e : Fin 1024) : EReal :=
  ∑ x : Fin 1024, o (ix3 (batch r) (place r) x) * z (ix3 (batch r) (place r) x) * w (ix2 x e)

/-- The residual plus the normed projection. -/
def result (o z x : S8x4096x1024.Idx → EReal) (pn : S1024.Idx → EReal) (w : S1024x1024.Idx → EReal)
    (r : Fin 32768) (e : Fin 1024) : EReal :=
  x (ix3 (batch r) (place r) e) + rms 1149239296#32 (proj o z w r) (fun e => pn (ix1 e)) e

variable (m : (ℓ : Loc nD τ sig) → Buf (Elt Ideal) ℓ) (c : Dev nD)

/-- The row windows' blocks follow the grid; the gain's and the weight's are whole. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Row `r` of a grid point's block. -/
def rowAt (t : Fin cfg0.N) (r : Fin 512) : Fin 32768 :=
  ⟨t.val * 512 + r.val, by have := lt_of_lt_of_eq t.isLt N_0; omega⟩

theorem blk_o (t : Fin cfg0.N) (r : Fin 512) (x : Fin 1024) : iblk m c 0 t (ix2 r x)
    = m ((c : Thread nD τ).loc main_arg0) (ix3 (batch (rowAt t r)) (place (rowAt t r)) x) := by
  have h := (idx t).1
  blk_simp [iblk]
  entry_read
  pointwise []
  unfold batch place rowAt
  blk_ext [h]

theorem blk_z (t : Fin cfg0.N) (r : Fin 512) (x : Fin 1024) : iblk m c 1 t (ix2 r x)
    = m ((c : Thread nD τ).loc main_arg1) (ix3 (batch (rowAt t r)) (place (rowAt t r)) x) := by
  have h := (idx t).2.1
  blk_simp [iblk]
  entry_read
  pointwise []
  unfold batch place rowAt
  blk_ext [h]

theorem blk_x (t : Fin cfg0.N) (r : Fin 512) (x : Fin 1024) : iblk m c 2 t (ix2 r x)
    = m ((c : Thread nD τ).loc main_arg2) (ix3 (batch (rowAt t r)) (place (rowAt t r)) x) := by
  have h := (idx t).2.2.1
  blk_simp [iblk]
  entry_read
  pointwise []
  unfold batch place rowAt
  blk_ext [h]

theorem blk_pn (t : Fin cfg0.N) (x : Fin 1024) : iblk m c 3 t (ix2 0 x)
    = m ((c : Thread nD τ).loc main_arg3) (ix1 x) := by
  have h := (idx t).2.2.2.1
  blk_simp [iblk]
  entry_read
  pointwise []
  blk_ext [h]

theorem blk_w (t : Fin cfg0.N) (x e : Fin 1024) : iblk m c 4 t (ix2 x e)
    = m ((c : Thread nD τ).loc main_arg4) (ix2 x e) := by
  have h := (idx t).2.2.2.2.1
  blk_simp [iblk]
  entry_read
  pointwise []
  blk_ext [h]

/-- The block a grid point leaves. -/
theorem block_eq (t : Fin cfg0.N) (y : S512x1024.Idx) :
    out0_5 (iblk m c 0 t) (iblk m c 1 t) (iblk m c 2 t) (iblk m c 3 t) (iblk m c 4 t) y
      = result (m ((c : Thread nD τ).loc main_arg0)) (m ((c : Thread nD τ).loc main_arg1))
          (m ((c : Thread nD τ).loc main_arg2)) (m ((c : Thread nD τ).loc main_arg3))
          (m ((c : Thread nD τ).loc main_arg4)) (rowAt t (y 0)) (y 1) := by
  unfold out0_5
  canon_tiles x h
  idx_vars x
  have hy0 : y 0 = x0 := Fin.ext h0
  have hy1 : y 1 = x1 := Fin.ext h1
  rw [hy0, hy1]
  pointwise [k0_pay1]
  simp only [blk_o, blk_z, blk_x, blk_pn, blk_w]
  rfl

/-- The output array. -/
theorem array_eq : (dats m 0 c).arrAt 5 cfg0.N = fun y : S32768x1024.Idx =>
    result (m ((c : Thread nD τ).loc main_arg0)) (m ((c : Thread nD τ).loc main_arg1))
      (m ((c : Thread nD τ).loc main_arg2)) (m ((c : Thread nD τ).loc main_arg3))
      (m ((c : Thread nD τ).loc main_arg4)) (y 0) (y 1) := by
  refine (dats m 0 c).arrAt_eq_of_covers 5 _ (by decide +kernel) fun t hf y => ?_
  blk_simp []
  rw [after0_5]
  obtain ⟨i0, i1⟩ := (idx t).2.2.2.2.2
  have b0 : ((win0_5.blk t).view.emb y 0).val = win0_5.index t (0 : Fin 2) * 512 + 1 * (y 0).val := rfl
  have b1 : ((win0_5.blk t).view.emb y 1).val = win0_5.index t (1 : Fin 2) * 1024 + 1 * (y 1).val := rfl
  have e0 : (win0_5.blk t).view.emb y 0 = rowAt t (y 0) := Fin.ext (by rw [b0, i0, Nat.one_mul]; rfl)
  have e1 : (win0_5.blk t).view.emb y 1 = (y 1 : Fin 1024) := Fin.ext (by rw [b1]; omega)
  rw [e0, e1]
  exact block_eq m c t y

end Cert.OutIdeal.Core
-- ==== Proof.OutRef.lean ====
/-
The last projection's reference: its composed result at every row and column.
-/
module

public import proofs.«01_k».proof.Proof.OutKernel
public import proofs.«01_k».proof.Proof.Gen.OutReferenceIdeal.Run

@[expose] public section

set_option maxRecDepth 16384

noncomputable section

open Idealize.ShloMosaic Idealize.ShloMosaic.TcCoe Idealize.SL.Sem

namespace Cert.OutReferenceIdeal.Core

open Cert.OutReferenceIdeal Cert.OutReferenceIdeal.Gen

/-- The gated output projected. -/
def projected (o z : FVec Ideal S8x4096x1024 .bf16) (w : FVec Ideal S1024x1024 .f32) : FVec Ideal S8x4096x1024 .f32 :=
  Host.dotGeneral (F := Ideal) dot_S8x4096x1024_S1024x1024_S8x4096x1024_2_0_01_1_n_n none
    (mulf (extf .f32 o bitsLt_bf16_f32) (extf .f32 z bitsLt_bf16_f32)) w

/-- A projected row normed, times the gain. -/
def normed (u : FVec Ideal S8x4096x1024 .f32) (pn : FVec Ideal S1024 .f32) : FVec Ideal S8x4096x1024 .f32 :=
  mulf (mulf u (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf u u)
      (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 pn))

theorem projected_at (o z : FVec Ideal S8x4096x1024 .bf16) (w : FVec Ideal S1024x1024 .f32) (b : Fin 8) (r : Fin 4096)
    (e : Fin 1024) : projected o z w (ix3 b r e) = ∑ x : Fin 1024, o (ix3 b r x) * z (ix3 b r x) * w (ix2 x e) := by
  pointwise [projected]

theorem normed_at (u : FVec Ideal S8x4096x1024 .f32) (pn : FVec Ideal S1024 .f32) (b : Fin 8) (r : Fin 4096)
    (e : Fin 1024) : normed u pn (ix3 b r e)
      = Cert.Gla.rms 1149239296#32 (fun e => u (ix3 b r e)) (fun e => pn (ix1 e)) e := by
  pointwise [normed]
  rfl

/-- The result as the run composes it. -/
theorem composed_at (o z : FVec Ideal S8x4096x1024 .bf16) (x : FVec Ideal S8x4096x1024 .f32)
    (pn : FVec Ideal S1024 .f32) (w : FVec Ideal S1024x1024 .f32) (r : Fin 32768) (e : Fin 1024) :
    shapeCast S32768x1024 (addf x (normed (projected o z w) pn)) shapeCasts_S8x4096x1024_S32768x1024 (ix2 r e)
      = Cert.OutIdeal.Core.result o z x pn w r e := by
  refine (Cert.Rows.flat_1024 _ _ r e).trans (congrArg (x (ix3 _ _ e) + ·) ((normed_at _ _ _ _ _).trans ?_))
  simp only [projected_at]
  rfl

/-- A run ends with the result and the arguments as they were. -/
theorem run_states (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = (fun y : S32768x1024.Idx =>
        Cert.OutIdeal.Core.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  funext y
  exact (congrArg _ (eq_ix2 y)).trans (composed_at _ _ _ _ _ (y 0) (y 1))

end Cert.OutReferenceIdeal.Core
-- ==== Proof.OutClaim.lean ====
/-
The last projection's claims: the reference's frame, and the kernel's array against the reference's result.
-/
module

public import proofs.«01_k».proof.Defs
public import proofs.«01_k».proof.Proof.OutRef
public import Idealize.ShloMosaic.Lib.Claim
public import Idealize.ShloMosaic.Lib.Quiescent

@[expose] public section

noncomputable section

namespace Cert.OutClaim

open Idealize.ShloMosaic Idealize.ShloMosaic.TcCoe Idealize.SL.Sem

/-- The reference's frame: it runs, keeps its arguments, and has no semaphore. -/
theorem frame_reference : Cert.quiescent_OutReferenceIdeal := fun m g _ =>
  (θ_run Cert.OutReferenceIdeal.defs _ _).mono
    (fun r h => And.intro (fun c => (h c).2) (sem_eq_zero_of_no_sems (by decide) r.2))
    (Cert.OutReferenceIdeal.Core.run_states m g)

/-- The kernel's result is the reference's. -/
theorem algebraic : Cert.algebraic_OutIdeal_OutReferenceIdeal := by
  intro m g m' g' _ hagree
  refine ⟨fun c => (Cert.OutIdeal.Gen.dats m 0 c).arrAt 5 Cert.OutIdeal.cfg0.N, Cert.OutIdeal.Value.run_blocks m g, ?_⟩
  refine (θ_run Cert.OutReferenceIdeal.defs _ _).mono (fun r h c => ⟨(h c).1.trans ?_, (h c).2⟩)
    (Cert.OutReferenceIdeal.Core.run_states m' g')
  obtain ⟨h0, h1, h2, h3, h4⟩ := hagree c
  rw [h0, h1, h2, h3, h4]
  exact (Cert.OutIdeal.Core.array_eq (m := m) (c := c)).symm

end Cert.OutClaim
-- ==== Proof.GlaProjBlk.lean ====
/-
The first projection's kernel: what the blocks of a grid point hold of the operands.
-/
module

public import proofs.«01_k».proof.Proof.Gen.GlaProjIdeal.Value
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GlaProjIdeal.Core

open Cert.GlaProjIdeal Cert.GlaProjIdeal.Gen Cert.Gla Cert.Rows

variable (m : (ℓ : Loc nD τ sig) → Buf (Elt Ideal) ℓ) (c : Dev nD)

/-- The activations. -/
def actOf (c : Dev nD) : Act := fun b r y => m ((c : Thread nD τ).loc main_arg0) (ix3 b r y)

/-- The row windows' blocks follow the grid. -/
theorem idx_row : ∀ t : Fin cfg0.N,
    (win0_0.index t (0 : Fin 2) = t.val ∧ win0_0.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The gain's, the weights' and the bias's windows are whole at every point. -/
theorem idx_one : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Row `r` of a grid point's block. -/
def rowAt (t : Fin cfg0.N) (r : Fin 512) : Fin 32768 :=
  ⟨t.val * 512 + r.val, by have := lt_of_lt_of_eq t.isLt N_0; omega⟩

/-- The concatenated weight: the columns of q, k and v, then the gate's. -/
def wMain (w : FVec Ideal S1024x3088 .f32) : FVec Ideal S1024x3072 .bf16 :=
  truncf .bf16 (concatenate S1024x3072 1 [⟨S1024x2048, extractStridedSlice S1024x2048 ![0, 0] w slices_S1024x3088_S1024x2048_0_0⟩,
    ⟨S1024x1024, extractStridedSlice S1024x1024 ![0, 2064] w slices_S1024x3088_S1024x1024_0_2064⟩]
    concatenates_S1024x2048_S1024x1024_S1024x3072_d1) bitsLt_bf16_f32

/-- The decay's columns, padded to the lanes. -/
def wLow (w : FVec Ideal S1024x3088 .f32) : FVec Ideal S1024x128 .bf16 :=
  truncf .bf16 (pad S1024x128 ![0, 0] ![0, 112] ![0, 0]
    (extractStridedSlice S1024x16 ![0, 2048] w slices_S1024x3088_S1024x16_0_2048)
    (sitofp .f32 (constantI S_ 32 0#32)) pads_S1024x16_S1024x128_000_01120 h_S_) bitsLt_bf16_f32

/-- The decay's second factor, padded to the lanes. -/
def wUp (w : FVec Ideal S16x512 .f32) : FVec Ideal S128x512 .bf16 :=
  truncf .bf16 (pad S128x512 ![0, 0] ![112, 0] ![0, 0] w (sitofp .f32 (constantI S_ 32 0#32))
    pads_S16x512_S128x512_01120_000 h_S_) bitsLt_bf16_f32

/-- Column `e` of the concatenated weight. -/
def colMain (e : Fin 3072) : Fin 3088 := if e.val < 2048 then ⟨e.val, by omega⟩ else ⟨e.val + 16, by omega⟩

theorem wMain_at (w : FVec Ideal S1024x3088 .f32) (y : Fin 1024) (e : Fin 3072) :
    wMain w (ix2 y e) = w (ix2 y (colMain e)) := by
  pointwise [wMain, colMain]
  split <;> congr 2 <;> apply Fin.ext <;> simp only [] <;> omega

theorem pad_zero : (FloatOps.sitofp (F := Ideal) .f32 (0#32) : EReal) = 0 := by
  show ((((0#32 : BitVec 32).toInt : ℝ)) : EReal) = 0
  simp

theorem wLow_at (w : FVec Ideal S1024x3088 .f32) (y : Fin 1024) (j : Fin 128) :
    wLow w (ix2 y j) = if h : j.val < 16 then w (ix2 y ⟨2048 + j.val, by omega⟩) else 0 := by
  pointwise [wLow]
  simp only [pad_zero]

theorem wUp_at (w : FVec Ideal S16x512 .f32) (j : Fin 128) (e : Fin 512) :
    wUp w (ix2 j e) = if h : j.val < 16 then w (ix2 ⟨j.val, h⟩ e) else 0 := by
  pointwise [wUp]
  simp only [pad_zero]

set_option maxHeartbeats 1600000 in
theorem entry_x : V m c main_v0 = shapeCast S32768x1024 (m ((c : Thread nD τ).loc main_arg0)) shapeCasts_S8x4096x1024_S32768x1024 := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

set_option maxHeartbeats 1600000 in
theorem entry_g : V m c main_v10 = shapeCast S1x1024 (m ((c : Thread nD τ).loc main_arg1)) shapeCasts_S1024_S1x1024 := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

set_option maxHeartbeats 1600000 in
theorem entry_w : V m c main_v4 = wMain (m ((c : Thread nD τ).loc main_arg2)) := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

set_option maxHeartbeats 1600000 in
theorem entry_low : V m c main_v7 = wLow (m ((c : Thread nD τ).loc main_arg2)) := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

set_option maxHeartbeats 1600000 in
theorem entry_up : V m c main_v9 = wUp (m ((c : Thread nD τ).loc main_arg3)) := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

set_option maxHeartbeats 1600000 in
theorem entry_b : V m c main_v11 = shapeCast S1x512 (m ((c : Thread nD τ).loc main_arg4)) shapeCasts_S512_S1x512 := by
  unfold V
  simp only [hostOps0, hostOps0_1, hostOps0_2, hostOps0_3, hostOps0_4, List.flatten_cons, List.flatten_nil,
    List.append_nil, List.cons_append, List.nil_append]
  simp only [StableHlo.TRef.unary, StableHlo.TRef.binary, StableHlo.TRef.toBuf, StableHlo.TRef.ofBuf, cast_eq]
  after_results_simp <;> rfl

theorem blk_x (t : Fin cfg0.N) (r : Fin 512) (y : Fin 1024) : iblk m c 0 t (ix2 r y)
    = m ((c : Thread nD τ).loc main_arg0) (ix3 (batch (rowAt t r)) (place (rowAt t r)) y) := by
  have h := (idx_row t).1
  refine Eq.trans ?_ (flat_1024 (m ((c : Thread nD τ).loc main_arg0)) shapeCasts_S8x4096x1024_S32768x1024 (rowAt t r) y)
  rw [← entry_x m c]
  unfold rowAt
  blk_simp [iblk]
  blk_ext [h]

theorem blk_g (t : Fin cfg0.N) (y : Fin 1024) : iblk m c 1 t (ix2 0 y)
    = m ((c : Thread nD τ).loc main_arg1) (ix1 y) := by
  have h := (idx_one t).1
  blk_simp [iblk]
  rw [entry_g]
  pointwise []
  blk_ext [h]

theorem blk_w (t : Fin cfg0.N) (y : Fin 1024) (e : Fin 3072) : iblk m c 2 t (ix2 y e)
    = m ((c : Thread nD τ).loc main_arg2) (ix2 y (colMain e)) := by
  have h := (idx_one t).2.1
  refine Eq.trans ?_ (wMain_at _ y e)
  rw [← entry_w m c]
  blk_simp [iblk]
  blk_ext [h]

theorem blk_low (t : Fin cfg0.N) (y : Fin 1024) (j : Fin 128) : iblk m c 3 t (ix2 y j)
    = wLow (m ((c : Thread nD τ).loc main_arg2)) (ix2 y j) := by
  have h := (idx_one t).2.2.1
  rw [← entry_low m c]
  blk_simp [iblk]
  blk_ext [h]

theorem blk_up (t : Fin cfg0.N) (j : Fin 128) (e : Fin 512) : iblk m c 4 t (ix2 j e)
    = wUp (m ((c : Thread nD τ).loc main_arg3)) (ix2 j e) := by
  have h := (idx_one t).2.2.2.1
  rw [← entry_up m c]
  blk_simp [iblk]
  blk_ext [h]

theorem blk_b (t : Fin cfg0.N) (e : Fin 512) : iblk m c 5 t (ix2 0 e)
    = m ((c : Thread nD τ).loc main_arg4) (ix1 e) := by
  have h := (idx_one t).2.2.2.2
  blk_simp [iblk]
  rw [entry_b]
  pointwise []
  blk_ext [h]

end Cert.GlaProjIdeal.Core
-- ==== Proof.GlaProjKernel.lean ====
/-
The first projection's kernel: what it leaves in its five output arrays, at every row and column.
-/
module

public import proofs.«01_k».proof.Proof.GlaProjBlk

@[expose] public section

set_option maxRecDepth 16384

noncomputable section

open Idealize.ShloMosaic Idealize.ShloMosaic.TcCoe Idealize.SL.Sem

namespace Cert.GlaProjIdeal.Core

open Cert.GlaProjIdeal Cert.GlaProjIdeal.Gen Cert.Gla Cert.Rows

variable (m : (ℓ : Loc nD τ sig) → Buf (Elt Ideal) ℓ) (c : Dev nD)

/-- The norm's gain. -/
def gainOf : Fin 1024 → EReal := fun e => m ((c : Thread nD τ).loc main_arg1) (ix1 e)

/-- The input weight. -/
def weightOf : FVec Ideal S1024x3088 .f32 := m ((c : Thread nD τ).loc main_arg2)

/-- A row's normed activations against a column of the input weight. -/
def col (e : Fin 3088) (r : Fin 32768) : EReal :=
  proj (actOf m c) (gainOf m c) (fun y => weightOf m c (ix2 y e)) (batch r) (place r)

/-- The normed block of a grid point. -/
theorem normed_at (t : Fin cfg0.N) (r : Fin 512) (y : Fin 1024) :
    k0_pay8 (iblk m c 0 t) (iblk m c 1 t) (iblk m c 2 t) (iblk m c 3 t) (iblk m c 4 t) (iblk m c 5 t) (ix2 r y)
      = rms 1149239296#32 (actOf m c (batch (rowAt t r)) (place (rowAt t r))) (gainOf m c) y := by
  unfold k0_pay8
  pointwise [k0_pay3]
  simp only [blk_x, blk_g]
  rfl

/-- The logit of the decay. -/
def logit (r : Fin 32768) (e : Fin 512) : EReal :=
  (∑ j : Fin 16, col m c ⟨2048 + j.val, by omega⟩ r * (show EReal from m ((c : Thread nD τ).loc main_arg3) (ix2 j e)))
    + (show EReal from m ((c : Thread nD τ).loc main_arg4) (ix1 e))

/-- The queries of a row. -/
def qAt (r : Fin 32768) (e : Fin 512) : EReal := col m c ⟨e.val, by omega⟩ r

/-- The keys of a row. -/
def kAt (r : Fin 32768) (e : Fin 512) : EReal := col m c ⟨512 + e.val, by omega⟩ r

/-- The values of a row. -/
def vAt (r : Fin 32768) (e : Fin 1024) : EReal := col m c ⟨1024 + e.val, by omega⟩ r

/-- The gate of a row. -/
def zAt (r : Fin 32768) (e : Fin 1024) : EReal := silu (col m c ⟨2064 + e.val, by omega⟩ r)

theorem colMain_lo (e : Fin 3072) (h : e.val < 2048) : colMain e = ⟨e.val, by omega⟩ := if_pos h

theorem colMain_hi (e : Fin 3072) (h : 2048 ≤ e.val) : colMain e = ⟨e.val + 16, by omega⟩ := if_neg (by omega)

/-- A product of the normed block and a column of the concatenated weight. -/
theorem prod_at (t : Fin cfg0.N) (r : Fin 512) (e : Fin 3072) (k : Fin 3088) (h : colMain e = k) :
    (∑ y : Fin 1024, rms 1149239296#32 (actOf m c (batch (rowAt t r)) (place (rowAt t r))) (gainOf m c) y
      * (show EReal from iblk m c 2 t (ix2 y e))) = col m c k (rowAt t r) := by
  subst h
  exact Finset.sum_congr rfl fun y _ => congrArg (_ * ·) (blk_w m c t y e)

theorem q_block (t : Fin cfg0.N) (y : S512x512.Idx) :
    out0_6 (iblk m c 0 t) (iblk m c 1 t) (iblk m c 2 t) (iblk m c 3 t) (iblk m c 4 t) (iblk m c 5 t) y
      = qAt m c (rowAt t (y 0)) (y 1) := by
  unfold out0_6 qAt
  canon_tiles x h
  idx_vars x
  have hy0 : y 0 = x0 := Fin.ext h0
  have hy1 : y 1 = x1 := Fin.ext h1
  simp only [hy0, hy1]
  refine Eq.trans ?_ (prod_at m c t x0 ⟨x1.val, by omega⟩ _ (colMain_lo _ (by simp only []; omega)))
  pointwise [k0_pay4, k0_pay3]
  simp only [blk_x, blk_g]
  rfl

theorem k_block (t : Fin cfg0.N) (y : S512x512.Idx) :
    out0_7 (iblk m c 0 t) (iblk m c 1 t) (iblk m c 2 t) (iblk m c 3 t) (iblk m c 4 t) (iblk m c 5 t) y
      = kAt m c (rowAt t (y 0)) (y 1) := by
  unfold out0_7 kAt
  canon_tiles x h
  idx_vars x
  have hy0 : y 0 = x0 := Fin.ext h0
  have hy1 : y 1 = x1 := Fin.ext h1
  simp only [hy0, hy1]
  refine Eq.trans ?_ (prod_at m c t x0 ⟨512 + x1.val, by omega⟩ _ (colMain_lo _ (by simp only []; omega)))
  pointwise [k0_pay5, k0_pay3]
  simp only [blk_x, blk_g]
  rfl

theorem v_block (t : Fin cfg0.N) (y : S512x1024.Idx) :
    out0_8 (iblk m c 0 t) (iblk m c 1 t) (iblk m c 2 t) (iblk m c 3 t) (iblk m c 4 t) (iblk m c 5 t) y
      = vAt m c (rowAt t (y 0)) (y 1) := by
  unfold out0_8 vAt
  canon_tiles x h
  idx_vars x
  have hy0 : y 0 = x0 := Fin.ext h0
  have hy1 : y 1 = x1 := Fin.ext h1
  simp only [hy0, hy1]
  refine Eq.trans ?_ (prod_at m c t x0 ⟨1024 + x1.val, by omega⟩ _ (colMain_lo _ (by simp only []; omega)))
  pointwise [k0_pay6, k0_pay3]
  simp only [blk_x, blk_g]
  rfl

theorem z_block (t : Fin cfg0.N) (y : S512x1024.Idx) :
    out0_10 (iblk m c 0 t) (iblk m c 1 t) (iblk m c 2 t) (iblk m c 3 t) (iblk m c 4 t) (iblk m c 5 t) y
      = zAt m c (rowAt t (y 0)) (y 1) := by
  unfold out0_10 zAt
  canon_tiles x h
  idx_vars x
  have hy0 : y 0 = x0 := Fin.ext h0
  have hy1 : y 1 = x1 := Fin.ext h1
  simp only [hy0, hy1]
  have hk : colMain ⟨2048 + x1.val, by omega⟩ = ⟨2064 + x1.val, by omega⟩ :=
    (colMain_hi _ (Nat.le_add_right ..)).trans (Fin.ext (by simp only []; omega))
  refine Eq.trans ?_ (congrArg silu (prod_at m c t x0 ⟨2048 + x1.val, by omega⟩ _ hk))
  pointwise [k0_pay1, k0_pay7]
  simp only [normed_at]
  rfl

theorem g_block (t : Fin cfg0.N) (y : S512x512.Idx) :
    out0_9 (iblk m c 0 t) (iblk m c 1 t) (iblk m c 2 t) (iblk m c 3 t) (iblk m c 4 t) (iblk m c 5 t) y
      = decay (logit m c (rowAt t (y 0)) (y 1)) := by
  unfold out0_9
  canon_tiles x h
  idx_vars x
  have hy0 : y 0 = x0 := Fin.ext h0
  have hy1 : y 1 = x1 := Fin.ext h1
  rw [hy0, hy1]
  have hs : logit m c (rowAt t x0) x1
      = (∑ j : Fin 128, (∑ y : Fin 1024, rms 1149239296#32 (actOf m c (batch (rowAt t x0)) (place (rowAt t x0))) (gainOf m c) y
          * wLow (weightOf m c) (ix2 y j)) * wUp (m ((c : Thread nD τ).loc main_arg3)) (ix2 j x1))
        + (show EReal from m ((c : Thread nD τ).loc main_arg4) (ix1 x1)) := by
    refine congrArg (· + _) (sum_lanes _ _ (fun j => ?_) fun j hj => ?_).symm
    · rw [wUp_at, dif_pos j.isLt]
      refine congrArg (· * _) ?_
      unfold col Rows.proj
      refine Finset.sum_congr rfl fun y _ => ?_
      rw [wLow_at, dif_pos j.isLt]
    · rw [wUp_at, dif_neg (by omega), mul_zero]
  rw [hs]
  pointwise [k0_pay2]
  simp only [normed_at, blk_low, blk_up, blk_b]
  rfl

/-- The q array. -/
theorem q_array : (dats m 0 c).arrAt 6 cfg0.N = fun y : S32768x512.Idx =>
    qAt m c (y 0) (y 1) := by
  refine (dats m 0 c).arrAt_eq_of_covers 6 _ (by decide +kernel) fun t hf y => ?_
  blk_simp []
  rw [after0_6]
  obtain ⟨i0, i1⟩ := (idx_row t).2.1
  have b0 : ((win0_6.blk t).view.emb y 0).val = win0_6.index t (0 : Fin 2) * 512 + 1 * (y 0).val := rfl
  have b1 : ((win0_6.blk t).view.emb y 1).val = win0_6.index t (1 : Fin 2) * 512 + 1 * (y 1).val := rfl
  have e0 : (win0_6.blk t).view.emb y 0 = rowAt t (y 0) := Fin.ext (by rw [b0, i0, Nat.one_mul]; rfl)
  have e1 : (win0_6.blk t).view.emb y 1 = (y 1 : Fin 512) := Fin.ext (by rw [b1]; omega)
  rw [e0, e1]
  exact q_block m c t y

/-- The k array. -/
theorem k_array : (dats m 0 c).arrAt 7 cfg0.N = fun y : S32768x512.Idx =>
    kAt m c (y 0) (y 1) := by
  refine (dats m 0 c).arrAt_eq_of_covers 7 _ (by decide +kernel) fun t hf y => ?_
  blk_simp []
  rw [after0_7]
  obtain ⟨i0, i1⟩ := (idx_row t).2.2.1
  have b0 : ((win0_7.blk t).view.emb y 0).val = win0_7.index t (0 : Fin 2) * 512 + 1 * (y 0).val := rfl
  have b1 : ((win0_7.blk t).view.emb y 1).val = win0_7.index t (1 : Fin 2) * 512 + 1 * (y 1).val := rfl
  have e0 : (win0_7.blk t).view.emb y 0 = rowAt t (y 0) := Fin.ext (by rw [b0, i0, Nat.one_mul]; rfl)
  have e1 : (win0_7.blk t).view.emb y 1 = (y 1 : Fin 512) := Fin.ext (by rw [b1]; omega)
  rw [e0, e1]
  exact k_block m c t y

/-- The v array. -/
theorem v_array : (dats m 0 c).arrAt 8 cfg0.N = fun y : S32768x1024.Idx =>
    vAt m c (y 0) (y 1) := by
  refine (dats m 0 c).arrAt_eq_of_covers 8 _ (by decide +kernel) fun t hf y => ?_
  blk_simp []
  rw [after0_8]
  obtain ⟨i0, i1⟩ := (idx_row t).2.2.2.1
  have b0 : ((win0_8.blk t).view.emb y 0).val = win0_8.index t (0 : Fin 2) * 512 + 1 * (y 0).val := rfl
  have b1 : ((win0_8.blk t).view.emb y 1).val = win0_8.index t (1 : Fin 2) * 1024 + 1 * (y 1).val := rfl
  have e0 : (win0_8.blk t).view.emb y 0 = rowAt t (y 0) := Fin.ext (by rw [b0, i0, Nat.one_mul]; rfl)
  have e1 : (win0_8.blk t).view.emb y 1 = (y 1 : Fin 1024) := Fin.ext (by rw [b1]; omega)
  rw [e0, e1]
  exact v_block m c t y

/-- The decay array. -/
theorem g_array : (dats m 0 c).arrAt 9 cfg0.N = fun y : S32768x512.Idx =>
    decay (logit m c (y 0) (y 1)) := by
  refine (dats m 0 c).arrAt_eq_of_covers 9 _ (by decide +kernel) fun t hf y => ?_
  blk_simp []
  rw [after0_9]
  obtain ⟨i0, i1⟩ := (idx_row t).2.2.2.2.1
  have b0 : ((win0_9.blk t).view.emb y 0).val = win0_9.index t (0 : Fin 2) * 512 + 1 * (y 0).val := rfl
  have b1 : ((win0_9.blk t).view.emb y 1).val = win0_9.index t (1 : Fin 2) * 512 + 1 * (y 1).val := rfl
  have e0 : (win0_9.blk t).view.emb y 0 = rowAt t (y 0) := Fin.ext (by rw [b0, i0, Nat.one_mul]; rfl)
  have e1 : (win0_9.blk t).view.emb y 1 = (y 1 : Fin 512) := Fin.ext (by rw [b1]; omega)
  rw [e0, e1]
  exact g_block m c t y

/-- The gate array. -/
theorem z_array : (dats m 0 c).arrAt 10 cfg0.N = fun y : S32768x1024.Idx =>
    zAt m c (y 0) (y 1) := by
  refine (dats m 0 c).arrAt_eq_of_covers 10 _ (by decide +kernel) fun t hf y => ?_
  blk_simp []
  rw [after0_10]
  obtain ⟨i0, i1⟩ := (idx_row t).2.2.2.2.2
  have b0 : ((win0_10.blk t).view.emb y 0).val = win0_10.index t (0 : Fin 2) * 512 + 1 * (y 0).val := rfl
  have b1 : ((win0_10.blk t).view.emb y 1).val = win0_10.index t (1 : Fin 2) * 1024 + 1 * (y 1).val := rfl
  have e0 : (win0_10.blk t).view.emb y 0 = rowAt t (y 0) := Fin.ext (by rw [b0, i0, Nat.one_mul]; rfl)
  have e1 : (win0_10.blk t).view.emb y 1 = (y 1 : Fin 1024) := Fin.ext (by rw [b1]; omega)
  rw [e0, e1]
  exact z_block m c t y

end Cert.GlaProjIdeal.Core
-- ==== Proof.GlaProjRef.lean ====
/-
The first projection's reference: its five composed results at every row and column.
-/
module

public import proofs.«01_k».proof.Proof.Rows
public import proofs.«01_k».proof.Proof.Gen.GlaProjReferenceIdeal.Run

@[expose] public section

set_option maxRecDepth 16384

noncomputable section

open Idealize.ShloMosaic Idealize.ShloMosaic.TcCoe Idealize.SL.Sem

namespace Cert.GlaProjReferenceIdeal.Core

open Cert.GlaProjReferenceIdeal Cert.GlaProjReferenceIdeal.Gen Cert.Rows Cert.Gla

/-- The normed activations. -/
def normed (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x)
      (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- Their product with the input weight. -/
def projected (x : FVec Ideal S8x4096x1024 .f32) (g : FVec Ideal S1024 .f32) (w : FVec Ideal S1024x3088 .f32) :
    FVec Ideal S8x4096x3088 .f32 :=
  Host.dotGeneral (F := Ideal) dot_S8x4096x1024_S1024x3088_S8x4096x3088_2_0_01_1_n_n none (normed x g) w

theorem projected_at (x : FVec Ideal S8x4096x1024 .f32) (g : FVec Ideal S1024 .f32) (w : FVec Ideal S1024x3088 .f32)
    (b : Fin 8) (r : Fin 4096) (e : Fin 3088) :
    projected x g w (ix3 b r e) = proj (fun b r y => x (ix3 b r y)) (fun y => g (ix1 y)) (fun y => w (ix2 y e)) b r := by
  pointwise [projected, normed]
  rfl

/-- The decay's logits. -/
def logits (p : FVec Ideal S8x4096x3088 .f32) (u : FVec Ideal S16x512 .f32) (bias : FVec Ideal S512 .f32) :
    FVec Ideal S8x4096x512 .f32 :=
  addf (Host.dotGeneral (F := Ideal) dot_S8x4096x16_S16x512_S8x4096x512_2_0_01_1_n_n none
      (extractStridedSlice S8x4096x16 ![0, 0, 2048] p slices_S8x4096x3088_S8x4096x16_0_0_2048) u)
    (broadcastInDim S8x4096x512 ![0, 1, 2] bcast_S1x1x512_S8x4096x512_0_1_2 (broadcastInDim S1x1x512 ![2] bcast_S512_S1x1x512_2 bias))

/-- The softplus of the negated logits. -/
def softplus (l : FVec Ideal S8x4096x512 .f32) : FVec Ideal S8x4096x512 .f32 :=
  have z : FVec Ideal S8x4096x512 .f32 := broadcastInDim S8x4096x512 ![] bcast_S_S8x4096x512 (constant S_ .f32 0x00000000#32)
  select (cmpf .une (subf l z) (subf l z)) (addf l z)
    (addf (maximumf l z) (Host.log1p (Host.exp (Host.negf (Host.absf (subf l z))))))

/-- The decays. -/
def decays (l : FVec Ideal S8x4096x512 .f32) : FVec Ideal S8x4096x512 .f32 :=
  Host.divf (Host.negf (softplus (Host.negf l))) (broadcastInDim S8x4096x512 ![] bcast_S_S8x4096x512 (constant S_ .f32 0x41800000#32))

theorem decays_at (l : FVec Ideal S8x4096x512 .f32) (b : Fin 8) (r : Fin 4096) (e : Fin 512) :
    decays l (ix3 b r e) = decay (l (ix3 b r e)) := by
  pointwise [decays, softplus]
  rw [if_neg (not_not_intro rfl)]
  exact decay_eq _

/-- The gate. -/
def gates (z : FVec Ideal S8x4096x1024 .f32) : FVec Ideal S8x4096x1024 .f32 :=
  mulf z (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z))))

theorem gates_at (z : FVec Ideal S8x4096x1024 .f32) (b : Fin 8) (r : Fin 4096) (e : Fin 1024) :
    gates z (ix3 b r e) = silu (z (ix3 b r e)) := by
  pointwise [gates]
  rfl

theorem logits_at (p : FVec Ideal S8x4096x3088 .f32) (u : FVec Ideal S16x512 .f32) (bias : FVec Ideal S512 .f32)
    (b : Fin 8) (r : Fin 4096) (e : Fin 512) : logits p u bias (ix3 b r e)
      = (∑ j : Fin 16, p (ix3 b r ⟨2048 + j.val, by omega⟩) * u (ix2 j e)) + bias (ix1 e) := by
  pointwise [logits]

variable (m : (ℓ : Loc nD τ sig) → Buf (Elt Ideal) ℓ) (c : Dev nD)

/-- A row's normed activations against a column of the input weight. -/
def col (e : Fin 3088) (r : Fin 32768) : EReal :=
  proj (fun b r y => m ((c.tc : Thread nD τ).loc main_arg0) (ix3 b r y)) (fun y => m ((c.tc : Thread nD τ).loc main_arg1) (ix1 y))
    (fun y => m ((c.tc : Thread nD τ).loc main_arg2) (ix2 y e)) (batch r) (place r)

/-- The logit of a row's decay. -/
def logit (r : Fin 32768) (e : Fin 512) : EReal :=
  (∑ j : Fin 16, col m c ⟨2048 + j.val, by omega⟩ r * (show EReal from m ((c.tc : Thread nD τ).loc main_arg3) (ix2 j e)))
    + (show EReal from m ((c.tc : Thread nD τ).loc main_arg4) (ix1 e))

/-- The projection of the memory's operands. -/
def prod : FVec Ideal S8x4096x3088 .f32 :=
  projected (m ((c.tc : Thread nD τ).loc main_arg0)) (m ((c.tc : Thread nD τ).loc main_arg1)) (m ((c.tc : Thread nD τ).loc main_arg2))

/-- The conversion of a flattened array. -/
def narrowed (u : FVec Ideal S32768x1024 .f32) : FVec Ideal S32768x1024 .bf16 := truncf .bf16 u bitsLt_bf16_f32

theorem narrowed_at (u : FVec Ideal S32768x1024 .f32) (y : S32768x1024.Idx) : narrowed u y = u y := rfl

theorem q_at (y : S32768x512.Idx) :
    shapeCast S32768x512 (extractStridedSlice S8x4096x512 ![0, 0, 0] (prod m c) slices_S8x4096x3088_S8x4096x512_0_0_0)
      shapeCasts_S8x4096x512_S32768x512 y = col m c ⟨(y 1).val, by have : (y 1).val < 512 := (y 1).isLt; omega⟩ (y 0) := by
  refine (congrArg _ (eq_ix2 y)).trans ((flat_512 _ _ (y 0) (y 1)).trans (Eq.trans ?_ (projected_at _ _ _ _ _ _)))
  pointwise []
  rfl

theorem k_at (y : S32768x512.Idx) :
    shapeCast S32768x512 (extractStridedSlice S8x4096x512 ![0, 0, 512] (prod m c) slices_S8x4096x3088_S8x4096x512_0_0_512)
      shapeCasts_S8x4096x512_S32768x512 y = col m c ⟨512 + (y 1).val, by have : (y 1).val < 512 := (y 1).isLt; omega⟩ (y 0) := by
  refine (congrArg _ (eq_ix2 y)).trans ((flat_512 _ _ (y 0) (y 1)).trans (Eq.trans ?_ (projected_at _ _ _ _ _ _)))
  pointwise []
  rfl

theorem v_at (y : S32768x1024.Idx) :
    narrowed (shapeCast S32768x1024 (extractStridedSlice S8x4096x1024 ![0, 0, 1024] (prod m c) slices_S8x4096x3088_S8x4096x1024_0_0_1024)
      shapeCasts_S8x4096x1024_S32768x1024) y
      = col m c ⟨1024 + (y 1).val, by have : (y 1).val < 1024 := (y 1).isLt; omega⟩ (y 0) := by
  refine (narrowed_at _ _).trans ?_
  obtain ⟨r, e, rfl⟩ : ∃ (r : Fin 32768) (e : Fin 1024), y = ix2 r e := ⟨y 0, y 1, eq_ix2 y⟩
  refine (flat_1024 _ _ r e).trans (Eq.trans ?_ (projected_at _ _ _ _ _ ⟨1024 + e.val, by omega⟩))
  pointwise []
  rfl

theorem g_at (y : S32768x512.Idx) :
    shapeCast S32768x512 (decays (logits (prod m c) (m ((c.tc : Thread nD τ).loc main_arg3)) (m ((c.tc : Thread nD τ).loc main_arg4))))
      shapeCasts_S8x4096x512_S32768x512 y = decay (logit m c (y 0) (y 1)) := by
  obtain ⟨r, e, rfl⟩ : ∃ (r : Fin 32768) (e : Fin 512), y = ix2 r e := ⟨y 0, y 1, eq_ix2 y⟩
  refine (flat_512 _ _ r e).trans ((decays_at _ _ _ _).trans (congrArg decay ((logits_at _ _ _ _ _ _).trans ?_)))
  unfold prod
  simp only [projected_at]
  rfl

theorem z_at (y : S32768x1024.Idx) :
    narrowed (shapeCast S32768x1024 (gates (extractStridedSlice S8x4096x1024 ![0, 0, 2064] (prod m c) slices_S8x4096x3088_S8x4096x1024_0_0_2064))
      shapeCasts_S8x4096x1024_S32768x1024) y
      = silu (col m c ⟨2064 + (y 1).val, by have : (y 1).val < 1024 := (y 1).isLt; omega⟩ (y 0)) := by
  refine (narrowed_at _ _).trans ?_
  obtain ⟨r, e, rfl⟩ : ∃ (r : Fin 32768) (e : Fin 1024), y = ix2 r e := ⟨y 0, y 1, eq_ix2 y⟩
  refine (flat_1024 _ _ r e).trans ((gates_at _ _ _ _).trans (congrArg silu
    (Eq.trans ?_ (projected_at _ _ _ _ _ ⟨2064 + e.val, by omega⟩))))
  pointwise []
  rfl

/-- A run ends with the five results and the arguments as they were. -/
theorem run_states (ρ : Dev nD → PrngReg) :
    θ_run defs (onTc (τ := τ) (main (F := Ideal))) ⟨m, fun _ => 0, ρ⟩ fun r => ∀ c : Dev nD,
      r.2.mem ((c.tc : Thread nD τ).loc main_v26) = (fun y : S32768x512.Idx => col m c ⟨(y 1).val, by have : (y 1).val < 512 := (y 1).isLt; omega⟩ (y 0))
      ∧ r.2.mem ((c.tc : Thread nD τ).loc main_v27) = (fun y : S32768x512.Idx => col m c ⟨512 + (y 1).val, by have : (y 1).val < 512 := (y 1).isLt; omega⟩ (y 0))
      ∧ r.2.mem ((c.tc : Thread nD τ).loc main_v29) = (fun y : S32768x1024.Idx => col m c ⟨1024 + (y 1).val, by have : (y 1).val < 1024 := (y 1).isLt; omega⟩ (y 0))
      ∧ r.2.mem ((c.tc : Thread nD τ).loc main_v30) = (fun y : S32768x512.Idx => decay (logit m c (y 0) (y 1)))
      ∧ r.2.mem ((c.tc : Thread nD τ).loc main_v33) = (fun y : S32768x1024.Idx => silu (col m c ⟨2064 + (y 1).val, by have : (y 1).val < 1024 := (y 1).isLt; omega⟩ (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun y => q_at m c y),
    (h c).2.1.trans (funext fun y => k_at m c y), (h c).2.2.1.trans (funext fun y => v_at m c y),
    (h c).2.2.2.1.trans ((by unfold Value.res_main_v30; rfl : Value.res_main_v30 m c = _).trans (funext fun y => g_at m c y)),
    (h c).2.2.2.2.1.trans (funext fun y => z_at m c y), (h c).2.2.2.2.2⟩) (Value.run m ρ)

end Cert.GlaProjReferenceIdeal.Core
-- ==== Proof.GlaProjClaim.lean ====
/-
The input projection's claims: the reference's frame, and the kernel's five arrays against the reference's results.
-/
module

public import proofs.«01_k».proof.Defs
public import proofs.«01_k».proof.Proof.GlaProjKernel
public import proofs.«01_k».proof.Proof.GlaProjRef
public import Idealize.ShloMosaic.Lib.Claim
public import Idealize.ShloMosaic.Lib.Quiescent

@[expose] public section

noncomputable section

namespace Cert.GlaProjClaim

open Idealize.ShloMosaic Idealize.ShloMosaic.TcCoe Idealize.SL.Sem

/-- The reference's frame: it runs, keeps its arguments, and has no semaphore. -/
theorem frame_reference : Cert.quiescent_GlaProjReferenceIdeal := fun m g _ =>
  (θ_run Cert.GlaProjReferenceIdeal.defs _ _).mono
    (fun r h => And.intro (fun c => (h c).2.2.2.2.2) (sem_eq_zero_of_no_sems (by decide) r.2))
    (Cert.GlaProjReferenceIdeal.Core.run_states m g)

variable (m : (ℓ : Loc Cert.GlaProjIdeal.nD Cert.GlaProjIdeal.τ Cert.GlaProjIdeal.sig) → Buf (Elt Ideal) ℓ)
  (m' : (ℓ : Loc Cert.GlaProjReferenceIdeal.nD Cert.GlaProjReferenceIdeal.τ Cert.GlaProjReferenceIdeal.sig) → Buf (Elt Ideal) ℓ)
  (c : Dev Cert.GlaProjIdeal.nD)

/-- A projected column is the same function of the same arguments. -/
theorem col_eq
    (h0 : m' ((c.tc : Thread Cert.GlaProjReferenceIdeal.nD Cert.GlaProjReferenceIdeal.τ).loc Cert.GlaProjReferenceIdeal.main_arg0) = m ((c.tc : Thread Cert.GlaProjIdeal.nD Cert.GlaProjIdeal.τ).loc Cert.GlaProjIdeal.main_arg0))
    (h1 : m' ((c.tc : Thread Cert.GlaProjReferenceIdeal.nD Cert.GlaProjReferenceIdeal.τ).loc Cert.GlaProjReferenceIdeal.main_arg1) = m ((c.tc : Thread Cert.GlaProjIdeal.nD Cert.GlaProjIdeal.τ).loc Cert.GlaProjIdeal.main_arg1))
    (h2 : m' ((c.tc : Thread Cert.GlaProjReferenceIdeal.nD Cert.GlaProjReferenceIdeal.τ).loc Cert.GlaProjReferenceIdeal.main_arg2) = m ((c.tc : Thread Cert.GlaProjIdeal.nD Cert.GlaProjIdeal.τ).loc Cert.GlaProjIdeal.main_arg2))
    (e : Fin 3088) (r : Fin 32768) :
    Cert.GlaProjIdeal.Core.col m c e r = Cert.GlaProjReferenceIdeal.Core.col m' c e r := by
  unfold Cert.GlaProjReferenceIdeal.Core.col
  rw [h0, h1, h2]
  rfl

/-- The kernel's results are the reference's. -/
theorem algebraic : Cert.algebraic_GlaProjIdeal_GlaProjReferenceIdeal := by
  intro m g m' g' _ hagree
  refine ⟨_, _, _, _, _, Cert.GlaProjIdeal.Value.run_blocks m g, ?_⟩
  refine (θ_run Cert.GlaProjReferenceIdeal.defs _ _).mono (fun r h c => ⟨(h c).1.trans ?_, (h c).2.1.trans ?_,
    (h c).2.2.1.trans ?_, (h c).2.2.2.1.trans ?_, (h c).2.2.2.2.1.trans ?_, (h c).2.2.2.2.2⟩)
    (Cert.GlaProjReferenceIdeal.Core.run_states m' g')
  all_goals obtain ⟨h0, h1, h2, h3, h4⟩ := hagree c
  all_goals have hc := fun e r => col_eq m m' c h0 h1 h2 e r
  · exact ((Cert.GlaProjIdeal.Core.q_array m c).trans (funext fun y => hc _ _)).symm
  · exact ((Cert.GlaProjIdeal.Core.k_array m c).trans (funext fun y => hc _ _)).symm
  · exact ((Cert.GlaProjIdeal.Core.v_array m c).trans (funext fun y => hc _ _)).symm
  · refine ((Cert.GlaProjIdeal.Core.g_array m c).trans (funext fun y => congrArg Cert.Rows.decay ?_)).symm
    unfold Cert.GlaProjIdeal.Core.logit Cert.GlaProjReferenceIdeal.Core.logit
    rw [h3, h4]
    exact congrArg (· + _) (Finset.sum_congr rfl fun j _ => congrArg (· * _) (hc _ _))
  · exact ((Cert.GlaProjIdeal.Core.z_array m c).trans (funext fun y => congrArg Cert.Rows.silu (hc _ _))).symm

end Cert.GlaProjClaim
-- ==== Proof.NsaMath.lean ====
/-
The second layer's input projection in plain formulas: the columns of the product, the rotary embedding of a head's 64
lanes, and the nine results. Lanes and columns are natural numbers here, so that a tile's arithmetic stays in them.
-/
module

public import proofs.«01_k».proof.Proof.Rows

@[expose] public section

noncomputable section

open Idealize.ShloMosaic

namespace Cert.Nsa

open Cert.Gla Cert.Rows

/-- The operands: activations, positions, the norm's gain, the weight's columns and the gates' bias. -/
structure Args where
  x : Act
  p : Fin 8 → Fin 4096 → BitVec 32
  g : Fin 1024 → EReal
  w : ℕ → Fin 1024 → EReal
  b : ℕ → EReal

/-- The operands as a program's buffers hold them; a column or a lane past the end is zero. -/
def argsOf (x : FVec Ideal ⟨3, ![8, 4096, 1024]⟩ .f32) (p : IVec ⟨2, ![8, 4096]⟩ 32) (g : FVec Ideal ⟨1, ![1024]⟩ .f32)
    (w : FVec Ideal ⟨2, ![1024, 3632]⟩ .f32) (b : FVec Ideal ⟨1, ![48]⟩ .f32) : Args where
  x := fun i r y => x (ix3 i r y)
  p := fun i r => p (ix2 i r)
  g := fun y => g (ix1 y)
  w := fun k y => if h : k < 3632 then w (ix2 y ⟨k, h⟩) else 0
  b := fun j => if h : j < 48 then b (ix1 ⟨j, h⟩) else 0

theorem argsOf_w (x p g) (w : FVec Ideal ⟨2, ![1024, 3632]⟩ .f32) (b) (k : ℕ) (h : k < 3632) (y : Fin 1024) :
    (argsOf x p g w b).w k y = w (ix2 y ⟨k, h⟩) := dif_pos h

theorem argsOf_b (x p g w) (b : FVec Ideal ⟨1, ![48]⟩ .f32) (j : ℕ) (h : j < 48) :
    (argsOf x p g w b).b j = b (ix1 ⟨j, h⟩) := dif_pos h

/-- The normed activations against a column of the weight. -/
def col (I : Args) (b : Fin 8) (r : Fin 4096) (k : ℕ) : EReal := proj I.x I.g (I.w k) b r

/-- The frequency of a pair of lanes. -/
def freq (i : ℕ) : EReal :=
  Ideal.pow (Ideal.ofBits .f32 1176256512#32)
    (Ideal.div (-(Ideal.ofBits .f32 1073741824#32 * FloatOps.sitofp (F := Ideal) .f32 (BitVec.ofNat 32 i)))
      (Ideal.ofBits .f32 1115684864#32))

/-- The angle of a pair of lanes at a position. -/
def angle (p : BitVec 32) (i : ℕ) : EReal := FloatOps.sitofp (F := Ideal) .f32 p * freq i

/-- A head's lanes turned by their angles: the first 32 against the last. -/
def turn (f a : ℕ → EReal) (d : ℕ) : EReal :=
  if d < 32 then f d * Ideal.cos (a d) - f (d + 32) * Ideal.sin (a d)
  else f d * Ideal.cos (a (d - 32)) + f (d - 32) * Ideal.sin (a (d - 32))

/-- Lane `e` of the columns from `o` on, turned within its head of 64. -/
def turned (I : Args) (o : ℕ) (b : Fin 8) (r : Fin 4096) (e : ℕ) : EReal :=
  turn (fun d => col I b r (o + (e / 64 * 64 + d))) (angle (I.p b r)) (e % 64)

/-- The partner's lane and the sign give the turned lane. -/
theorem turn_lane (f a : ℕ → EReal) (l : ℕ) :
    f l * Ideal.cos (a (l % 32)) + (if l % 64 < 32 then f (l + 32) else f (l - 32))
        * (Ideal.sin (a (l % 32)) * (if l % 64 < 32 then (-1 : EReal) else 1))
      = turn (fun d => f (l / 64 * 64 + d)) a (l % 64) := by
  unfold turn
  by_cases h : l % 64 < 32
  · rw [if_pos h, if_pos h, if_pos h, mul_neg, mul_one, mul_neg, ← sub_eq_add_neg]
    beta_reduce
    rw [show l / 64 * 64 + l % 64 = l by omega, show l / 64 * 64 + (l % 64 + 32) = l + 32 by omega,
      show l % 32 = l % 64 by omega]
  · rw [if_neg h, if_neg h, if_neg h, mul_one]
    beta_reduce
    rw [show l / 64 * 64 + l % 64 = l by omega, show l / 64 * 64 + (l % 64 - 32) = l - 32 by omega,
      show l % 32 = l % 64 - 32 by omega]

/-- The queries: turned, and scaled by an eighth of the logarithm of e to base 2. -/
def query (I : Args) (b : Fin 8) (r : Fin 4096) (e : ℕ) : EReal := turned I 0 b r e * Ideal.ofBits .f32 0x3E38AA3B#32

/-- The compression's keys: turned. -/
def keyC (I : Args) (b : Fin 8) (r : Fin 4096) (e : ℕ) : EReal := turned I 1024 b r e

/-- The compression's values. -/
def valC (I : Args) (b : Fin 8) (r : Fin 4096) (e : ℕ) : EReal := col I b r (1280 + e)

/-- The output's gate. -/
def gateZ (I : Args) (b : Fin 8) (r : Fin 4096) (e : ℕ) : EReal := silu (col I b r (2608 + e))

/-- The scale as the two factors one after the other. -/
theorem scale_eq (u : EReal) :
    u * Ideal.ofBits .f32 0x3E000000#32 * Ideal.ofBits .f32 0x3FB8AA3B#32 = u * Ideal.ofBits .f32 0x3E38AA3B#32 := by
  rw [mul_assoc]
  refine congrArg (u * ·) ?_
  have h8 : Ideal.ofBits .f32 0x3E000000#32 = ((1 / 8 : ℝ) : EReal) := by
    simp [Ideal.ofBits, Ideal.ieee, -EReal.coe_mul]; norm_num
  have hl : Ideal.ofBits .f32 0x3FB8AA3B#32 = ((12102203 / 8388608 : ℝ) : EReal) := by
    simp [Ideal.ofBits, Ideal.ieee, -EReal.coe_mul]; norm_num
  have hp : Ideal.ofBits .f32 0x3E38AA3B#32 = ((12102203 / 67108864 : ℝ) : EReal) := by
    simp [Ideal.ofBits, Ideal.ieee, -EReal.coe_mul]; norm_num
  rw [h8, hl, hp, ← EReal.coe_mul]
  norm_num

/-- The position `s` of tile `n`. -/
def posAt (n : Fin 16) (s : Fin 256) : Fin 4096 := ⟨n.val * 256 + s.val, by omega⟩

/-- A group's keys: turned, beside `fill` of the tile's position and the lane. -/
def keys (I : Args) (o : ℕ) (fill : ℕ → ℕ → EReal) (b : Fin 8) (g : Fin 4) (n : Fin 16) (s : Fin 256) (l : ℕ) : EReal :=
  if l < 64 then turned I o b (posAt n s) (g.val * 64 + l) else fill (posAt n s).val (l - 64)

/-- The one-hot number of a position's block of 64. -/
def oneHot (r l : ℕ) : EReal := if l = r / 64 then 1 else 0

/-- The selection's keys: beside them, the one-hot number of the position's block. -/
def keyS (I : Args) : Fin 8 → Fin 4 → Fin 16 → Fin 256 → ℕ → EReal := keys I 1536 oneHot

/-- The window's keys: beside them, zeros. -/
def keyW (I : Args) : Fin 8 → Fin 4 → Fin 16 → Fin 256 → ℕ → EReal := keys I 2048 fun _ _ => 0

/-- A group's values over rows of ones. -/
def vals (I : Args) (o : ℕ) (b : Fin 8) (g : Fin 4) (n : Fin 16) (d : ℕ) (s : Fin 256) : EReal :=
  if d < 64 then col I b (posAt n s) (o + (g.val * 64 + d)) else 1

/-- A group's gates, and a half in the rows that hold none. -/
def gate (I : Args) (b : Fin 8) (g : Fin 4) (j : ℕ) (r : Fin 4096) : EReal :=
  if j < 12 then Ideal.logistic (col I b r (2560 + (g.val * 12 + j)) + I.b (g.val * 12 + j))
  else Ideal.ofBits .f32 0x3F000000#32

/-- A half is the sigmoid of zero. -/
theorem logistic_zero : Ideal.logistic 0 = Ideal.ofBits .f32 0x3F000000#32 := by
  have h : Ideal.exp (-0) = 1 := by
    rw [neg_zero, show (0 : EReal) = ((0 : ℝ) : EReal) from rfl]
    show ((Real.exp 0 : ℝ) : EReal) = 1
    rw [Real.exp_zero, EReal.coe_one]
  have h2 : (1 : EReal) + 1 = ((2 : ℝ) : EReal) := by
    rw [← EReal.coe_one, ← EReal.coe_add]; norm_num
  have hf : Ideal.ofBits .f32 0x3F000000#32 = ((1 / 2 : ℝ) : EReal) := by
    simp [Ideal.ofBits, Ideal.ieee, -EReal.coe_mul]; norm_num
  unfold Ideal.logistic
  rw [h, h2, hf]
  unfold Ideal.div
  rw [if_neg (by norm_num), one_mul, ← EReal.coe_inv]
  norm_num

end Cert.Nsa
-- ==== Proof.NsaBlk.lean ====
/-
The second layer's projection: the host's operands in plain words, and what the blocks of a grid point hold of them.
-/
module

public import proofs.«01_k».proof.Proof.Gen.NsaProjIdeal.Value
public import proofs.«01_k».proof.Proof.NsaMath
public import Idealize.ShloMosaic.Lib.IdealHost

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- The operands. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4))

/-- The rows' and the positions' windows, and the row outputs', follow the grid: batch entry, then tile. -/
theorem idx_row : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_8.index t (0 : Fin 3) = t.val / 8 ∧ win0_8.index t (1 : Fin 3) = t.val % 8 ∧ win0_8.index t (2 : Fin 3) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_16.index t (0 : Fin 3) = t.val / 8 ∧ win0_16.index t (1 : Fin 3) = t.val % 8 ∧ win0_16.index t (2 : Fin 3) = 0) :=
  (by decide +kernel : ∀ t : Fin grid0.N, _)

/-- The grouped outputs' windows follow the grid: batch entry, every group, then two tiles of 256, or 512 positions. -/
theorem idx_group : ∀ t : Fin cfg0.N,
    (win0_11.index t (0 : Fin 5) = t.val / 8 ∧ win0_11.index t (1 : Fin 5) = 0 ∧ win0_11.index t (2 : Fin 5) = t.val % 8
      ∧ win0_11.index t (3 : Fin 5) = 0 ∧ win0_11.index t (4 : Fin 5) = 0)
    ∧ (win0_12.index t (0 : Fin 5) = t.val / 8 ∧ win0_12.index t (1 : Fin 5) = 0 ∧ win0_12.index t (2 : Fin 5) = t.val % 8
      ∧ win0_12.index t (3 : Fin 5) = 0 ∧ win0_12.index t (4 : Fin 5) = 0)
    ∧ (win0_13.index t (0 : Fin 5) = t.val / 8 ∧ win0_13.index t (1 : Fin 5) = 0 ∧ win0_13.index t (2 : Fin 5) = t.val % 8
      ∧ win0_13.index t (3 : Fin 5) = 0 ∧ win0_13.index t (4 : Fin 5) = 0)
    ∧ (win0_14.index t (0 : Fin 5) = t.val / 8 ∧ win0_14.index t (1 : Fin 5) = 0 ∧ win0_14.index t (2 : Fin 5) = t.val % 8
      ∧ win0_14.index t (3 : Fin 5) = 0 ∧ win0_14.index t (4 : Fin 5) = 0)
    ∧ (win0_15.index t (0 : Fin 4) = t.val / 8 ∧ win0_15.index t (1 : Fin 4) = 0 ∧ win0_15.index t (2 : Fin 4) = 0
      ∧ win0_15.index t (3 : Fin 4) = t.val % 8) :=
  (by decide +kernel : ∀ t : Fin grid0.N, _)

/-- The whole operands' windows stay in place. -/
theorem idx_one : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- A grid point's batch entry. -/
def bAt (t : Fin cfg0.N) : Fin 8 := ⟨t.val / 8, by have := lt_of_lt_of_eq t.isLt N_0; omega⟩

/-- Row `r` of a grid point's block, as a position. -/
def rAt (t : Fin cfg0.N) (r : Fin 512) : Fin 4096 := ⟨t.val % 8 * 512 + r.val, by omega⟩

/-- The concatenated weight: the columns before the gates', then those behind them. -/
def wMain (w : FVec Ideal S1024x3632 .f32) : FVec Ideal S1024x3584 .bf16 :=
  truncf .bf16 (concatenate S1024x3584 1 [⟨S1024x2560, extractStridedSlice S1024x2560 ![0, 0] w slices_S1024x3632_S1024x2560_0_0⟩,
    ⟨S1024x1024, extractStridedSlice S1024x1024 ![0, 2608] w slices_S1024x3632_S1024x1024_0_2608⟩]
    concatenates_S1024x2560_S1024x1024_S1024x3584_d1) bitsLt_bf16_f32

/-- The gates' columns, a group of 12 padded to 16 and the four groups to the lanes. -/
def wGate (w : FVec Ideal S1024x3632 .f32) : FVec Ideal S1024x128 .bf16 :=
  truncf .bf16 (pad S1024x128 ![0, 0] ![0, 64] ![0, 0] (shapeCast S1024x64 (pad S1024x4x16 ![0, 0, 0] ![0, 0, 4] ![0, 0, 0]
    (shapeCast S1024x4x12 (extractStridedSlice S1024x48 ![0, 2560] w slices_S1024x3632_S1024x48_0_2560) shapeCasts_S1024x48_S1024x4x12)
    (sitofp .f32 (constantI S_ 32 0#32)) pads_S1024x4x12_S1024x4x16_000_000_040 h_S_) shapeCasts_S1024x4x16_S1024x64)
    (sitofp .f32 (constantI S_ 32 0#32)) pads_S1024x64_S1024x128_000_0640 h_S_) bitsLt_bf16_f32

/-- The gates' bias, padded the same way. -/
def bGate (b : FVec Ideal S48 .f32) : FVec Ideal S1x128 .f32 :=
  shapeCast S1x128 (pad S128 ![0] ![64] ![0] (shapeCast S64 (pad S4x16 ![0, 0] ![0, 4] ![0, 0]
    (shapeCast S4x12 b shapeCasts_S48_S4x12) (sitofp .f32 (constantI S_ 32 0#32)) pads_S4x12_S4x16_000_040 h_S_)
    shapeCasts_S4x16_S64) (sitofp .f32 (constantI S_ 32 0#32)) pads_S64_S128_0640 h_S_) shapeCasts_S128_S1x128

/-- The rotation's frequencies, one per pair of lanes, over the lanes. -/
def freqs : FVec Ideal S1x128 .f32 :=
  shapeCast S1x128 (shapeCast S128 (broadcastInDim S4x32 ![0, 1] bcast_S1x32_S4x32_0_1 (shapeCast S1x32
    (Host.powf (broadcastInDim S32 ![] bcast_S_S32 (constant S_ .f32 0x461C4000#32))
      (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
        (broadcastInDim S32 ![] bcast_S_S32 (constant S_ .f32 0x42800000#32)))) shapeCasts_S32_S1x32))
    shapeCasts_S4x32_S128) shapeCasts_S128_S1x128

/-- The lanes' numbers within their head. -/
def laneRem : IVec S128 32 :=
  have n : IVec S_ 32 := select (cmpi .eq (id (constantI S_ 32 64#32)) (constantI S_ 32 0#32)) (constantI S_ 32 1#32)
    (id (constantI S_ 32 64#32))
  have r : IVec S128 32 := Host.remsi (iotaInDim S128 32 0) (broadcastInDim S128 ![] bcast_S_S128 n)
  select (andi (cmpi .ne (cmpi .slt r (broadcastInDim S128 ![] bcast_S_S128 (constantI S_ 32 0#32)))
      (broadcastInDim S128 ![] bcast_S_S128 (cmpi .slt n (constantI S_ 32 0#32))))
      (cmpi .ne r (broadcastInDim S128 ![] bcast_S_S128 (constantI S_ 32 0#32))))
    (addi r (broadcastInDim S128 ![] bcast_S_S128 n)) r

/-- The lanes of a head's first half. -/
def laneLow : IVec S128 1 := cmpi .slt laneRem (broadcastInDim S128 ![] bcast_S_S128 (constantI S_ 32 32#32))

/-- The rotation's signs. -/
def signs : FVec Ideal S1x128 .f32 :=
  shapeCast S1x128 (select laneLow (broadcastInDim S128 ![] bcast_S_S128 (constant S_ .f32 0xBF800000#32))
    (broadcastInDim S128 ![] bcast_S_S128 (constant S_ .f32 0x3F800000#32))) shapeCasts_S128_S1x128

/-- Column `e` of the concatenated weight, among all columns. -/
def colMain (e : ℕ) : ℕ := if e < 2560 then e else e + 48

theorem colMain_lt (e : Fin 3584) : colMain e.val < 3632 := by unfold colMain; split <;> omega

theorem pad_zero : (FloatOps.sitofp (F := Ideal) .f32 (0#32) : EReal) = 0 := by
  show ((((0#32 : BitVec 32).toInt : ℝ)) : EReal) = 0
  simp

theorem wMain_at (w : FVec Ideal S1024x3632 .f32) (y : Fin 1024) (e : Fin 3584) :
    wMain w (ix2 y e) = w (ix2 y ⟨colMain e.val, colMain_lt e⟩) := by
  pointwise [wMain, colMain]
  split <;> congr 2 <;> apply Fin.ext <;> simp only [] <;> omega

theorem wGate_at (w : FVec Ideal S1024x3632 .f32) (y : Fin 1024) (l : Fin 128) : wGate w (ix2 y l)
    = if h : l.val < 64 ∧ l.val % 16 < 12 then w (ix2 y ⟨2560 + (l.val / 16 * 12 + l.val % 16), by omega⟩) else 0 := by
  pointwise [wGate]
  simp only [pad_zero]
  split_ifs <;> first | rfl | omega

theorem bGate_at (b : FVec Ideal S48 .f32) (l : Fin 128) : bGate b (ix2 0 l)
    = if h : l.val < 64 ∧ l.val % 16 < 12 then b (ix1 ⟨l.val / 16 * 12 + l.val % 16, by omega⟩) else 0 := by
  pointwise [bGate]
  simp only [pad_zero]
  split_ifs <;> first | rfl | omega

theorem freqs_at (l : Fin 128) : freqs (ix2 0 l) = freq (l.val % 32) := by
  pointwise [freqs]
  rfl

theorem laneLow_at : ∀ l : Fin 128, laneLow (ix1 l) = if l.val % 64 < 32 then 1#1 else 0#1 := by decide +kernel

theorem signs_at (l : Fin 128) : signs (ix2 0 l) = if l.val % 64 < 32 then -1 else 1 := by
  pointwise [signs]
  rw [laneLow_at]
  have hn : Ideal.ofBits .f32 3212836864#32 = -1 := IdealRules.sign_bit.ideal_negOnePat .f32
  split_ifs
  · exact hn
  · rfl

set_option maxHeartbeats 1600000 in
theorem entry_g : V m c main_v37 = shapeCast S1x1024 (m ((c : Thread nD τ).loc main_arg2)) shapeCasts_S1024_S1x1024 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_p : V m c main_v36 = shapeCast S8x4096x1 (m ((c : Thread nD τ).loc main_arg1)) shapeCasts_S8x4096_S8x4096x1 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_w : V m c main_v3 = wMain (m ((c : Thread nD τ).loc main_arg3)) := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_wg : V m c main_v9 = wGate (m ((c : Thread nD τ).loc main_arg3)) := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_bg : V m c main_v14 = bGate (m ((c : Thread nD τ).loc main_arg4)) := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_f : V m c main_v28 = freqs := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

set_option maxHeartbeats 1600000 in
theorem entry_s : V m c main_v35 = signs := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  simp only [StableHlo.TRef.nullary, StableHlo.TRef.unary, StableHlo.TRef.binary, StableHlo.TRef.ternary,
    StableHlo.TRef.toBuf, StableHlo.TRef.ofBuf, cast_eq]
  after_results_simp <;> rfl

theorem blk_x (t : Fin cfg0.N) (r : Fin 512) (y : Fin 1024) :
    iblk m c 0 t (ix3 0 r y) = (args m c).x (bAt t) (rAt t r) y := by
  have h := (idx_row t).1
  unfold args argsOf bAt rAt
  blk_simp [iblk]
  blk_ext [h]

theorem pos_at (p : IVec S8x4096 32) (b : Fin 8) (r : Fin 4096) :
    shapeCast S8x4096x1 p shapeCasts_S8x4096_S8x4096x1 (ix3 b r 0) = p (ix2 b r) := by
  pointwise []
  blk_ext []

theorem blk_p (t : Fin cfg0.N) (r : Fin 512) : iblk m c 1 t (ix3 0 r 0) = (args m c).p (bAt t) (rAt t r) := by
  have h := (idx_row t).2.1
  refine Eq.trans ?_ (pos_at (m ((c : Thread nD τ).loc main_arg1)) (bAt t) (rAt t r))
  rw [← entry_p m c]
  unfold bAt rAt
  blk_simp [iblk]
  blk_ext [h]

theorem blk_g (t : Fin cfg0.N) (y : Fin 1024) : iblk m c 2 t (ix2 0 y) = (args m c).g y := by
  have h := (idx_one t).1
  unfold args argsOf
  blk_simp [iblk]
  rw [entry_g]
  pointwise []
  blk_ext [h]

theorem blk_f (t : Fin cfg0.N) (l : Fin 128) : iblk m c 3 t (ix2 0 l) = freq (l.val % 32) := by
  have h := (idx_one t).2.1
  rw [← freqs_at, ← entry_f m c]
  blk_simp [iblk]
  blk_ext [h]

theorem blk_s (t : Fin cfg0.N) (l : Fin 128) : iblk m c 4 t (ix2 0 l) = (if l.val % 64 < 32 then -1 else 1 : EReal) := by
  have h := (idx_one t).2.2.1
  rw [← signs_at, ← entry_s m c]
  blk_simp [iblk]
  blk_ext [h]

theorem blk_w (t : Fin cfg0.N) (y : Fin 1024) (e : Fin 3584) :
    iblk m c 5 t (ix2 y e) = (args m c).w (colMain e.val) y := by
  have h := (idx_one t).2.2.2.1
  refine Eq.trans (Eq.trans ?_ (wMain_at _ y e)) (argsOf_w _ _ _ _ _ _ (colMain_lt e) y).symm
  rw [← entry_w m c]
  blk_simp [iblk]
  blk_ext [h]

theorem blk_wg (t : Fin cfg0.N) (y : Fin 1024) (l : Fin 128) : iblk m c 6 t (ix2 y l)
    = (if l.val < 64 ∧ l.val % 16 < 12 then (args m c).w (2560 + (l.val / 16 * 12 + l.val % 16)) y else 0 : EReal) := by
  have h := (idx_one t).2.2.2.2.1
  refine Eq.trans (b := wGate (m ((c : Thread nD τ).loc main_arg3)) (ix2 y l)) ?_ ?_
  · rw [← entry_wg m c]
    blk_simp [iblk]
    blk_ext [h]
  · rw [wGate_at]
    by_cases h : l.val < 64 ∧ l.val % 16 < 12
    · rw [dif_pos h, if_pos h]
      exact (argsOf_w _ _ _ _ _ _ (by omega) y).symm
    · rw [dif_neg h, if_neg h]

theorem blk_bg (t : Fin cfg0.N) (l : Fin 128) : iblk m c 7 t (ix2 0 l)
    = (if l.val < 64 ∧ l.val % 16 < 12 then (args m c).b (l.val / 16 * 12 + l.val % 16) else 0 : EReal) := by
  have h := (idx_one t).2.2.2.2.2
  refine Eq.trans (b := bGate (m ((c : Thread nD τ).loc main_arg4)) (ix2 0 l)) ?_ ?_
  · rw [← entry_bg m c]
    blk_simp [iblk]
    blk_ext [h]
  · rw [bGate_at]
    by_cases h : l.val < 64 ∧ l.val % 16 < 12
    · rw [dif_pos h, if_pos h]
      exact (argsOf_b _ _ _ _ _ _ (by omega)).symm
    · rw [dif_neg h, if_neg h]

end Cert.NsaProjIdeal.Core
-- ==== Proof.NsaWords.lean ====
/-
The second layer's projection kernel in words: the product with a segment of columns, its halves of 128 lanes, and their
rotation, each with its entries.
-/
module

public import proofs.«01_k».proof.Proof.NsaBlk

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- The normed block of a grid point. -/
def normed (t : Fin cfg0.N) : FVec Ideal S512x1024 .bf16 := k0_pay1 (iblk m c 0 t) (iblk m c 2 t)

theorem normed_at (t : Fin cfg0.N) (r : Fin 512) (y : Fin 1024) :
    normed m c t (ix2 r y) = rms 1149239296#32 ((args m c).x (bAt t) (rAt t r)) (args m c).g y := by
  unfold normed
  pointwise [k0_pay1]
  simp only [blk_x, blk_g]
  rfl

/-- The weight holds 256 columns from `o` on. -/
abbrev Fits (o : ℕ) : Prop := ∀ a, (![0, o] : Fin 2 → Nat) a + S1024x256.size a ≤ S1024x3584.size a

/-- A segment holds 128 columns from `a` on. -/
abbrev Takes (a : ℕ) : Prop := S512x256.Slices ![0, a] S512x128

/-- The weight's 256 columns from `o` on. -/
def cols (t : Fin cfg0.N) (o : ℕ) (h : Fits o) :
    FVec Ideal S1024x256 .bf16 := View.ld (iblk m c 5 t) (Rect.unit ![0, o] ![1024, 256] h)

theorem cols_at (t : Fin cfg0.N) (o : ℕ) (h) (y : Fin 1024) (e : Fin 256) :
    cols m c t o h (ix2 y e) = (args m c).w (colMain (o + e.val)) y := by
  have ho : o + 256 ≤ 3584 := h 1
  refine Eq.trans (congrArg (iblk m c 5 t) ?_) (blk_w m c t y ⟨o + e.val, by omega⟩)
  funext a
  refine Fin.ext ?_
  match a with
  | ⟨0, _⟩ => show 0 + 1 * y.val = y.val; omega
  | ⟨1, _⟩ => show o + 1 * e.val = o + e.val; omega

/-- The normed block against those columns. -/
def seg (t : Fin cfg0.N) (o : ℕ) (h : Fits o) :
    FVec Ideal S512x256 .f32 :=
  matmul dot_S512x1024_S1024x256_S512x256_1_0_0_1_n_n none (normed m c t)
    (shapeCast S1024x256 (cols m c t o h) shapeCasts_S1024x256_S1024x256)
    (constant S512x256 .f32 0x00000000#32)

theorem seg_at (t : Fin cfg0.N) (o : ℕ) (h) (r : Fin 512) (e : Fin 256) :
    seg m c t o h (ix2 r e) = col (args m c) (bAt t) (rAt t r) (colMain (o + e.val)) := by
  unfold seg
  pointwise []
  simp only [normed_at, cols_at]
  rfl

/-- Its 128 columns from `a` on. -/
def half (t : Fin cfg0.N) (o a : ℕ) (h : Fits o)
    (ha : Takes a) : FVec Ideal S512x128 .f32 :=
  extractStridedSlice S512x128 ![0, a] (seg m c t o h) ha

theorem half_at (t : Fin cfg0.N) (o a : ℕ) (h) (ha) (hb : o + a + 128 ≤ 2560) (r : Fin 512) (l : Fin 128) :
    half m c t o a h ha (ix2 r l) = col (args m c) (bAt t) (rAt t r) (o + a + l.val) := by
  have hs : a + 128 ≤ 256 := ha.2 1
  unfold half
  pointwise []
  rw [seg_at, show colMain (o + (a + l.val)) = o + a + l.val by unfold colMain; rw [if_pos (by omega)]; omega]

/-- The cosines, the signed sines and the mask of a head's first half, over a grid point's rows and the lanes. -/
def cosW (t : Fin cfg0.N) : FVec Ideal S512x128 .f32 := k0_pay56 (iblk m c 1 t) (iblk m c 3 t)
/-- The signed sines. -/
def sinW (t : Fin cfg0.N) : FVec Ideal S512x128 .f32 := k0_pay57 (iblk m c 1 t) (iblk m c 3 t) (iblk m c 4 t)
/-- The lanes of a head's first half. -/
def lowW (t : Fin cfg0.N) : IVec S1x128 1 := k0_pay58 (F := Ideal) (iblk m c 4 t)

theorem cosW_at (t : Fin cfg0.N) (r : Fin 512) (l : Fin 128) :
    cosW m c t (ix2 r l) = Ideal.cos (angle ((args m c).p (bAt t) (rAt t r)) (l.val % 32)) := by
  unfold cosW
  pointwise [k0_pay56, k0_pay55]
  rw [blk_p, blk_f]
  rfl

theorem sinW_at (t : Fin cfg0.N) (r : Fin 512) (l : Fin 128) :
    sinW m c t (ix2 r l) = Ideal.sin (angle ((args m c).p (bAt t) (rAt t r)) (l.val % 32))
      * (if l.val % 64 < 32 then -1 else 1) := by
  unfold sinW
  pointwise [k0_pay57, k0_pay55]
  rw [blk_p, blk_f, blk_s]
  rfl

theorem lowW_at (t : Fin cfg0.N) (l : Fin 128) : lowW m c t (ix2 0 l) = if l.val % 64 < 32 then 1#1 else 0#1 := by
  unfold lowW
  pointwise [k0_pay58]
  rw [blk_s]
  split_ifs
  · rw [decide_eq_true (show (-1 : EReal) < 0 by norm_num [EReal.neg_lt_zero])]; rfl
  · rw [decide_eq_false (show ¬ (1 : EReal) < 0 by norm_num)]; rfl

/-- A half turned: itself by the cosines, and its partners' lanes by the signed sines. -/
def rope (t : Fin cfg0.N) (Y : FVec Ideal S512x128 .f32) : FVec Ideal S512x128 .f32 :=
  addf (mulf Y (cosW m c t)) (mulf (select
    (broadcastTo S512x128 (shapeCast S1x128 (lowW m c t) shapeCasts_S1x128_S1x128) broadcasts_S1x128_S512x128)
    (dynamicRotate 1 96#32 none Y rotates_S512x128_d1) (dynamicRotate 1 32#32 none Y rotates_S512x128_d1)) (sinW m c t))

theorem rope_at (t : Fin cfg0.N) (Y : FVec Ideal S512x128 .f32) (f : ℕ → EReal) (r : Fin 512) (l : Fin 128)
    (hf : ∀ l : Fin 128, Y (ix2 r l) = f l.val) :
    rope m c t Y (ix2 r l) = turn (fun d => f (l.val / 64 * 64 + d)) (angle ((args m c).p (bAt t) (rAt t r))) (l.val % 64) := by
  rw [← turn_lane]
  unfold rope
  pointwise [Pointwise.dynamicRotate_apply]
  rw [cosW_at, sinW_at, lowW_at, hf, hf, hf]
  by_cases h : l.val % 64 < 32
  · rw [if_pos h, if_pos h, if_pos h]
    show _ + f ((l.val + 128 - 96) % 128) * _ = _
    rw [show (l.val + 128 - 96) % 128 = l.val + 32 by omega]
  · rw [if_neg h, if_neg h, if_neg h]
    show _ + f ((l.val + 128 - 32) % 128) * _ = _
    rw [show (l.val + 128 - 32) % 128 = l.val - 32 by omega]

/-- The turned columns of a half, from column `o + a` on: lanes `k` and on of the columns from `base` on. -/
theorem rope_half_at (t : Fin cfg0.N) (o a : ℕ) (h) (ha) (base k : ℕ) (hb : o + a + 128 ≤ 2560) (hk : base + k = o + a)
    (h64 : k % 64 = 0) (r : Fin 512) (l : Fin 128) :
    rope m c t (half m c t o a h ha) (ix2 r l) = turned (args m c) base (bAt t) (rAt t r) (k + l.val) := by
  rw [rope_at m c t _ (fun l => col (args m c) (bAt t) (rAt t r) (o + a + l)) r l fun l => half_at m c t o a h ha hb r l]
  unfold turned
  rw [show (k + l.val) % 64 = l.val % 64 by omega]
  refine congrArg (fun f => turn f _ _) (funext fun d => congrArg (col _ _ _) ?_)
  omega

end Cert.NsaProjIdeal.Core
-- ==== Proof.NsaRows.lean ====
/-
The second layer's projection kernel: the queries, the compression's keys and values and the output's gate, at every row
and lane.
-/
module

public import proofs.«01_k».proof.Proof.NsaWords

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- A segment of the gate. -/
def zPiece (t : Fin cfg0.N) (o : ℕ) (h : Fits o) : FVec Ideal S1x512x256 .bf16 :=
  shapeCast S1x512x256 (truncf .bf16 (mulf (seg m c t o h) (logistic (seg m c t o h))) bitsLt_bf16_f32)
    shapeCasts_S512x256_S1x512x256

theorem zPiece_at (t : Fin cfg0.N) (o : ℕ) (h) (x : S1x512x256.Idx) (y : S1x512x1024.Idx) (h1 : (y 1).val = (x 1).val)
    (h2 : o + (x 2).val = 2560 + (y 2).val) :
    zPiece m c t o h x = gateZ (args m c) (bAt t) (rAt t (y 1)) (y 2).val := by
  idx_vars x
  have e1 : y 1 = x1 := Fin.ext h1
  rw [e1]
  unfold zPiece gateZ
  pointwise []
  rw [seg_at, show o + x2.val = 2560 + (y 2).val from h2, show colMain (2560 + (y 2).val) = 2608 + (y 2).val by
    unfold colMain; rw [if_neg (by omega)]; omega]
  rfl

theorem z_block (t : Fin cfg0.N) (y : S1x512x1024.Idx) :
    (outsAt0 m c t).2.2.2.2.2.2.2.2 y = gateZ (args m c) (bAt t) (rAt t (y 1)) (y 2).val := by
  unfold outsAt0; dsimp only; unfold out0_A_16; frame_out
  canon_tiles x h
  all_goals exact zPiece_at m c t _ _ x y h1 (by omega)

/-- The compression's values. -/
def vPiece (t : Fin cfg0.N) (h : Fits 1280) : FVec Ideal S1x512x256 .f32 :=
  shapeCast S1x512x256 (seg m c t 1280 h) shapeCasts_S512x256_S1x512x256

theorem vPiece_at (t : Fin cfg0.N) (h : Fits 1280) (y : S1x512x256.Idx) :
    vPiece m c t h y = valC (args m c) (bAt t) (rAt t (y 1)) (y 2).val := by
  idx_vars y
  unfold vPiece valC
  pointwise []
  rw [seg_at, show colMain (1280 + y2.val) = 1280 + y2.val by unfold colMain; rw [if_pos (by omega)]]

theorem v_block (t : Fin cfg0.N) (y : S1x512x256.Idx) :
    (outsAt0 m c t).2.2.1 y = valC (args m c) (bAt t) (rAt t (y 1)) (y 2).val := by
  unfold outsAt0; dsimp only; unfold out0_A_10; frame_out
  exact vPiece_at m c t _ y

/-- Half a segment of the queries. -/
def qPiece (t : Fin cfg0.N) (o a : ℕ) (h : Fits o) (ha : Takes a) : FVec Ideal S1x512x128 .bf16 :=
  shapeCast S1x512x128 (truncf .bf16 (mulf (rope m c t (half m c t o a h ha))
    (broadcast S512x128 (Scalar.ofBits .f32 0x3E38AA3B#32 : Ideal .f32))) bitsLt_bf16_f32) shapeCasts_S512x128_S1x512x128

theorem qPiece_at (t : Fin cfg0.N) (o a : ℕ) (h) (ha) (x : S1x512x128.Idx) (y : S1x512x1024.Idx)
    (h1 : (y 1).val = (x 1).val) (h2 : o + a + (x 2).val = (y 2).val) (hb : o + a + 128 ≤ 2560) (h64 : (o + a) % 64 = 0) :
    qPiece m c t o a h ha x = query (args m c) (bAt t) (rAt t (y 1)) (y 2).val := by
  idx_vars x
  have e1 : y 1 = x1 := Fin.ext h1
  rw [e1]
  unfold qPiece query
  pointwise []
  rw [rope_half_at m c t o a h ha 0 (o + a) hb (Nat.zero_add _) h64, show o + a + x2.val = (y 2).val from h2]

theorem q_block (t : Fin cfg0.N) (y : S1x512x1024.Idx) :
    (outsAt0 m c t).1 y = query (args m c) (bAt t) (rAt t (y 1)) (y 2).val := by
  unfold outsAt0; dsimp only; unfold out0_A_8; frame_out
  canon_tiles x h
  all_goals exact qPiece_at m c t _ _ _ _ x y h1 (by omega) (by omega) (by omega)

/-- Half a segment of the compression's keys. -/
def kPiece (t : Fin cfg0.N) (o a : ℕ) (h : Fits o) (ha : Takes a) : FVec Ideal S1x512x128 .f32 :=
  shapeCast S1x512x128 (rope m c t (half m c t o a h ha)) shapeCasts_S512x128_S1x512x128

theorem kPiece_at (t : Fin cfg0.N) (a : ℕ) (h) (ha) (x : S1x512x128.Idx) (y : S1x512x256.Idx)
    (h1 : (y 1).val = (x 1).val) (h2 : a + (x 2).val = (y 2).val) (hb : a ≤ 128) (h64 : a % 64 = 0) :
    kPiece m c t 1024 a h ha x = keyC (args m c) (bAt t) (rAt t (y 1)) (y 2).val := by
  idx_vars x
  have e1 : y 1 = x1 := Fin.ext h1
  rw [e1]
  unfold kPiece keyC
  pointwise []
  rw [rope_half_at m c t 1024 a h ha 1024 a (by omega) rfl h64, show a + x2.val = (y 2).val from h2]

theorem k_block (t : Fin cfg0.N) (y : S1x512x256.Idx) :
    (outsAt0 m c t).2.1 y = keyC (args m c) (bAt t) (rAt t (y 1)) (y 2).val := by
  unfold outsAt0; dsimp only; unfold out0_A_9; frame_out
  canon_tiles x h
  all_goals exact kPiece_at m c t _ _ _ x y h1 (by omega) (by omega) (by omega)

end Cert.NsaProjIdeal.Core
-- ==== Proof.NsaVals.lean ====
/-
The second layer's projection kernel: the gates, and the values over rows of ones, transposed.
-/
module

public import proofs.«01_k».proof.Proof.NsaWords

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- Tile `j` of a grid point's two. -/
def nAt (t : Fin cfg0.N) (j : Fin 2) : Fin 16 := ⟨t.val % 8 * 2 + j.val, by omega⟩

theorem posAt_nAt (t : Fin cfg0.N) (j : Fin 2) (s : Fin 256) :
    posAt (nAt t j) s = rAt t ⟨j.val * 256 + s.val, by omega⟩ := by
  unfold posAt nAt rAt
  apply Fin.ext
  simp only []
  omega

/-- The gates of a grid point, the lanes first. -/
def gates (t : Fin cfg0.N) : FVec Ideal S128x512 .f32 := k0_pay49 (normed m c t) (iblk m c 6 t) (iblk m c 7 t)

theorem gates_at (t : Fin cfg0.N) (l : Fin 128) (r : Fin 512) (g : Fin 4) (j : ℕ) (hj : j < 16)
    (hl : l.val = 16 * g.val + j) : gates m c t (ix2 l r) = gate (args m c) (bAt t) g j (rAt t r) := by
  unfold gates gate
  pointwise [k0_pay49]
  simp only [normed_at, blk_wg, blk_bg]
  have e1 : l.val / 16 = g.val := by omega
  have e2 : l.val % 16 = j := by omega
  rw [e1, e2]
  by_cases h : j < 12
  · rw [if_pos h, if_pos ⟨by omega, h⟩]
    simp only [if_pos (show l.val < 64 ∧ j < 12 from ⟨by omega, h⟩)]
    rfl
  · rw [if_neg h, ← logistic_zero, if_neg fun w => h w.2]
    simp only [if_neg (show ¬ (l.val < 64 ∧ j < 12) from fun w => h w.2), mul_zero, Finset.sum_const_zero, add_zero]

/-- A group's 16 rows of the gates. -/
def gPiece (t : Fin cfg0.N) (o : ℕ) (ho : S128x512.Slices ![o, 0] S16x512) : FVec Ideal S1x1x16x512 .f32 :=
  shapeCast S1x1x16x512 (extractStridedSlice S16x512 ![o, 0] (gates m c t) ho) shapeCasts_S16x512_S1x1x16x512

theorem gPiece_at (t : Fin cfg0.N) (o : ℕ) (ho) (x : S1x1x16x512.Idx) (y : S1x4x16x512.Idx)
    (h1 : o + 16 * (x 1).val = 16 * (y 1).val) (h2 : (y 2).val = (x 2).val) (h3 : (y 3).val = (x 3).val) :
    gPiece m c t o ho x = gate (args m c) (bAt t) (y 1) (y 2).val (rAt t (y 3)) := by
  idx_vars x
  have e2 : y 2 = x2 := Fin.ext h2
  have e3 : y 3 = x3 := Fin.ext h3
  have hx : x1.val = 0 := Nat.lt_one_iff.mp x1.isLt
  have h1' : o + 16 * x1.val = 16 * (y 1).val := h1
  rw [e2, e3]
  unfold gPiece
  pointwise []
  exact gates_at m c t _ x3 (y 1) x2.val x2.isLt (by simp only []; omega)

theorem gt_block (t : Fin cfg0.N) (y : S1x4x16x512.Idx) :
    (outsAt0 m c t).2.2.2.2.2.2.2.1 y = gate (args m c) (bAt t) (y 1) (y 2).val (rAt t (y 3)) := by
  unfold outsAt0; dsimp only; unfold out0_A_15; frame_out
  canon_tiles x h
  all_goals exact gPiece_at m c t _ (by decide) x y (by omega) h2 h3

/-- A group's values of a tile, lanes first. -/
def vtPiece (t : Fin cfg0.N) (o a b p : ℕ) (h : Fits o) (ha : Takes a) (hb : S128x512.Slices ![b, p] S64x256) :
    FVec Ideal S1x1x1x64x256 .bf16 :=
  shapeCast S1x1x1x64x256 (truncf .bf16 (extractStridedSlice S64x256 ![b, p]
    (transpose S128x512 [1, 0] (half m c t o a h ha) transposes_S512x128_p1_0_S128x512) hb) bitsLt_bf16_f32)
    shapeCasts_S64x256_S1x1x1x64x256

theorem vtPiece_at (t : Fin cfg0.N) (o a b p : ℕ) (h) (ha) (hb) (x : S1x1x1x64x256.Idx) (g : Fin 4) (j : Fin 2) (d : ℕ)
    (s : Fin 256) (ho : o ≤ 2304) (h1 : a + b + 64 * (x 1).val = 64 * g.val) (h2 : p + 256 * (x 2).val = 256 * j.val)
    (h3 : d = (x 3).val) (h4 : s.val = (x 4).val) :
    vtPiece m c t o a b p h ha hb x = vals (args m c) o (bAt t) g (nAt t j) d s := by
  idx_vars x
  have e4 : s = x4 := Fin.ext h4
  have e3 : d = x3.val := h3
  have hx1 : x1.val = 0 := Nat.lt_one_iff.mp x1.isLt
  have hx2 : x2.val = 0 := Nat.lt_one_iff.mp x2.isLt
  have h1' : a + b + 64 * x1.val = 64 * g.val := h1
  have h2' : p + 256 * x2.val = 256 * j.val := h2
  have hs : a + 128 ≤ 256 := ha.2 1
  have hp : p + 256 ≤ 512 := hb.2 1
  unfold vals
  rw [e4, e3, if_pos x3.isLt, posAt_nAt]
  unfold vtPiece
  pointwise []
  rw [half_at m c t o a h ha (by omega)]
  rw [show o + a + (b + x3.val) = o + (g.val * 64 + x3.val) by omega]
  refine congrArg (fun r => col (args m c) (bAt t) (rAt t r) _) (Fin.ext ?_)
  show p + x4.val = j.val * 256 + x4.val
  omega

/-- The rows of ones. -/
def oPiece : FVec Ideal S1x1x1x16x256 .bf16 :=
  shapeCast S1x1x1x16x256 (broadcast S16x256 (Scalar.ofBits .bf16 0x3F80#16 : Ideal .bf16)) shapeCasts_S16x256_S1x1x1x16x256

theorem oPiece_at (I : Args) (o : ℕ) (b : Fin 8) (g : Fin 4) (n : Fin 16) (d : ℕ) (s : Fin 256) (x : S1x1x1x16x256.Idx)
    (hd : 64 ≤ d) : oPiece x = vals I o b g n d s := by
  unfold vals oPiece
  rw [if_neg (by omega)]
  idx_vars x
  pointwise []

theorem vs_block (t : Fin cfg0.N) (y : S1x4x2x80x256.Idx) :
    (outsAt0 m c t).2.2.2.2.2.1 y = vals (args m c) 1792 (bAt t) (y 1) (nAt t (y 2)) (y 3).val (y 4) := by
  unfold outsAt0; dsimp only; unfold out0_A_13; frame_out
  canon_tiles x h using View.cover_of_tiledBy (s := S1x4x2x80x256) _ ![1, 1, 1, 16, 256] (by sl_kernel_rfl) _
  all_goals first
    | exact oPiece_at _ _ _ _ _ _ _ x (by omega)
    | exact vtPiece_at m c t _ _ _ _ (by decide) (by decide) (by decide) x _ _ _ _ (by omega) (by omega) (by omega) h3 h4

theorem vw_block (t : Fin cfg0.N) (y : S1x4x2x80x256.Idx) :
    (outsAt0 m c t).2.2.2.2.2.2.1 y = vals (args m c) 2304 (bAt t) (y 1) (nAt t (y 2)) (y 3).val (y 4) := by
  unfold outsAt0; dsimp only; unfold out0_A_14; frame_out
  canon_tiles x h using View.cover_of_tiledBy (s := S1x4x2x80x256) _ ![1, 1, 1, 16, 256] (by sl_kernel_rfl) _
  all_goals first
    | exact oPiece_at _ _ _ _ _ _ _ x (by omega)
    | exact vtPiece_at m c t _ _ _ _ (by decide) (by decide) (by decide) x _ _ _ _ (by omega) (by omega) (by omega) h3 h4

end Cert.NsaProjIdeal.Core
-- ==== Proof.NsaKeys.lean ====
/-
The second layer's projection kernel: the keys of the selection and of the window, each tile's beside its fill.
-/
module

public import proofs.«01_k».proof.Proof.NsaVals

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- The lanes' numbers. -/
def lane : IVec S512x128 32 := iota .tc S512x128 32 [1] iota_S512x128_d1_w32

/-- The grid's tile, as a word. -/
def tileW (t : Fin cfg0.N) : BitVec 32 := BitVec.ofNat 32 (grid0.coords t 1).val

theorem tileW_eq : ∀ t : Fin cfg0.N, tileW t = BitVec.ofNat 32 (t.val % 8) :=
  (by decide +kernel : ∀ t : Fin grid0.N, BitVec.ofNat 32 (grid0.coords t 1).val = BitVec.ofNat 32 (t.val % 8))

/-- The number of a position's block, as the kernel's words have it: a division rounded down. -/
def blockW (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

theorem blockW_eq : ∀ k : Fin 4096, blockW (BitVec.ofNat 32 k.val) = BitVec.ofNat 32 (k.val / 64) := by
  decide +kernel

theorem row_word : ∀ (a : Fin 8) (r : Fin 512),
    IntOp.addi (Scalar.muli (BitVec.ofNat 32 a.val) 512#32) (BitVec.ofNat 32 r.val) = BitVec.ofNat 32 (a.val * 512 + r.val) := by
  decide +kernel

theorem lane_eq : ∀ (l : Fin 128) (k : Fin 64), 64 ≤ l.val →
    IntOp.cmpi .eq (IntOp.subi (BitVec.ofNat 32 l.val) 64#32) (BitVec.ofNat 32 k.val)
      = if l.val - 64 = k.val then 1#1 else 0#1 := by
  decide +kernel

theorem lane_lt : ∀ l : Fin 128, IntOp.cmpi .slt (BitVec.ofNat 32 l.val) 64#32 = if l.val < 64 then 1#1 else 0#1 := by
  decide +kernel

/-- The one-hot number of each position's block, over the upper lanes. -/
def fillS (t : Fin cfg0.N) : FVec Ideal S512x128 .f32 :=
  k0_pay84 (F := Ideal) lane (k0_pay81 (tileW t)) 64#32 (k0_pay82 (tileW t)) (k0_pay83 (tileW t)) 0#32

theorem fillS_at (t : Fin cfg0.N) (r : Fin 512) (l : Fin 128) (hl : 64 ≤ l.val) :
    fillS t (ix2 r l) = oneHot (rAt t r).val (l.val - 64) := by
  unfold fillS
  rw [tileW_eq]
  pointwise [k0_pay84, k0_pay81, k0_pay82, k0_pay83, lane]
  have h8 : t.val % 8 < 8 := Nat.mod_lt _ (by omega)
  have hk : t.val % 8 * 512 + r.val < 4096 := by omega
  show Scalar.select (IntOp.cmpi .eq _ (blockW (IntOp.addi (Scalar.muli (BitVec.ofNat 32 (t.val % 8)) 512#32) _))) _ _ = _
  rw [row_word ⟨t.val % 8, h8⟩ r, blockW_eq ⟨t.val % 8 * 512 + r.val, hk⟩,
    lane_eq l ⟨(t.val % 8 * 512 + r.val) / 64, by omega⟩ hl]
  unfold oneHot
  show Scalar.select (if l.val - 64 = (t.val % 8 * 512 + r.val) / 64 then 1#1 else 0#1) _ _
    = if l.val - 64 = (t.val % 8 * 512 + r.val) / 64 then _ else _
  by_cases h : l.val - 64 = (t.val % 8 * 512 + r.val) / 64
  · rw [if_pos h, if_pos h]
    rfl
  · rw [if_neg h, if_neg h]
    rfl

/-- The lower lanes. -/
def lower : IVec S512x128 1 := k0_pay85 lane

theorem lower_at (r : Fin 512) (l : Fin 128) : lower (ix2 r l) = if l.val < 64 then 1#1 else 0#1 := by
  unfold lower
  pointwise [k0_pay85, lane]
  exact lane_lt l

/-- A half turned, and its other head moved to the lower lanes. -/
def moved (t : Fin cfg0.N) (Y : FVec Ideal S512x128 .f32) : FVec Ideal S512x128 .f32 :=
  dynamicRotate 1 64#32 none (rope m c t Y) rotates_S512x128_d1

/-- A group's keys of a tile, from a slab and its fill. -/
def kTile (Y Z : FVec Ideal S512x128 .f32) (p : ℕ) (hp : S512x128.Slices ![p, 0] S256x128) :
    FVec Ideal S1x1x1x256x128 .bf16 :=
  shapeCast S1x1x1x256x128 (extractStridedSlice S256x128 ![p, 0] (truncf .bf16 (select lower Y Z) bitsLt_bf16_f32) hp)
    shapeCasts_S256x128_S1x1x1x256x128

theorem kTile_at (t : Fin cfg0.N) (Y Z : FVec Ideal S512x128 .f32) (p : ℕ) (hp) (o : ℕ) (fill : ℕ → ℕ → EReal)
    (x : S1x1x1x256x128.Idx) (g : Fin 4) (j : Fin 2) (s : Fin 256) (l : ℕ)
    (hY : ∀ (r : Fin 512) (l : Fin 128), l.val < 64 → Y (ix2 r l) = turned (args m c) o (bAt t) (rAt t r) (g.val * 64 + l.val))
    (hZ : ∀ (r : Fin 512) (l : Fin 128), 64 ≤ l.val → Z (ix2 r l) = fill (rAt t r).val (l.val - 64))
    (h2 : p + 256 * (x 2).val = 256 * j.val) (h3 : s.val = (x 3).val) (h4 : l = (x 4).val) :
    kTile Y Z p hp x = keys (args m c) o fill (bAt t) g (nAt t j) s l := by
  idx_vars x
  have e3 : s = x3 := Fin.ext h3
  have e4 : l = x4.val := h4
  have hx2 : x2.val = 0 := Nat.lt_one_iff.mp x2.isLt
  have h2' : p + 256 * x2.val = 256 * j.val := h2
  have hp' : p + 256 ≤ 512 := hp.2 0
  have hr : (⟨p + x3.val, by omega⟩ : Fin 512) = ⟨j.val * 256 + x3.val, by omega⟩ := Fin.ext (by simp only []; omega)
  unfold keys kTile
  rw [e3, e4, posAt_nAt, ← hr]
  pointwise []
  rw [lower_at]
  by_cases h : x4.val < 64
  · rw [if_pos h, if_pos h]
    exact hY _ _ h
  · rw [if_neg h, if_neg h]
    exact hZ _ _ (by omega)

theorem slab_at (t : Fin cfg0.N) (o a : ℕ) (h) (ha) (ho : o ≤ 2304) (g : Fin 4) (hg : a = g.val * 64) (r : Fin 512)
    (l : Fin 128) (hl : l.val < 64) :
    rope m c t (half m c t o a h ha) (ix2 r l) = turned (args m c) o (bAt t) (rAt t r) (g.val * 64 + l.val) := by
  have hs : a + 128 ≤ 256 := ha.2 1
  rw [rope_half_at m c t o a h ha o a (by omega) rfl (by omega), hg]

theorem moved_at (t : Fin cfg0.N) (o a : ℕ) (h) (ha) (ho : o ≤ 2304) (g : Fin 4) (hg : a + 64 = g.val * 64) (r : Fin 512)
    (l : Fin 128) (hl : l.val < 64) :
    moved m c t (half m c t o a h ha) (ix2 r l) = turned (args m c) o (bAt t) (rAt t r) (g.val * 64 + l.val) := by
  have hs : a + 128 ≤ 256 := ha.2 1
  unfold moved
  refine Eq.trans (b := rope m c t (half m c t o a h ha) (ix2 r ⟨l.val + 64, by omega⟩)) ?_ ?_
  · pointwise [Pointwise.dynamicRotate_apply]
    refine congrArg (fun k => rope m c t (half m c t o a h ha) (ix2 r k)) (Fin.ext ?_)
    show (l.val + 128 - 64) % 128 = l.val + 64
    omega
  · rw [rope_half_at m c t o a h ha o a (by omega) rfl (by omega)]
    refine congrArg (turned _ _ _ _) ?_
    show a + (l.val + 64) = _
    omega

/-- The groups whose heads lie in the lower lanes. -/
theorem slabPiece_at (t : Fin cfg0.N) (o a p : ℕ) (h) (ha) (Z : FVec Ideal S512x128 .f32) (hp) (fill : ℕ → ℕ → EReal)
    (x : S1x1x1x256x128.Idx) (y : S1x4x2x256x128.Idx) (ho : o ≤ 2304) (h1 : a = (y 1).val * 64)
    (h2 : p + 256 * (x 2).val = 256 * (y 2).val) (h3 : (y 3).val = (x 3).val) (h4 : (y 4).val = (x 4).val)
    (hZ : ∀ (r : Fin 512) (l : Fin 128), 64 ≤ l.val → Z (ix2 r l) = fill (rAt t r).val (l.val - 64)) :
    kTile (rope m c t (half m c t o a h ha)) Z p hp x
      = keys (args m c) o fill (bAt t) (y 1) (nAt t (y 2)) (y 3) (y 4).val :=
  kTile_at m c t _ Z p hp o fill x (y 1) (y 2) (y 3) _ (slab_at m c t o a h ha ho (y 1) h1) hZ h2 h3 h4

/-- The groups whose heads lie in the upper lanes. -/
theorem movedPiece_at (t : Fin cfg0.N) (o a p : ℕ) (h) (ha) (Z : FVec Ideal S512x128 .f32) (hp) (fill : ℕ → ℕ → EReal)
    (x : S1x1x1x256x128.Idx) (y : S1x4x2x256x128.Idx) (ho : o ≤ 2304) (h1 : a + 64 = (y 1).val * 64)
    (h2 : p + 256 * (x 2).val = 256 * (y 2).val) (h3 : (y 3).val = (x 3).val) (h4 : (y 4).val = (x 4).val)
    (hZ : ∀ (r : Fin 512) (l : Fin 128), 64 ≤ l.val → Z (ix2 r l) = fill (rAt t r).val (l.val - 64)) :
    kTile (moved m c t (half m c t o a h ha)) Z p hp x
      = keys (args m c) o fill (bAt t) (y 1) (nAt t (y 2)) (y 3) (y 4).val :=
  kTile_at m c t _ Z p hp o fill x (y 1) (y 2) (y 3) _ (moved_at m c t o a h ha ho (y 1) h1) hZ h2 h3 h4

/-- The window keys' fill. -/
def fillW : FVec Ideal S512x128 .f32 := broadcast S512x128 (Scalar.ofBits .f32 0x00000000#32 : Ideal .f32)

theorem fillW_at (r : Fin 512) (l : Fin 128) (hl : 64 ≤ l.val) : fillW (ix2 r l) = 0 := by
  unfold fillW
  pointwise []

theorem kw_block (t : Fin cfg0.N) (y : S1x4x2x256x128.Idx) :
    (outsAt0 m c t).2.2.2.2.1 y = keyW (args m c) (bAt t) (y 1) (nAt t (y 2)) (y 3) (y 4).val := by
  unfold outsAt0 keyW; dsimp only; unfold out0_A_12; frame_out
  canon_tiles x h
  · exact movedPiece_at m c t 2048 128 256 (by decide) (by decide) fillW (by decide) (fun _ _ => 0) x _ (by decide) (by omega)
      (by omega) h3 h4 fillW_at
  · exact movedPiece_at m c t 2048 128 0 (by decide) (by decide) fillW (by decide) (fun _ _ => 0) x _ (by decide) (by omega)
      (by omega) h3 h4 fillW_at
  · exact slabPiece_at m c t 2048 128 256 (by decide) (by decide) fillW (by decide) (fun _ _ => 0) x _ (by decide) (by omega)
      (by omega) h3 h4 fillW_at
  · exact slabPiece_at m c t 2048 128 0 (by decide) (by decide) fillW (by decide) (fun _ _ => 0) x _ (by decide) (by omega)
      (by omega) h3 h4 fillW_at
  · exact movedPiece_at m c t 2048 0 256 (by decide) (by decide) fillW (by decide) (fun _ _ => 0) x _ (by decide) (by omega)
      (by omega) h3 h4 fillW_at
  · exact movedPiece_at m c t 2048 0 0 (by decide) (by decide) fillW (by decide) (fun _ _ => 0) x _ (by decide) (by omega)
      (by omega) h3 h4 fillW_at
  · exact slabPiece_at m c t 2048 0 256 (by decide) (by decide) fillW (by decide) (fun _ _ => 0) x _ (by decide) (by omega)
      (by omega) h3 h4 fillW_at
  · exact slabPiece_at m c t 2048 0 0 (by decide) (by decide) fillW (by decide) (fun _ _ => 0) x _ (by decide) (by omega)
      (by omega) h3 h4 fillW_at

theorem ks_block (t : Fin cfg0.N) (y : S1x4x2x256x128.Idx) :
    (outsAt0 m c t).2.2.2.1 y = keyS (args m c) (bAt t) (y 1) (nAt t (y 2)) (y 3) (y 4).val := by
  unfold outsAt0 keyS; dsimp only; unfold out0_A_11; frame_out
  canon_tiles x h
  · exact movedPiece_at m c t 1536 128 256 (by decide) (by decide) (fillS t) (by decide) oneHot x _ (by decide) (by omega)
      (by omega) h3 h4 (fillS_at t)
  · exact movedPiece_at m c t 1536 128 0 (by decide) (by decide) (fillS t) (by decide) oneHot x _ (by decide) (by omega)
      (by omega) h3 h4 (fillS_at t)
  · exact slabPiece_at m c t 1536 128 256 (by decide) (by decide) (fillS t) (by decide) oneHot x _ (by decide) (by omega)
      (by omega) h3 h4 (fillS_at t)
  · exact slabPiece_at m c t 1536 128 0 (by decide) (by decide) (fillS t) (by decide) oneHot x _ (by decide) (by omega)
      (by omega) h3 h4 (fillS_at t)
  · exact movedPiece_at m c t 1536 0 256 (by decide) (by decide) (fillS t) (by decide) oneHot x _ (by decide) (by omega)
      (by omega) h3 h4 (fillS_at t)
  · exact movedPiece_at m c t 1536 0 0 (by decide) (by decide) (fillS t) (by decide) oneHot x _ (by decide) (by omega)
      (by omega) h3 h4 (fillS_at t)
  · exact slabPiece_at m c t 1536 0 256 (by decide) (by decide) (fillS t) (by decide) oneHot x _ (by decide) (by omega)
      (by omega) h3 h4 (fillS_at t)
  · exact slabPiece_at m c t 1536 0 0 (by decide) (by decide) (fillS t) (by decide) oneHot x _ (by decide) (by omega)
      (by omega) h3 h4 (fillS_at t)

end Cert.NsaProjIdeal.Core
-- ==== Proof.NsaKernel.lean ====
/-
The second layer's projection kernel: what it leaves in its nine output arrays, at every index.
-/
module

public import proofs.«01_k».proof.Proof.NsaRows
public import proofs.«01_k».proof.Proof.NsaKeys

@[expose] public section

set_option maxRecDepth 16384

noncomputable section

open Idealize.ShloMosaic Idealize.ShloMosaic.TcCoe Idealize.SL.Sem

namespace Cert.NsaProjIdeal.Core

open Cert.NsaProjIdeal Cert.NsaProjIdeal.Gen Cert.Gla Cert.Rows Cert.Nsa

variable (m : (ℓ : Loc nD τ sig) → Buf (Elt Ideal) ℓ) (c : Dev nD)

/-- A block of one along an axis lies at its index. -/
theorem emb_one (i n y : ℕ) (h : i = n) (hy : y < 1) : i * 1 + 1 * y = n := by omega

/-- A block of `s` along an axis starts at its index times `s`. -/
theorem emb_tile (i n s y : ℕ) (h : i = n) : i * s + 1 * y = n * s + y := by rw [h, Nat.one_mul]

/-- A block of a whole axis starts at its start. -/
theorem emb_all (i s y : ℕ) (h : i = 0) : i * s + 1 * y = y := by rw [h, Nat.zero_mul, Nat.zero_add, Nat.one_mul]

/-- The queries. -/
theorem q_array : (dats m 0 c).arrAt 8 cfg0.N = fun y : S8x4096x1024.Idx => query (args m c) (y 0) (y 1) (y 2).val := by
  refine (dats m 0 c).arrAt_eq_of_covers 8 _ (by decide +kernel) fun t hf y => ?_
  blk_simp []
  rw [after0_8]
  obtain ⟨i0, i1, i2⟩ := (idx_row t).2.2.1
  have e0 : (win0_8.blk t).view.emb y 0 = bAt t := Fin.ext (emb_one _ _ _ i0 (y 0).isLt)
  have e1 : (win0_8.blk t).view.emb y 1 = rAt t (y 1) := Fin.ext (emb_tile _ _ 512 _ i1)
  rw [e0, e1, i2, Nat.zero_mul, Nat.zero_add]
  exact q_block m c t y

/-- The compression's keys. -/
theorem k_array : (dats m 0 c).arrAt 9 cfg0.N = fun y : S8x4096x256.Idx => keyC (args m c) (y 0) (y 1) (y 2).val := by
  refine (dats m 0 c).arrAt_eq_of_covers 9 _ (by decide +kernel) fun t hf y => ?_
  blk_simp []
  rw [after0_9]
  obtain ⟨i0, i1, i2⟩ := (idx_row t).2.2.2.1
  have e0 : (win0_9.blk t).view.emb y 0 = bAt t := Fin.ext (emb_one _ _ _ i0 (y 0).isLt)
  have e1 : (win0_9.blk t).view.emb y 1 = rAt t (y 1) := Fin.ext (emb_tile _ _ 512 _ i1)
  rw [e0, e1, i2, Nat.zero_mul, Nat.zero_add]
  exact k_block m c t y

/-- The compression's values. -/
theorem v_array : (dats m 0 c).arrAt 10 cfg0.N = fun y : S8x4096x256.Idx => valC (args m c) (y 0) (y 1) (y 2).val := by
  refine (dats m 0 c).arrAt_eq_of_covers 10 _ (by decide +kernel) fun t hf y => ?_
  blk_simp []
  rw [after0_10]
  obtain ⟨i0, i1, i2⟩ := (idx_row t).2.2.2.2.1
  have e0 : (win0_10.blk t).view.emb y 0 = bAt t := Fin.ext (emb_one _ _ _ i0 (y 0).isLt)
  have e1 : (win0_10.blk t).view.emb y 1 = rAt t (y 1) := Fin.ext (emb_tile _ _ 512 _ i1)
  rw [e0, e1, i2, Nat.zero_mul, Nat.zero_add]
  exact v_block m c t y

/-- The output's gate. -/
theorem z_array : (dats m 0 c).arrAt 16 cfg0.N = fun y : S8x4096x1024.Idx => gateZ (args m c) (y 0) (y 1) (y 2).val := by
  refine (dats m 0 c).arrAt_eq_of_covers 16 _ (by decide +kernel) fun t hf y => ?_
  blk_simp []
  rw [after0_16]
  obtain ⟨i0, i1, i2⟩ := (idx_row t).2.2.2.2.2
  have e0 : (win0_16.blk t).view.emb y 0 = bAt t := Fin.ext (emb_one _ _ _ i0 (y 0).isLt)
  have e1 : (win0_16.blk t).view.emb y 1 = rAt t (y 1) := Fin.ext (emb_tile _ _ 512 _ i1)
  rw [e0, e1, i2, Nat.zero_mul, Nat.zero_add]
  exact z_block m c t y

/-- The selection's keys. -/
theorem ks_array : (dats m 0 c).arrAt 11 cfg0.N = fun y : S8x4x16x256x128.Idx =>
    keyS (args m c) (y 0) (y 1) (y 2) (y 3) (y 4).val := by
  refine (dats m 0 c).arrAt_eq_of_covers 11 _ (by decide +kernel) fun t hf y => ?_
  blk_simp []
  rw [after0_11]
  obtain ⟨i0, i1, i2, i3, i4⟩ := (idx_group t).1
  have e0 : (win0_11.blk t).view.emb y 0 = bAt t := Fin.ext (emb_one _ _ _ i0 (y 0).isLt)
  have e1 : (win0_11.blk t).view.emb y 1 = (y 1 : Fin 4) := Fin.ext (emb_all _ 4 _ i1)
  have e2 : (win0_11.blk t).view.emb y 2 = nAt t (y 2) := Fin.ext (emb_tile _ _ 2 _ i2)
  have e3 : (win0_11.blk t).view.emb y 3 = (y 3 : Fin 256) := Fin.ext (emb_all _ 256 _ i3)
  rw [e0, e1, e2, e3, i4, Nat.zero_mul, Nat.zero_add]
  exact ks_block m c t y

/-- The window's keys. -/
theorem kw_array : (dats m 0 c).arrAt 12 cfg0.N = fun y : S8x4x16x256x128.Idx =>
    keyW (args m c) (y 0) (y 1) (y 2) (y 3) (y 4).val := by
  refine (dats m 0 c).arrAt_eq_of_covers 12 _ (by decide +kernel) fun t hf y => ?_
  blk_simp []
  rw [after0_12]
  obtain ⟨i0, i1, i2, i3, i4⟩ := (idx_group t).2.1
  have e0 : (win0_12.blk t).view.emb y 0 = bAt t := Fin.ext (emb_one _ _ _ i0 (y 0).isLt)
  have e1 : (win0_12.blk t).view.emb y 1 = (y 1 : Fin 4) := Fin.ext (emb_all _ 4 _ i1)
  have e2 : (win0_12.blk t).view.emb y 2 = nAt t (y 2) := Fin.ext (emb_tile _ _ 2 _ i2)
  have e3 : (win0_12.blk t).view.emb y 3 = (y 3 : Fin 256) := Fin.ext (emb_all _ 256 _ i3)
  rw [e0, e1, e2, e3, i4, Nat.zero_mul, Nat.zero_add]
  exact kw_block m c t y

/-- The selection's values. -/
theorem vs_array : (dats m 0 c).arrAt 13 cfg0.N = fun y : S8x4x16x80x256.Idx =>
    vals (args m c) 1792 (y 0) (y 1) (y 2) (y 3).val (y 4) := by
  refine (dats m 0 c).arrAt_eq_of_covers 13 _ (by decide +kernel) fun t hf y => ?_
  blk_simp []
  rw [after0_13]
  obtain ⟨i0, i1, i2, i3, i4⟩ := (idx_group t).2.2.1
  have e0 : (win0_13.blk t).view.emb y 0 = bAt t := Fin.ext (emb_one _ _ _ i0 (y 0).isLt)
  have e1 : (win0_13.blk t).view.emb y 1 = (y 1 : Fin 4) := Fin.ext (emb_all _ 4 _ i1)
  have e2 : (win0_13.blk t).view.emb y 2 = nAt t (y 2) := Fin.ext (emb_tile _ _ 2 _ i2)
  have e4 : (win0_13.blk t).view.emb y 4 = (y 4 : Fin 256) := Fin.ext (emb_all _ 256 _ i4)
  rw [e0, e1, e2, i3, Nat.zero_mul, Nat.zero_add, e4]
  exact vs_block m c t y

/-- The window's values. -/
theorem vw_array : (dats m 0 c).arrAt 14 cfg0.N = fun y : S8x4x16x80x256.Idx =>
    vals (args m c) 2304 (y 0) (y 1) (y 2) (y 3).val (y 4) := by
  refine (dats m 0 c).arrAt_eq_of_covers 14 _ (by decide +kernel) fun t hf y => ?_
  blk_simp []
  rw [after0_14]
  obtain ⟨i0, i1, i2, i3, i4⟩ := (idx_group t).2.2.2.1
  have e0 : (win0_14.blk t).view.emb y 0 = bAt t := Fin.ext (emb_one _ _ _ i0 (y 0).isLt)
  have e1 : (win0_14.blk t).view.emb y 1 = (y 1 : Fin 4) := Fin.ext (emb_all _ 4 _ i1)
  have e2 : (win0_14.blk t).view.emb y 2 = nAt t (y 2) := Fin.ext (emb_tile _ _ 2 _ i2)
  have e4 : (win0_14.blk t).view.emb y 4 = (y 4 : Fin 256) := Fin.ext (emb_all _ 256 _ i4)
  rw [e0, e1, e2, i3, Nat.zero_mul, Nat.zero_add, e4]
  exact vw_block m c t y

/-- The branches' gates. -/
theorem gt_array : (dats m 0 c).arrAt 15 cfg0.N = fun y : S8x4x16x4096.Idx =>
    gate (args m c) (y 0) (y 1) (y 2).val (y 3) := by
  refine (dats m 0 c).arrAt_eq_of_covers 15 _ (by decide +kernel) fun t hf y => ?_
  blk_simp []
  rw [after0_15]
  obtain ⟨i0, i1, i2, i3⟩ := (idx_group t).2.2.2.2
  have e0 : (win0_15.blk t).view.emb y 0 = bAt t := Fin.ext (emb_one _ _ _ i0 (y 0).isLt)
  have e1 : (win0_15.blk t).view.emb y 1 = (y 1 : Fin 4) := Fin.ext (emb_all _ 4 _ i1)
  have e3 : (win0_15.blk t).view.emb y 3 = rAt t (y 3) := Fin.ext (emb_tile _ _ 512 _ i3)
  rw [e0, e1, i2, Nat.zero_mul, Nat.zero_add, e3]
  exact gt_block m c t y

/-- A run ends with the nine results and the arguments as they were. -/
theorem run_states (ρ : Dev nD → PrngReg) :
    θ_run defs (onTc (τ := τ) (main (F := Ideal))) ⟨m, fun _ => 0, ρ⟩ fun r => ∀ c : Dev nD,
      r.2.mem ((c : Thread nD τ).loc main_v38_0) = (fun y : S8x4096x1024.Idx => query (args m c) (y 0) (y 1) (y 2).val)
      ∧ r.2.mem ((c : Thread nD τ).loc main_v38_1) = (fun y : S8x4096x256.Idx => keyC (args m c) (y 0) (y 1) (y 2).val)
      ∧ r.2.mem ((c : Thread nD τ).loc main_v38_2) = (fun y : S8x4096x256.Idx => valC (args m c) (y 0) (y 1) (y 2).val)
      ∧ r.2.mem ((c : Thread nD τ).loc main_v38_3) = (fun y : S8x4x16x256x128.Idx => keyS (args m c) (y 0) (y 1) (y 2) (y 3) (y 4).val)
      ∧ r.2.mem ((c : Thread nD τ).loc main_v38_4) = (fun y : S8x4x16x256x128.Idx => keyW (args m c) (y 0) (y 1) (y 2) (y 3) (y 4).val)
      ∧ r.2.mem ((c : Thread nD τ).loc main_v38_5) = (fun y : S8x4x16x80x256.Idx => vals (args m c) 1792 (y 0) (y 1) (y 2) (y 3).val (y 4))
      ∧ r.2.mem ((c : Thread nD τ).loc main_v38_6) = (fun y : S8x4x16x80x256.Idx => vals (args m c) 2304 (y 0) (y 1) (y 2) (y 3).val (y 4))
      ∧ r.2.mem ((c : Thread nD τ).loc main_v38_7) = (fun y : S8x4x16x4096.Idx => gate (args m c) (y 0) (y 1) (y 2).val (y 3))
      ∧ r.2.mem ((c : Thread nD τ).loc main_v38_8) = (fun y : S8x4096x1024.Idx => gateZ (args m c) (y 0) (y 1) (y 2).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨q, k, v, ks, kw, vs, vw, gt, z, ha⟩ := h c
    exact ⟨q.trans (q_array m c), k.trans (k_array m c), v.trans (v_array m c), ks.trans (ks_array m c), kw.trans (kw_array m c),
      vs.trans (vs_array m c), vw.trans (vw_array m c), gt.trans (gt_array m c), z.trans (z_array m c), ha⟩)
    (Value.run_blocks m ρ)

end Cert.NsaProjIdeal.Core
-- ==== Proof.NsaRef.lean ====
/-
The second layer's projection: its reference's pieces at every index.
-/
module

public import proofs.«01_k».proof.Proof.NsaMath
public import proofs.«01_k».proof.Proof.Gen.NsaProjReferenceIdeal.Run

@[expose] public section

set_option maxRecDepth 16384

noncomputable section

open Idealize.ShloMosaic Idealize.ShloMosaic.TcCoe Idealize.SL.Sem

namespace Cert.NsaProjReferenceIdeal.Core

open Cert.NsaProjReferenceIdeal Cert.NsaProjReferenceIdeal.Gen Cert.Rows Cert.Gla Cert.Nsa

variable (x : FVec Ideal S8x4096x1024 .f32) (p : IVec S8x4096 32) (g : FVec Ideal S1024 .f32) (w : FVec Ideal S1024x3632 .f32)
  (bias : FVec Ideal S48 .f32)

/-- The normed activations. -/
def normed : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf x x)
      (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g))

/-- Their product with the input weight. -/
def projected : FVec Ideal S8x4096x3632 .f32 :=
  Host.dotGeneral (F := Ideal) dot_S8x4096x1024_S1024x3632_S8x4096x3632_2_0_01_1_n_n none (normed x g) w

theorem projected_at (b : Fin 8) (r : Fin 4096) (e : Fin 3632) :
    projected x g w (ix3 b r e) = col (argsOf x p g w bias) b r e.val := by
  refine Eq.trans (b := proj (fun b r y => x (ix3 b r y)) (fun y => g (ix1 y)) (fun y => w (ix2 y e)) b r) ?_ ?_
  · pointwise [projected, normed]
    rfl
  · exact congrArg (fun w' => proj (fun b r y => x (ix3 b r y)) (fun y => g (ix1 y)) w' b r)
      (funext fun y => (argsOf_w x p g w bias e.val e.isLt y).symm)

/-- The angles of the positions' pairs of lanes. -/
def angles : FVec Ideal S8x4096x32 .f32 :=
  mulf (broadcastInDim S8x4096x32 ![0, 1, 2] bcast_S8x4096x1_S8x4096x32_0_1_2
      (broadcastInDim S8x4096x1 ![0, 1] bcast_S8x4096_S8x4096x1_0_1 (sitofp .f32 p)))
    (broadcastInDim S8x4096x32 ![0, 1, 2] bcast_S1x1x32_S8x4096x32_0_1_2 (broadcastInDim S1x1x32 ![2] bcast_S32_S1x1x32_2
      (Host.powf (broadcastInDim S32 ![] bcast_S_S32 (constant S_ .f32 0x461C4000#32)) (Host.divf (Host.negf
        (addf (broadcastInDim S32 ![] bcast_S_S32 (constant S_ .f32 0x00000000#32))
          (mulf (broadcastInDim S32 ![] bcast_S_S32 (constant S_ .f32 0x40000000#32)) (sitofp .f32 (iotaInDim S32 32 0)))))
        (broadcastInDim S32 ![] bcast_S_S32 (constant S_ .f32 0x42800000#32))))))

theorem angles_at (b : Fin 8) (r : Fin 4096) (i : Fin 32) : angles p (ix3 b r i) = angle (p (ix2 b r)) i.val := by
  pointwise [angles]
  rfl

/-- One copy of an array over the heads. -/
def overHeads (u : FVec Ideal S8x4096x32 .f32) : FVec Ideal S8x4096x1x32 .f32 :=
  broadcastInDim S8x4096x1x32 ![0, 1, 3] bcast_S8x4096x32_S8x4096x1x32_0_1_3 u

/-- The 16 heads of the queries turned. -/
def turn16 (Y : FVec Ideal S8x4096x16x64 .f32) (C S : FVec Ideal S8x4096x1x32 .f32) : FVec Ideal S8x4096x16x64 .f32 :=
  have y1 : FVec Ideal S8x4096x16x32 .f32 := extractStridedSlice S8x4096x16x32 ![0, 0, 0, 0] Y slices_S8x4096x16x64_S8x4096x16x32_0_0_0_0
  have y2 : FVec Ideal S8x4096x16x32 .f32 := extractStridedSlice S8x4096x16x32 ![0, 0, 0, 32] Y slices_S8x4096x16x64_S8x4096x16x32_0_0_0_32
  have c : FVec Ideal S8x4096x16x32 .f32 := broadcastInDim S8x4096x16x32 ![0, 1, 2, 3] bcast_S8x4096x1x32_S8x4096x16x32_0_1_2_3 C
  have s : FVec Ideal S8x4096x16x32 .f32 := broadcastInDim S8x4096x16x32 ![0, 1, 2, 3] bcast_S8x4096x1x32_S8x4096x16x32_0_1_2_3 S
  concatenate S8x4096x16x64 3 [⟨S8x4096x16x32, subf (mulf y1 c) (mulf y2 s)⟩, ⟨S8x4096x16x32, addf (mulf y2 c) (mulf y1 s)⟩]
    concatenates_S8x4096x16x32_S8x4096x16x32_S8x4096x16x64_d3

/-- The 4 heads of a stretch of keys turned. -/
def turn4 (Y : FVec Ideal S8x4096x4x64 .f32) (C S : FVec Ideal S8x4096x1x32 .f32) : FVec Ideal S8x4096x4x64 .f32 :=
  have y1 : FVec Ideal S8x4096x4x32 .f32 := extractStridedSlice S8x4096x4x32 ![0, 0, 0, 0] Y slices_S8x4096x4x64_S8x4096x4x32_0_0_0_0
  have y2 : FVec Ideal S8x4096x4x32 .f32 := extractStridedSlice S8x4096x4x32 ![0, 0, 0, 32] Y slices_S8x4096x4x64_S8x4096x4x32_0_0_0_32
  have c : FVec Ideal S8x4096x4x32 .f32 := broadcastInDim S8x4096x4x32 ![0, 1, 2, 3] bcast_S8x4096x1x32_S8x4096x4x32_0_1_2_3 C
  have s : FVec Ideal S8x4096x4x32 .f32 := broadcastInDim S8x4096x4x32 ![0, 1, 2, 3] bcast_S8x4096x1x32_S8x4096x4x32_0_1_2_3 S
  concatenate S8x4096x4x64 3 [⟨S8x4096x4x32, subf (mulf y1 c) (mulf y2 s)⟩, ⟨S8x4096x4x32, addf (mulf y2 c) (mulf y1 s)⟩]
    concatenates_S8x4096x4x32_S8x4096x4x32_S8x4096x4x64_d3

/-- The cosines of the angles. -/
def cosA : FVec Ideal S8x4096x1x32 .f32 := overHeads (Host.cos (angles p))

/-- The sines of the angles. -/
def sinA : FVec Ideal S8x4096x1x32 .f32 := overHeads (Host.sin (angles p))

theorem cosA_at (b : Fin 8) (r : Fin 4096) (i : Fin 32) :
    cosA p (ix4 b r 0 i) = Ideal.cos (angle (p (ix2 b r)) i.val) := by
  unfold cosA overHeads
  pointwise []
  rw [angles_at]

theorem sinA_at (b : Fin 8) (r : Fin 4096) (i : Fin 32) :
    sinA p (ix4 b r 0 i) = Ideal.sin (angle (p (ix2 b r)) i.val) := by
  unfold sinA overHeads
  pointwise []
  rw [angles_at]

/-- A lane under 32 or not, as the two halves of a turned head have it. -/
theorem turn_dite (f a : ℕ → EReal) (d : ℕ) :
    (if h : d < 32 then f d * Ideal.cos (a d) - f (32 + d) * Ideal.sin (a d)
      else f (32 + (d - 32)) * Ideal.cos (a (d - 32)) + f (d - 32) * Ideal.sin (a (d - 32))) = turn f a d := by
  unfold turn
  by_cases h : d < 32
  · rw [dif_pos h, if_pos h, Nat.add_comm 32 d]
  · rw [dif_neg h, if_neg h, show 32 + (d - 32) = d by omega]

theorem turn16_at (Y : FVec Ideal S8x4096x16x64 .f32) (f : ℕ → EReal) (b : Fin 8) (r : Fin 4096) (h : Fin 16) (d : Fin 64)
    (hY : ∀ d : Fin 64, Y (ix4 b r h d) = f d.val) :
    turn16 Y (cosA p) (sinA p) (ix4 b r h d) = turn f (angle (p (ix2 b r))) d.val := by
  unfold turn16
  pointwise []
  simp only [cosA_at, sinA_at, hY]
  exact turn_dite _ _ _

theorem turn4_at (Y : FVec Ideal S8x4096x4x64 .f32) (f : ℕ → EReal) (b : Fin 8) (r : Fin 4096) (h : Fin 4) (d : Fin 64)
    (hY : ∀ d : Fin 64, Y (ix4 b r h d) = f d.val) :
    turn4 Y (cosA p) (sinA p) (ix4 b r h d) = turn f (angle (p (ix2 b r))) d.val := by
  unfold turn4
  pointwise []
  simp only [cosA_at, sinA_at, hY]
  exact turn_dite _ _ _

/-- The product's columns from `o` on, by 16 heads. -/
def heads16 (P : FVec Ideal S8x4096x3632 .f32) : FVec Ideal S8x4096x16x64 .f32 :=
  shapeCast S8x4096x16x64 (extractStridedSlice S8x4096x1024 ![0, 0, 0] P slices_S8x4096x3632_S8x4096x1024_0_0_0)
    shapeCasts_S8x4096x1024_S8x4096x16x64

/-- The product's columns from `o` on, by 4 heads. -/
def heads4 (P : FVec Ideal S8x4096x3632 .f32) (o : ℕ) (ho : S8x4096x3632.Slices ![0, 0, o] S8x4096x256) :
    FVec Ideal S8x4096x4x64 .f32 :=
  shapeCast S8x4096x4x64 (extractStridedSlice S8x4096x256 ![0, 0, o] P ho) shapeCasts_S8x4096x256_S8x4096x4x64

theorem heads16_at (b : Fin 8) (r : Fin 4096) (h : Fin 16) (d : Fin 64) :
    heads16 (projected x g w) (ix4 b r h d) = col (argsOf x p g w bias) b r (h.val * 64 + d.val) := by
  unfold heads16
  pointwise []
  rw [projected_at x p g w bias]

theorem heads4_at (o : ℕ) (ho) (b : Fin 8) (r : Fin 4096) (h : Fin 4) (d : Fin 64) :
    heads4 (projected x g w) o ho (ix4 b r h d) = col (argsOf x p g w bias) b r (o + (h.val * 64 + d.val)) := by
  unfold heads4
  pointwise []
  rw [projected_at x p g w bias]

/-- A stretch of keys by group and tile. -/
def tiles (Y : FVec Ideal S8x4096x4x64 .f32) : FVec Ideal S8x4x16x256x64 .f32 :=
  shapeCast S8x4x16x256x64 (transpose S8x4x4096x64 [0, 2, 1, 3] Y transposes_S8x4096x4x64_S8x4x4096x64_0_2_1_3)
    shapeCasts_S8x4x4096x64_S8x4x16x256x64

theorem tiles_at (Y : FVec Ideal S8x4096x4x64 .f32) (b : Fin 8) (h : Fin 4) (n : Fin 16) (s : Fin 256) (d : Fin 64) :
    tiles Y (ix5 b h n s d) = Y (ix4 b (posAt n s) h d) := by
  unfold tiles posAt
  pointwise []

/-- The keys beside their fill. -/
def beside (Y Z : FVec Ideal S8x4x16x256x64 .f32) : FVec Ideal S8x4x16x256x128 .bf16 :=
  truncf .bf16 (concatenate S8x4x16x256x128 4 [⟨S8x4x16x256x64, Y⟩, ⟨S8x4x16x256x64, Z⟩]
    concatenates_S8x4x16x256x64_S8x4x16x256x64_S8x4x16x256x128_d4) bitsLt_bf16_f32

theorem beside_at (Y Z : FVec Ideal S8x4x16x256x64 .f32) (b : Fin 8) (h : Fin 4) (n : Fin 16) (s : Fin 256) (l : Fin 128) :
    beside Y Z (ix5 b h n s l) = if h' : l.val < 64 then Y (ix5 b h n s ⟨l.val, h'⟩)
      else Z (ix5 b h n s ⟨l.val - 64, by omega⟩) := by
  unfold beside
  pointwise []

/-- The values, lanes first, over rows of ones. -/
def overOnes (Y : FVec Ideal S8x4x16x256x64 .f32) : FVec Ideal S8x4x16x80x256 .bf16 :=
  truncf .bf16 (concatenate S8x4x16x80x256 3 [⟨S8x4x16x64x256, transpose S8x4x16x64x256 [0, 1, 2, 4, 3] Y
      transposes_S8x4x16x256x64_S8x4x16x64x256_0_1_2_4_3⟩,
    ⟨S8x4x16x16x256, broadcastInDim S8x4x16x16x256 ![] bcast_S_S8x4x16x16x256 (constant S_ .f32 0x3F800000#32)⟩]
    concatenates_S8x4x16x64x256_S8x4x16x16x256_S8x4x16x80x256_d3) bitsLt_bf16_f32

theorem overOnes_at (Y : FVec Ideal S8x4x16x256x64 .f32) (b : Fin 8) (h : Fin 4) (n : Fin 16) (d : Fin 80) (s : Fin 256) :
    overOnes Y (ix5 b h n d s) = if h' : d.val < 64 then Y (ix5 b h n s ⟨d.val, h'⟩) else 1 := by
  unfold overOnes
  pointwise []

/-- The positions. -/
def place : IVec S4096 32 := iotaInDim S4096 32 0

/-- A block's extent. -/
def extent : IVec S_ 32 := id (constantI S_ 32 64#32)

/-- The quotients of the positions by it. -/
def quot : IVec S4096 32 := Host.divsi place (broadcastInDim S4096 ![] bcast_S_S4096 extent)

/-- The positions' blocks: a quotient rounded down. -/
def blocks : IVec S4096 32 :=
  select (andi (cmpi .ne (signi place) (broadcastInDim S4096 ![] bcast_S_S4096 (signi extent)))
      (cmpi .ne (Host.remsi place (broadcastInDim S4096 ![] bcast_S_S4096 extent))
        (broadcastInDim S4096 ![] bcast_S_S4096 (constantI S_ 32 0#32))))
    (subi quot (broadcastInDim S4096 ![] bcast_S_S4096 (constantI S_ 32 1#32))) quot

/-- The number of a position's block, as the reference's words have it. -/
def blockH (n : BitVec 32) : BitVec 32 :=
  Scalar.select
    (IntOp.andi
      (IntOp.cmpi .ne (if n = 0 then 0 else if n.msb = true then -1 else 1 : BitVec 32)
        (if 64#32 = 0 then 0 else if (64#32).msb = true then -1 else 1 : BitVec 32))
      (IntOp.cmpi .ne (IntOp.remsi .host n 64#32) 0#32))
    (IntOp.subi (IntOp.divsi .host n 64#32) 1#32) (IntOp.divsi .host n 64#32)

theorem blockH_eq : ∀ k : Fin 4096, blockH (BitVec.ofNat 32 k.val) = BitVec.ofNat 32 (k.val / 64) := by
  decide +kernel

theorem eq_word : ∀ k l : Fin 64, IntOp.cmpi .eq (BitVec.ofNat 32 k.val) (BitVec.ofNat 32 l.val)
    = if l.val = k.val then 1#1 else 0#1 := by
  decide +kernel

theorem blocks_at (r : Fin 4096) : blocks (ix1 r) = BitVec.ofNat 32 (r.val / 64) := by
  pointwise [blocks, quot, place, extent]
  exact blockH_eq r

/-- Their one-hot numbers, by tile. -/
def oneHots : FVec Ideal S8x4x16x256x64 .f32 :=
  broadcastInDim S8x4x16x256x64 ![0, 1, 2, 3, 4] bcast_S1x1x16x256x64_S8x4x16x256x64_0_1_2_3_4
    (shapeCast S1x1x16x256x64 (uitofp .f32 (cmpi .eq
      (broadcastInDim S4096x64 ![0, 1] bcast_S4096x1_S4096x64_0_1 (broadcastInDim S4096x1 ![0] bcast_S4096_S4096x1_0 blocks))
      (broadcastInDim S4096x64 ![0, 1] bcast_S1x64_S4096x64_0_1 (iotaInDim S1x64 32 1)))) shapeCasts_S4096x64_S1x1x16x256x64)

theorem oneHots_at (b : Fin 8) (h : Fin 4) (n : Fin 16) (s : Fin 256) (l : Fin 64) :
    oneHots (ix5 b h n s l) = oneHot (posAt n s).val l.val := by
  unfold oneHots posAt
  pointwise []
  have hb : (n.val * 256 + s.val) / 64 < 64 := by omega
  rw [blocks_at, eq_word ⟨(n.val * 256 + s.val) / 64, hb⟩ l]
  unfold oneHot
  show FloatOps.uitofp .f32 (if l.val = (n.val * 256 + s.val) / 64 then 1#1 else 0#1) = _
  by_cases e : l.val = (n.val * 256 + s.val) / 64
  · rw [if_pos e, if_pos e]
    show (((1#1).toNat : ℝ) : EReal) = 1
    norm_num
  · rw [if_neg e, if_neg e]
    show (((0#1).toNat : ℝ) : EReal) = 0
    norm_num

/-- The gates by group, a half in the rows that hold none. -/
def gates (P : FVec Ideal S8x4096x3632 .f32) : FVec Ideal S8x4x16x4096 .f32 :=
  transpose S8x4x16x4096 [0, 2, 3, 1] (pad S8x4096x4x16 ![0, 0, 0, 0] ![0, 0, 0, 4] ![0, 0, 0, 0]
    (shapeCast S8x4096x4x12 (Host.divf (broadcastInDim S8x4096x48 ![] bcast_S_S8x4096x48 (constant S_ .f32 0x3F800000#32))
      (addf (broadcastInDim S8x4096x48 ![] bcast_S_S8x4096x48 (constant S_ .f32 0x3F800000#32)) (Host.exp (Host.negf
        (addf (extractStridedSlice S8x4096x48 ![0, 0, 2560] P slices_S8x4096x3632_S8x4096x48_0_0_2560)
          (broadcastInDim S8x4096x48 ![0, 1, 2] bcast_S1x1x48_S8x4096x48_0_1_2 (broadcastInDim S1x1x48 ![2] bcast_S48_S1x1x48_2 bias)))))))
      shapeCasts_S8x4096x48_S8x4096x4x12)
    (id (constant S_ .f32 0x3F000000#32)) pads_S8x4096x4x12_S8x4096x4x16_000_000_000_040 h_S_)
    transposes_S8x4096x4x16_S8x4x16x4096_0_2_3_1

theorem gates_at (b : Fin 8) (h : Fin 4) (j : Fin 16) (r : Fin 4096) :
    gates bias (projected x g w) (ix4 b h j r) = gate (argsOf x p g w bias) b h j.val r := by
  unfold gates gate
  pointwise []
  by_cases hj : j.val < 12
  · rw [dif_pos hj, if_pos hj, projected_at x p g w bias, argsOf_b x p g w bias _ (by omega)]
    rfl
  · rw [dif_neg hj, if_neg hj]
    rfl

/-- The conversion of the queries and of the gate. -/
def narrowed (u : FVec Ideal S8x4096x1024 .f32) : FVec Ideal S8x4096x1024 .bf16 := truncf .bf16 u bitsLt_bf16_f32

theorem narrowed_at (u : FVec Ideal S8x4096x1024 .f32) (y : S8x4096x1024.Idx) : narrowed u y = u y := rfl

/-- The queries scaled. -/
def scaled (Y : FVec Ideal S8x4096x16x64 .f32) : FVec Ideal S8x4096x1024 .f32 :=
  mulf (shapeCast S8x4096x1024 (mulf Y (broadcastInDim S8x4096x16x64 ![] bcast_S_S8x4096x16x64 (constant S_ .f32 0x3E000000#32)))
    shapeCasts_S8x4096x16x64_S8x4096x1024) (broadcastInDim S8x4096x1024 ![] bcast_S_S8x4096x1024 (constant S_ .f32 0x3FB8AA3B#32))

theorem scaled_at (Y : FVec Ideal S8x4096x16x64 .f32) (b : Fin 8) (r : Fin 4096) (e : Fin 1024) :
    scaled Y (ix3 b r e) = Y (ix4 b r ⟨e.val / 64, by omega⟩ ⟨e.val % 64, by omega⟩) * Ideal.ofBits .f32 0x3E38AA3B#32 := by
  rw [← scale_eq]
  unfold scaled
  pointwise []

/-- The gate of the output. -/
def gateO (P : FVec Ideal S8x4096x3632 .f32) : FVec Ideal S8x4096x1024 .f32 :=
  have z : FVec Ideal S8x4096x1024 .f32 := extractStridedSlice S8x4096x1024 ![0, 0, 2608] P slices_S8x4096x3632_S8x4096x1024_0_0_2608
  mulf z (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z))))

theorem gateO_at (b : Fin 8) (r : Fin 4096) (e : Fin 1024) :
    gateO (projected x g w) (ix3 b r e) = gateZ (argsOf x p g w bias) b r e.val := by
  unfold gateO gateZ
  pointwise []
  rw [projected_at x p g w bias]
  rfl

/-- A turned head's lane is the turned column. -/
theorem turned_head (I : Args) (o : ℕ) (b : Fin 8) (r : Fin 4096) (h d e : ℕ) (hd : d < 64) (he : e = h * 64 + d) :
    turn (fun d => col I b r (o + (h * 64 + d))) (angle (I.p b r)) d = turned I o b r e := by
  unfold turned
  rw [show e / 64 = h by omega, show e % 64 = d by omega]

theorem queries_at (b : Fin 8) (r : Fin 4096) (e : Fin 1024) :
    scaled (turn16 (heads16 (projected x g w)) (cosA p) (sinA p)) (ix3 b r e) = query (argsOf x p g w bias) b r e.val := by
  rw [scaled_at, turn16_at p _ (fun d => col (argsOf x p g w bias) b r (0 + (e.val / 64 * 64 + d))) _ _ _ _ fun d => by
    rw [heads16_at x p g w bias, Nat.zero_add]]
  exact congrArg (· * _) (turned_head _ 0 b r (e.val / 64) (e.val % 64) e.val (by omega) (by omega))

theorem keys4_at (o : ℕ) (ho) (b : Fin 8) (r : Fin 4096) (h : Fin 4) (d : Fin 64) :
    turn4 (heads4 (projected x g w) o ho) (cosA p) (sinA p) (ix4 b r h d)
      = turned (argsOf x p g w bias) o b r (h.val * 64 + d.val) := by
  rw [turn4_at p _ (fun d => col (argsOf x p g w bias) b r (o + (h.val * 64 + d))) _ _ _ _ fun d => heads4_at x p g w bias o ho b r h d]
  exact turned_head _ o b r h.val d.val _ d.isLt rfl

/-- The heads of a stretch of keys side by side. -/
def flatHeads (Y : FVec Ideal S8x4096x4x64 .f32) : FVec Ideal S8x4096x256 .f32 :=
  shapeCast S8x4096x256 Y shapeCasts_S8x4096x4x64_S8x4096x256

theorem flatHeads_at (Y : FVec Ideal S8x4096x4x64 .f32) (b : Fin 8) (r : Fin 4096) (e : Fin 256) :
    flatHeads Y (ix3 b r e) = Y (ix4 b r ⟨e.val / 64, by omega⟩ ⟨e.val % 64, by omega⟩) := by
  unfold flatHeads
  pointwise []

theorem keyC_at (ho) (b : Fin 8) (r : Fin 4096) (e : Fin 256) :
    flatHeads (turn4 (heads4 (projected x g w) 1024 ho) (cosA p) (sinA p)) (ix3 b r e) = keyC (argsOf x p g w bias) b r e.val := by
  rw [flatHeads_at, keys4_at x p g w bias]
  unfold keyC
  refine congrArg (turned _ _ _ _) ?_
  show e.val / 64 * 64 + e.val % 64 = e.val
  omega

theorem keys_at (o : ℕ) (ho) (Z : FVec Ideal S8x4x16x256x64 .f32) (fill : ℕ → ℕ → EReal)
    (hZ : ∀ b h n s l, Z (ix5 b h n s l) = fill (posAt n s).val l.val)
    (b : Fin 8) (h : Fin 4) (n : Fin 16) (s : Fin 256) (l : Fin 128) :
    beside (tiles (turn4 (heads4 (projected x g w) o ho) (cosA p) (sinA p))) Z (ix5 b h n s l)
      = keys (argsOf x p g w bias) o fill b h n s l.val := by
  rw [beside_at]
  unfold keys
  by_cases e : l.val < 64
  · rw [dif_pos e, if_pos e, tiles_at, keys4_at x p g w bias]
  · rw [dif_neg e, if_neg e, hZ]

/-- The window keys' fill. -/
def zeros : FVec Ideal S8x4x16x256x64 .f32 :=
  broadcastInDim S8x4x16x256x64 ![] bcast_S_S8x4x16x256x64 (constant S_ .f32 0x00000000#32)

theorem zeros_at (b : Fin 8) (h : Fin 4) (n : Fin 16) (s : Fin 256) (l : Fin 64) : zeros (ix5 b h n s l) = 0 := by
  unfold zeros
  pointwise []

theorem vals_at (o : ℕ) (ho) (b : Fin 8) (h : Fin 4) (n : Fin 16) (d : Fin 80) (s : Fin 256) :
    overOnes (tiles (heads4 (projected x g w) o ho)) (ix5 b h n d s) = vals (argsOf x p g w bias) o b h n d.val s := by
  rw [overOnes_at]
  unfold vals
  by_cases e : d.val < 64
  · rw [dif_pos e, if_pos e, tiles_at, heads4_at x p g w bias]
  · rw [dif_neg e, if_neg e]

theorem valC_at (ho) (b : Fin 8) (r : Fin 4096) (e : Fin 256) :
    extractStridedSlice S8x4096x256 ![0, 0, 1280] (projected x g w) ho (ix3 b r e) = valC (argsOf x p g w bias) b r e.val := by
  unfold valC
  pointwise []
  rw [projected_at x p g w bias]

variable (m : (ℓ : Loc nD τ sig) → Buf (Elt Ideal) ℓ) (c : Dev nD)

/-- The operands in the memory. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Their projection. -/
def prod : FVec Ideal S8x4096x3632 .f32 :=
  projected (m ((c.tc : Thread nD τ).loc main_arg0)) (m ((c.tc : Thread nD τ).loc main_arg2)) (m ((c.tc : Thread nD τ).loc main_arg3))

/-- A stretch of keys of theirs, turned. -/
def keys4 (o : ℕ) (ho : S8x4096x3632.Slices ![0, 0, o] S8x4096x256) : FVec Ideal S8x4096x4x64 .f32 :=
  turn4 (heads4 (prod m c) o ho) (cosA (m ((c.tc : Thread nD τ).loc main_arg1))) (sinA (m ((c.tc : Thread nD τ).loc main_arg1)))

/-- Their queries. -/
def queries : FVec Ideal S8x4096x1024 .bf16 :=
  narrowed (scaled (turn16 (heads16 (prod m c)) (cosA (m ((c.tc : Thread nD τ).loc main_arg1)))
    (sinA (m ((c.tc : Thread nD τ).loc main_arg1)))))

/-- A run ends with the nine results and the arguments as they were. -/
theorem run_states (ρ : Dev nD → PrngReg) :
    θ_run defs (onTc (τ := τ) (main (F := Ideal))) ⟨m, fun _ => 0, ρ⟩ fun r => ∀ c : Dev nD,
      r.2.mem ((c.tc : Thread nD τ).loc main_v187) = (fun y : S8x4096x1024.Idx => query (args m c) (y 0) (y 1) (y 2).val)
      ∧ r.2.mem ((c.tc : Thread nD τ).loc main_v188) = (fun y : S8x4096x256.Idx => keyC (args m c) (y 0) (y 1) (y 2).val)
      ∧ r.2.mem ((c.tc : Thread nD τ).loc main_v16) = (fun y : S8x4096x256.Idx => valC (args m c) (y 0) (y 1) (y 2).val)
      ∧ r.2.mem ((c.tc : Thread nD τ).loc main_v189)
        = (fun y : S8x4x16x256x128.Idx => keyS (args m c) (y 0) (y 1) (y 2) (y 3) (y 4).val)
      ∧ r.2.mem ((c.tc : Thread nD τ).loc main_v190)
        = (fun y : S8x4x16x256x128.Idx => keyW (args m c) (y 0) (y 1) (y 2) (y 3) (y 4).val)
      ∧ r.2.mem ((c.tc : Thread nD τ).loc main_v197)
        = (fun y : S8x4x16x80x256.Idx => vals (args m c) 1792 (y 0) (y 1) (y 2) (y 3).val (y 4))
      ∧ r.2.mem ((c.tc : Thread nD τ).loc main_v204)
        = (fun y : S8x4x16x80x256.Idx => vals (args m c) 2304 (y 0) (y 1) (y 2) (y 3).val (y 4))
      ∧ r.2.mem ((c.tc : Thread nD τ).loc main_v205)
        = (fun y : S8x4x16x4096.Idx => gate (args m c) (y 0) (y 1) (y 2).val (y 3))
      ∧ r.2.mem ((c.tc : Thread nD τ).loc main_v207) = (fun y : S8x4096x1024.Idx => gateZ (args m c) (y 0) (y 1) (y 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨hq, hk, hv, hks, hkw, hvs, hvw, hg, hz, ha⟩ := h c
    refine ⟨?_, ?_, ?_, ?_, ?_, ?_, ?_, ?_, ?_, ha⟩
    · refine hq.trans (show queries m c = _ from funext fun y => ?_)
      exact (narrowed_at _ y).trans ((congrArg _ (eq_ix3 y)).trans (queries_at _ _ _ _ _ (y 0) (y 1) (y 2)))
    · refine hk.trans (show flatHeads (keys4 m c 1024 slices_S8x4096x3632_S8x4096x256_0_0_1024) = _ from funext fun y => ?_)
      exact (congrArg _ (eq_ix3 y)).trans (keyC_at _ _ _ _ _ _ (y 0) (y 1) (y 2))
    · refine hv.trans (funext fun y => ?_)
      exact (congrArg _ (eq_ix3 y)).trans (valC_at _ (m ((c.tc : Thread nD τ).loc main_arg1)) _ _ _ _ (y 0) (y 1) (y 2))
    · refine hks.trans (show beside (tiles (keys4 m c 1536 slices_S8x4096x3632_S8x4096x256_0_0_1536)) oneHots = _ from
        funext fun y => ?_)
      exact (congrArg _ (eq_ix5 y)).trans (keys_at _ _ _ _ _ 1536 _ oneHots oneHot oneHots_at (y 0) (y 1) (y 2) (y 3) (y 4))
    · refine hkw.trans (show beside (tiles (keys4 m c 2048 slices_S8x4096x3632_S8x4096x256_0_0_2048)) zeros = _ from
        funext fun y => ?_)
      exact (congrArg _ (eq_ix5 y)).trans (keys_at _ _ _ _ _ 2048 _ zeros _ zeros_at (y 0) (y 1) (y 2) (y 3) (y 4))
    · refine hvs.trans (show overOnes (tiles (heads4 (prod m c) 1792 slices_S8x4096x3632_S8x4096x256_0_0_1792)) = _ from
        funext fun y => ?_)
      exact (congrArg _ (eq_ix5 y)).trans
        (vals_at _ (m ((c.tc : Thread nD τ).loc main_arg1)) _ _ _ 1792 _ (y 0) (y 1) (y 2) (y 3) (y 4))
    · refine hvw.trans (show overOnes (tiles (heads4 (prod m c) 2304 slices_S8x4096x3632_S8x4096x256_0_0_2304)) = _ from
        funext fun y => ?_)
      exact (congrArg _ (eq_ix5 y)).trans
        (vals_at _ (m ((c.tc : Thread nD τ).loc main_arg1)) _ _ _ 2304 _ (y 0) (y 1) (y 2) (y 3) (y 4))
    · refine hg.trans (show gates (m ((c.tc : Thread nD τ).loc main_arg4)) (prod m c) = _ from funext fun y => ?_)
      exact (congrArg _ (eq_ix4 y)).trans (gates_at _ (m ((c.tc : Thread nD τ).loc main_arg1)) _ _ _ (y 0) (y 1) (y 2) (y 3))
    · refine hz.trans (show narrowed (gateO (prod m c)) = _ from funext fun y => ?_)
      exact (narrowed_at _ y).trans ((congrArg _ (eq_ix3 y)).trans
        (gateO_at _ (m ((c.tc : Thread nD τ).loc main_arg1)) _ _ (m ((c.tc : Thread nD τ).loc main_arg4)) (y 0) (y 1) (y 2))))
    (Value.run m ρ)

end Cert.NsaProjReferenceIdeal.Core
-- ==== Proof.NsaProjClaim.lean ====
/-
The second layer's projection's claims: the reference's frame, and the kernel's nine arrays against the reference's results.
-/
module

public import proofs.«01_k».proof.Defs
public import proofs.«01_k».proof.Proof.NsaKernel
public import proofs.«01_k».proof.Proof.NsaRef
public import Idealize.ShloMosaic.Lib.Claim
public import Idealize.ShloMosaic.Lib.Quiescent

@[expose] public section

noncomputable section

namespace Cert.NsaProjClaim

open Idealize.ShloMosaic Idealize.ShloMosaic.TcCoe Idealize.SL.Sem

/-- The reference's frame: it runs, keeps its arguments, and has no semaphore. -/
theorem frame_reference : Cert.quiescent_NsaProjReferenceIdeal := fun m g _ =>
  (θ_run Cert.NsaProjReferenceIdeal.defs _ _).mono
    (fun r h => And.intro (fun c => (h c).2.2.2.2.2.2.2.2.2) (sem_eq_zero_of_no_sems (by decide) r.2))
    (Cert.NsaProjReferenceIdeal.Core.run_states m g)

variable (m : (ℓ : Loc Cert.NsaProjIdeal.nD Cert.NsaProjIdeal.τ Cert.NsaProjIdeal.sig) → Buf (Elt Ideal) ℓ)
  (m' : (ℓ : Loc Cert.NsaProjReferenceIdeal.nD Cert.NsaProjReferenceIdeal.τ Cert.NsaProjReferenceIdeal.sig) → Buf (Elt Ideal) ℓ)
  (c : Dev Cert.NsaProjIdeal.nD)

/-- The two programs' operands are the same where their arguments agree. -/
theorem args_eq
    (h0 : m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0))
    (h1 : m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1))
    (h2 : m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2))
    (h3 : m' ((c.tc : Thread Cert.NsaProjReferenceIdeal.nD Cert.NsaProjReferenceIdeal.τ).loc Cert.NsaProjReferenceIdeal.main_arg3) = m ((c.tc : Thread Cert.NsaProjIdeal.nD Cert.NsaProjIdeal.τ).loc Cert.NsaProjIdeal.main_arg3))
    (h4 : m' ((c.tc : Thread Cert.NsaProjReferenceIdeal.nD Cert.NsaProjReferenceIdeal.τ).loc Cert.NsaProjReferenceIdeal.main_arg4) = m ((c.tc : Thread Cert.NsaProjIdeal.nD Cert.NsaProjIdeal.τ).loc Cert.NsaProjIdeal.main_arg4)) :
    Cert.NsaProjReferenceIdeal.Core.args m' c = Cert.NsaProjIdeal.Core.args m c := by
  unfold Cert.NsaProjReferenceIdeal.Core.args
  rw [h0, h1, h2, h3, h4]
  rfl

/-- The kernel's results are the reference's. -/
theorem algebraic : Cert.algebraic_NsaProjIdeal_NsaProjReferenceIdeal := by
  intro m g m' g' _ hagree
  refine ⟨_, _, _, _, _, _, _, _, _, Cert.NsaProjIdeal.Core.run_states m g, ?_⟩
  refine (θ_run Cert.NsaProjReferenceIdeal.defs _ _).mono (fun r h c => ?_) (Cert.NsaProjReferenceIdeal.Core.run_states m' g')
  have hc : Cert.NsaProjReferenceIdeal.Core.args m' c = Cert.NsaProjIdeal.Core.args m c := by
    obtain ⟨h0, h1, h2, h3, h4⟩ := hagree c
    exact args_eq m m' c h0 h1 h2 h3 h4
  have hr := h c
  rw [hc] at hr
  exact hr

end Cert.NsaProjClaim
-- ==== Proof.CmpMath.lean ====
/-
The compression's mathematics: a block of 32 positions plus its embedding against the first weight, and the same sum in
the kernel's order: the block's two halves, each 16 positions at a time, and the embedding's product.
-/
module

public import proofs.«01_k».proof.Proof.Rows

@[expose] public section

noncomputable section

open Idealize.ShloMosaic

namespace Cert.Cmp

open Cert.Rows

/-- The operands: the tokens, the block's embedding, the two weights. -/
structure Args where
  t : Fin 8 → Fin 4096 → Fin 256 → EReal
  pe : Fin 32 → Fin 64 → EReal
  w1 : Fin 2048 → Fin 256 → EReal
  w2 : Fin 256 → Fin 64 → EReal

/-- The operands of the arrays. -/
def argsOf (t : (⟨3, ![8, 4096, 256]⟩ : Shape).Idx → EReal) (pe : (⟨2, ![32, 64]⟩ : Shape).Idx → EReal)
    (w1 : (⟨2, ![2048, 256]⟩ : Shape).Idx → EReal) (w2 : (⟨2, ![256, 64]⟩ : Shape).Idx → EReal) : Args :=
  ⟨fun b r e => t (ix3 b r e), fun l e => pe (ix2 l e), fun x h => w1 (ix2 x h), fun h d => w2 (ix2 h d)⟩

variable (I : Args)

/-- Position `l` of block `n`, one block every 16 positions; the last block runs on from the head. -/
def posOf (n : Fin 256) (l : ℕ) : Fin 4096 := ⟨(16 * n.val + l) % 4096, Nat.mod_lt _ (by decide)⟩

/-- Lane `e` of group `g`. -/
def laneOf (g : Fin 4) (e : Fin 64) : Fin 256 := ⟨g.val * 64 + e.val, by omega⟩

/-- An element of the embedding, by its place in the flattened block. -/
def peAt (x : Fin 2048) : EReal := I.pe ⟨x.val / 64, by omega⟩ ⟨x.val % 64, by omega⟩

/-- A token of block `n`, by its place in the flattened block. -/
def tokAt (b : Fin 8) (g : Fin 4) (n : Fin 256) (x : Fin 2048) : EReal :=
  I.t b (posOf n (x.val / 64)) (laneOf g ⟨x.val % 64, by omega⟩)

/-- The hidden layer: the block plus its embedding against the first weight. -/
def hidden (b : Fin 8) (g : Fin 4) (n : Fin 256) (h : Fin 256) : EReal :=
  ∑ x : Fin 2048, (tokAt I b g n x + peAt I x) * I.w1 x h

/-- 16 positions from the start of block `n` against the first weight's rows from `o` on. -/
def part (b : Fin 8) (g : Fin 4) (n : Fin 256) (h : Fin 256) (o : ℕ) (ho : o ≤ 1024) : EReal :=
  ∑ j : Fin 16, ∑ e : Fin 64, I.t b ⟨16 * n.val + j.val, by omega⟩ (laneOf g e)
    * I.w1 ⟨o + (j.val * 64 + e.val), by omega⟩ h

/-- The block after. -/
def next (n : Fin 256) : Fin 256 := ⟨(n.val + 1) % 256, Nat.mod_lt _ (by decide)⟩

/-- The hidden layer in the kernel's order. -/
def hiddenK (b : Fin 8) (g : Fin 4) (n : Fin 256) (h : Fin 256) : EReal :=
  part I b g n h 0 (by omega) + part I b g (next n) h 1024 (by omega) + ∑ x : Fin 2048, peAt I x * I.w1 x h

/-- A compressed token. -/
def token (b : Fin 8) (g : Fin 4) (n : Fin 256) (d : Fin 64) : EReal :=
  ∑ h : Fin 256, silu (hidden I b g n h) * I.w2 h d

/-- The embedding and the first weight hold no infinity. -/
def Finite : Prop := (∀ l e, ∃ r : ℝ, I.pe l e = r) ∧ ∀ x h, ∃ r : ℝ, I.w1 x h = r

/-- A sum times a real is the sum of the products, where one of its terms is real. -/
theorem add_mul_real (t : EReal) (p w : ℝ) : (t + p) * (w : EReal) = t * w + p * w := by
  induction t with
  | coe r => norm_cast; ring
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy w 0 with h | h | h
    · rw [EReal.top_mul_coe_of_neg h, EReal.bot_add]
    · subst h; simp
    · rw [EReal.top_mul_coe_of_pos h, ← EReal.coe_mul, EReal.top_add_coe]

/-- 1024 terms are 16 times 64. -/
theorem sum_1024 (F : Fin 1024 → EReal) : ∑ x, F x = ∑ j : Fin 16, ∑ e : Fin 64, F ⟨j.val * 64 + e.val, by omega⟩ := by
  rw [← Fintype.sum_prod_type', ← Equiv.sum_comp (finProdFinEquiv (m := 16) (n := 64)) F]
  refine Finset.sum_congr rfl fun p _ => congrArg F (Fin.ext ?_)
  show p.2.val + 64 * p.1.val = p.1.val * 64 + p.2.val
  omega

theorem hiddenK_eq (hf : Finite I) (b : Fin 8) (g : Fin 4) (n : Fin 256) (h : Fin 256) :
    hiddenK I b g n h = hidden I b g n h := by
  have hs : hidden I b g n h = ∑ x, (tokAt I b g n x * I.w1 x h + peAt I x * I.w1 x h) :=
    Finset.sum_congr rfl fun x _ => by
      obtain ⟨p, hp⟩ := hf.1 ⟨x.val / 64, by omega⟩ ⟨x.val % 64, by omega⟩
      obtain ⟨w, hw⟩ := hf.2 x h
      unfold peAt
      rw [hp, hw]
      exact add_mul_real _ p w
  rw [hs, Finset.sum_add_distrib]
  refine congrArg (· + _) ?_
  refine Eq.symm ((Fin.sum_univ_add (a := 1024) (b := 1024) fun x => tokAt I b g n x * I.w1 x h).trans ?_)
  rw [sum_1024, sum_1024]
  refine congrArg₂ (· + ·) ?_ ?_
  · refine Finset.sum_congr rfl fun j _ => Finset.sum_congr rfl fun e _ => ?_
    unfold tokAt
    refine congrArg₂ (· * ·) ?_ (congrArg (I.w1 · h) (Fin.ext ?_))
    · refine congrArg₂ (I.t b) (Fin.ext ?_) (congrArg (laneOf g) (Fin.ext ?_))
      · show (16 * n.val + (j.val * 64 + e.val) / 64) % 4096 = 16 * n.val + j.val
        omega
      · show (j.val * 64 + e.val) % 64 = e.val
        omega
    · show j.val * 64 + e.val = 0 + (j.val * 64 + e.val)
      omega
  · refine Finset.sum_congr rfl fun j _ => Finset.sum_congr rfl fun e _ => ?_
    unfold tokAt
    refine congrArg₂ (· * ·) ?_ (congrArg (I.w1 · h) (Fin.ext rfl))
    refine congrArg₂ (I.t b) (Fin.ext ?_) (congrArg (laneOf g) (Fin.ext ?_))
    · show (16 * n.val + (1024 + (j.val * 64 + e.val)) / 64) % 4096 = 16 * ((n.val + 1) % 256) + j.val
      omega
    · show (1024 + (j.val * 64 + e.val)) % 64 = e.val
      omega

end Cert.Cmp
-- ==== Proof.CmpKernel.lean ====
/-
The compression's kernel: what it leaves in its output array, at every group, block and lane.
-/
module

public import proofs.«01_k».proof.Proof.Gen.CompressIdeal.Value
public import proofs.«01_k».proof.Proof.CmpMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CompressIdeal.Core

open Cert.CompressIdeal Cert.CompressIdeal.Gen Cert.Rows Cert.Cmp

variable (m : (ℓ : Loc nD τ sig) → Buf (Elt Ideal) ℓ) (c : Dev nD)

/-- The operands in the memory. -/
def args : Args :=
  argsOf (m ((c : Thread nD τ).loc main_arg0)) (m ((c : Thread nD τ).loc main_arg1)) (m ((c : Thread nD τ).loc main_arg2))
    (m ((c : Thread nD τ).loc main_arg3))

/-- The tokens' and the result's blocks follow the grid; the others are whole. -/
theorem idx : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 4) = t.val ∧ win0_5.index t (1 : Fin 4) = 0 ∧ win0_5.index t (2 : Fin 4) = 0
      ∧ win0_5.index t (3 : Fin 4) = 0) :=
  (by decide +kernel : ∀ t : Fin grid0.N, _)

/-- A grid point's batch entry. -/
def bAt (t : Fin cfg0.N) : Fin 8 := ⟨t.val, lt_of_lt_of_eq t.isLt N_0⟩

/-- The embedding's row, padded to eight. -/
def peRows (pe : FVec Ideal S32x64 .f32) : FVec Ideal S8x2048 .f32 :=
  pad S8x2048 ![0, 0] ![7, 0] ![0, 0] (shapeCast S1x2048 pe shapeCasts_S32x64_S1x2048) (sitofp .f32 (constantI S_ 32 0#32))
    pads_S1x2048_S8x2048_070_000 h_S_

theorem peRows_at (pe : FVec Ideal S32x64 .f32) (x : Fin 2048) :
    peRows pe (ix2 0 x) = pe (ix2 ⟨x.val / 64, by omega⟩ ⟨x.val % 64, by omega⟩) := by
  unfold peRows
  pointwise []

/-- The first weight's halves, by 16 positions. -/
def halves (w : FVec Ideal S2048x256 .f32) : FVec Ideal S2x16x64x256 .bf16 :=
  shapeCast S2x16x64x256 (truncf .bf16 w bitsLt_bf16_f32) shapeCasts_S2048x256_S2x16x64x256

/-- The two halves side by side. -/
def wPair (w : FVec Ideal S2048x256 .f32) : FVec Ideal S16x64x512 .bf16 :=
  concatenate S16x64x512 2
    [⟨S16x64x256, shapeCast S16x64x256 (extractStridedSlice S1x16x64x256 ![0, 0, 0, 0] (halves w)
      slices_S2x16x64x256_S1x16x64x256_0_0_0_0) shapeCasts_S1x16x64x256_S16x64x256⟩,
    ⟨S16x64x256, shapeCast S16x64x256 (extractStridedSlice S1x16x64x256 ![1, 0, 0, 0] (halves w)
      slices_S2x16x64x256_S1x16x64x256_1_0_0_0) shapeCasts_S1x16x64x256_S16x64x256⟩]
    concatenates_S16x64x256_S16x64x256_S16x64x512_d2

theorem wPair_lo (w : FVec Ideal S2048x256 .f32) (j : Fin 16) (e : Fin 64) (h : Fin 256) :
    wPair w (ix3 j e ⟨h.val, by omega⟩) = w (ix2 ⟨0 + (j.val * 64 + e.val), by omega⟩ h) := by
  unfold wPair halves
  pointwise []

theorem wPair_hi (w : FVec Ideal S2048x256 .f32) (j : Fin 16) (e : Fin 64) (h : Fin 256) :
    wPair w (ix3 j e ⟨256 + h.val, by omega⟩) = w (ix2 ⟨1024 + (j.val * 64 + e.val), by omega⟩ h) := by
  unfold wPair halves
  pointwise []
  exact congrArg (fun k => w (ix2 k h)) (Fin.ext (Nat.add_assoc ..))

set_option maxHeartbeats 1600000 in
theorem entry_t : V m c main_v0 = shapeCast S8x256x4096 (m ((c : Thread nD τ).loc main_arg0)) shapeCasts_S8x4096x256_S8x256x4096 := by
  unfold V
  simp only [hostOps0, hostOps0_1, hostOps0_2, List.flatten_cons, List.flatten_nil, List.append_nil, List.cons_append,
    List.nil_append]
  simp only [StableHlo.TRef.unary, StableHlo.TRef.binary, StableHlo.TRef.toBuf, StableHlo.TRef.ofBuf, cast_eq]
  after_results_simp <;> rfl

set_option maxHeartbeats 1600000 in
theorem entry_pe : V m c main_v2 = peRows (m ((c : Thread nD τ).loc main_arg1)) := by
  unfold V
  simp only [hostOps0, hostOps0_1, hostOps0_2, List.flatten_cons, List.flatten_nil, List.append_nil, List.cons_append,
    List.nil_append]
  simp only [StableHlo.TRef.unary, StableHlo.TRef.binary, StableHlo.TRef.toBuf, StableHlo.TRef.ofBuf, cast_eq]
  after_results_simp <;> rfl

set_option maxHeartbeats 1600000 in
theorem entry_w : V m c main_v3 = truncf (F := Ideal) .bf16 (m ((c : Thread nD τ).loc main_arg2)) bitsLt_bf16_f32 := by
  unfold V
  simp only [hostOps0, hostOps0_1, hostOps0_2, List.flatten_cons, List.flatten_nil, List.append_nil, List.cons_append,
    List.nil_append]
  simp only [StableHlo.TRef.unary, StableHlo.TRef.binary, StableHlo.TRef.toBuf, StableHlo.TRef.ofBuf, cast_eq]
  after_results_simp <;> rfl

set_option maxHeartbeats 1600000 in
theorem entry_wj : V m c main_v9 = wPair (m ((c : Thread nD τ).loc main_arg2)) := by
  unfold V
  simp only [hostOps0, hostOps0_1, hostOps0_2, List.flatten_cons, List.flatten_nil, List.append_nil, List.cons_append,
    List.nil_append]
  simp only [StableHlo.TRef.unary, StableHlo.TRef.binary, StableHlo.TRef.toBuf, StableHlo.TRef.ofBuf, cast_eq]
  after_results_simp <;> rfl

set_option maxHeartbeats 1600000 in
theorem entry_w2 : V m c main_v10 = truncf (F := Ideal) .bf16 (m ((c : Thread nD τ).loc main_arg3)) bitsLt_bf16_f32 := by
  unfold V
  simp only [hostOps0, hostOps0_1, hostOps0_2, List.flatten_cons, List.flatten_nil, List.append_nil, List.cons_append,
    List.nil_append]
  simp only [StableHlo.TRef.unary, StableHlo.TRef.binary, StableHlo.TRef.toBuf, StableHlo.TRef.ofBuf, cast_eq]
  after_results_simp <;> rfl

/-- The tokens by 16 positions, at an index. -/
theorem rows_at (u : S8x4096x256.Idx → EReal) (b : Fin 8) (n : Fin 256) (j : Fin 16) (e : Fin 256) :
    shapeCast S8x256x4096 u shapeCasts_S8x4096x256_S8x256x4096 (ix3 b n ⟨j.val * 256 + e.val, by omega⟩)
      = u (ix3 b ⟨16 * n.val + j.val, by omega⟩ e) := by
  pointwise []
  blk_ext []

theorem blk_t (t : Fin cfg0.N) (n : Fin 256) (j : Fin 16) (e : Fin 256) :
    iblk m c 0 t (ix3 0 n ⟨j.val * 256 + e.val, by omega⟩) = (args m c).t (bAt t) ⟨16 * n.val + j.val, by omega⟩ e := by
  have h := (idx t).1
  refine Eq.trans ?_ (rows_at (m ((c : Thread nD τ).loc main_arg0)) (bAt t) n j e)
  rw [← entry_t m c]
  unfold bAt
  blk_simp [iblk]
  blk_ext [h]

theorem blk_pe (t : Fin cfg0.N) (x : Fin 2048) : iblk m c 1 t (ix2 0 x) = peAt (args m c) x := by
  have h := (idx t).2.1
  refine Eq.trans ?_ (peRows_at (m ((c : Thread nD τ).loc main_arg1)) x)
  rw [← entry_pe m c]
  blk_simp [iblk]
  blk_ext [h]

theorem blk_w (t : Fin cfg0.N) (x : Fin 2048) (e : Fin 256) : iblk m c 2 t (ix2 x e) = (args m c).w1 x e := by
  have h := (idx t).2.2.1
  blk_simp [iblk]
  rw [entry_w]
  show m ((c : Thread nD τ).loc main_arg2) _ = m ((c : Thread nD τ).loc main_arg2) _
  blk_ext [h]

theorem blk_wj (t : Fin cfg0.N) (j : Fin 16) (e : Fin 64) (k : Fin 512) :
    iblk m c 3 t (ix3 j e k) = wPair (m ((c : Thread nD τ).loc main_arg2)) (ix3 j e k) := by
  have h := (idx t).2.2.2.1
  rw [← entry_wj m c]
  blk_simp [iblk]
  blk_ext [h]

theorem blk_w2 (t : Fin cfg0.N) (e : Fin 256) (d : Fin 64) : iblk m c 4 t (ix2 e d) = (args m c).w2 e d := by
  have h := (idx t).2.2.2.2.1
  blk_simp [iblk]
  rw [entry_w2]
  show m ((c : Thread nD τ).loc main_arg3) _ = m ((c : Thread nD τ).loc main_arg3) _
  blk_ext [h]

/-- A load of 16 positions' tokens from the block. -/
theorem ld_x (X : Vec Ideal S1x256x4096 .f32) (o : ℕ) (ho) (n e : Fin 256) :
    View.ld X (Rect.unit (s := S1x256x4096) ![0, 0, o] S1x256x256.size ho) (ix3 0 n e)
      = X (ix3 0 n ⟨o + e.val, by have h : o + 256 ≤ 4096 := ho 2; omega⟩) := by
  pointwise []

/-- A load of 16 positions' rows of the paired weight. -/
theorem ld_w (W : Vec Ideal S16x64x512 .bf16) (o : ℕ) (ho) (e : Fin 64) (k : Fin 512) :
    View.ld W (Rect.unit (s := S16x64x512) ![o, 0, 0] S1x64x512.size ho) (ix3 0 e k)
      = W (ix3 ⟨o, by have h : o + 1 ≤ 16 := ho 0; omega⟩ e k) := by
  pointwise []

/-- One load of tokens and one of the paired weight. -/
abbrev Loads := Vec Ideal S1x256x256 .f32 × Vec Ideal S1x64x512 .bf16

/-- A step of a group's sum: the group's lanes of the tokens against the weight, from lane `o` on. -/
def step (o : ℕ) (ho : S256x256.Slices ![0, o] S256x64) (p : Loads) : FVec Ideal S256x512 .f32 :=
  matmul dot_S256x64_S64x512_S256x512_1_0_0_1_n_n none
    (extractStridedSlice S256x64 ![0, o] (truncf .bf16 (shapeCast S256x256 p.1 shapeCasts_S1x256x256_S256x256) bitsLt_bf16_f32) ho)
    (φ₂ := .bf16) (shapeCast S64x512 (show Vec Ideal S1x64x512 .bf16 from p.2) shapeCasts_S1x64x512_S64x512) (constant S256x512 .f32 0x00000000#32)

theorem step_at (o : ℕ) (ho : S256x256.Slices ![0, o] S256x64) (p : Loads) (n : Fin 256) (k : Fin 512) :
    step o ho p (ix2 n k) = ∑ e : Fin 64, p.1 (ix3 0 n ⟨o + e.val, by have h : o + 64 ≤ 256 := ho.2 1; omega⟩) * p.2 (ix3 0 e k) := by
  unfold step
  pointwise []

/-- A group's sum over its loads. -/
def accum (o : ℕ) (ho : S256x256.Slices ![0, o] S256x64) (ps : List Loads) : FVec Ideal S256x512 .f32 :=
  ps.foldl (fun acc p => addf acc (step o ho p)) (constant S256x512 .f32 0x00000000#32)

theorem foldl_at (f : Loads → FVec Ideal S256x512 .f32) (y : S256x512.Idx) : ∀ (ps : List Loads) (z : FVec Ideal S256x512 .f32),
    ps.foldl (fun acc p => addf acc (f p)) z y = z y + (ps.map fun p => f p y).sum
  | [], z => by simp
  | p :: ps, z => by
    rw [List.foldl_cons, foldl_at f y ps, List.map_cons, List.sum_cons, ← add_assoc]
    rfl

theorem accum_at (o : ℕ) (ho) (ps : List Loads) (n : Fin 256) (k : Fin 512) :
    accum o ho ps (ix2 n k) = (ps.map fun p => step o ho p (ix2 n k)).sum := by
  unfold accum
  rw [foldl_at]
  show Ideal.ofBits .f32 0x00000000#32 + _ = _
  rw [Ideal.ofBits_zero, zero_add]

/-- The sixteen pairs of loads of a grid point. -/
def loads (X : Vec Ideal S1x256x4096 .f32) (W : Vec Ideal S16x64x512 .bf16) : List Loads :=
  [(View.ld X r0_3, View.ld W r0_4), (View.ld X r0_5, View.ld W r0_6), (View.ld X r0_7, View.ld W r0_8),
    (View.ld X r0_9, View.ld W r0_10), (View.ld X r0_11, View.ld W r0_12), (View.ld X r0_13, View.ld W r0_14),
    (View.ld X r0_15, View.ld W r0_16), (View.ld X r0_17, View.ld W r0_18), (View.ld X r0_19, View.ld W r0_20),
    (View.ld X r0_21, View.ld W r0_22), (View.ld X r0_23, View.ld W r0_24), (View.ld X r0_25, View.ld W r0_26),
    (View.ld X r0_27, View.ld W r0_28), (View.ld X r0_29, View.ld W r0_30), (View.ld X r0_31, View.ld W r0_32),
    (View.ld X r0_33, View.ld W r0_34)]

/-- A term of a group's sum. -/
theorem term_at (t : Fin cfg0.N) (g : Fin 4) (o : ℕ) (ho : S256x256.Slices ![0, o] S256x64) (hg : o = g.val * 64) (j : Fin 16)
    (a b : ℕ) (ha) (hb) (ea : a = j.val * 256) (eb : b = j.val) (n : Fin 256) (k : Fin 512) :
    step o ho (View.ld (iblk m c 0 t) (Rect.unit (s := S1x256x4096) ![0, 0, a] S1x256x256.size ha),
        View.ld (iblk m c 3 t) (Rect.unit (s := S16x64x512) ![b, 0, 0] S1x64x512.size hb)) (ix2 n k)
      = ∑ e : Fin 64, (args m c).t (bAt t) ⟨16 * n.val + j.val, by omega⟩ (laneOf g e)
        * wPair (m ((c : Thread nD τ).loc main_arg2)) (ix3 j e k) := by
  subst hg ea eb
  rw [step_at]
  refine Finset.sum_congr rfl fun e _ => ?_
  exact congrArg₂ (· * ·) ((ld_x (iblk m c 0 t) _ ha n (laneOf g e)).trans (blk_t m c t n j (laneOf g e)))
    ((ld_w (iblk m c 3 t) _ hb e k).trans (blk_wj m c t j e k))

/-- A group's sum at a row and column. -/
theorem sum_at (t : Fin cfg0.N) (g : Fin 4) (o : ℕ) (ho : S256x256.Slices ![0, o] S256x64) (hg : o = g.val * 64)
    (n : Fin 256) (k : Fin 512) :
    accum o ho (loads (iblk m c 0 t) (iblk m c 3 t)) (ix2 n k)
      = ∑ j : Fin 16, ∑ e : Fin 64, (args m c).t (bAt t) ⟨16 * n.val + j.val, by omega⟩ (laneOf g e)
        * wPair (m ((c : Thread nD τ).loc main_arg2)) (ix3 j e k) := by
  rw [accum_at, Fin.sum_univ_def]
  refine congrArg List.sum ?_
  have hr : List.finRange 16 = [0, 1, 2, 3, 4, 5, 6, 7, 8, 9, 10, 11, 12, 13, 14, 15] := by decide
  rw [hr]
  unfold loads
  simp only [List.map_cons, List.map_nil]
  have ht := fun j a b ha hb ea eb => term_at m c t g o ho hg j a b ha hb ea eb n k
  rw [ht 0 0 0 _ _ rfl rfl, ht 1 256 1 _ _ rfl rfl, ht 2 512 2 _ _ rfl rfl, ht 3 768 3 _ _ rfl rfl, ht 4 1024 4 _ _ rfl rfl,
    ht 5 1280 5 _ _ rfl rfl, ht 6 1536 6 _ _ rfl rfl, ht 7 1792 7 _ _ rfl rfl, ht 8 2048 8 _ _ rfl rfl, ht 9 2304 9 _ _ rfl rfl,
    ht 10 2560 10 _ _ rfl rfl, ht 11 2816 11 _ _ rfl rfl, ht 12 3072 12 _ _ rfl rfl, ht 13 3328 13 _ _ rfl rfl,
    ht 14 3584 14 _ _ rfl rfl, ht 15 3840 15 _ _ rfl rfl]

/-- The embedding's product. -/
theorem bias_at (t : Fin cfg0.N) (h : Fin 256) :
    k0_pay2 (View.ld (iblk m c 1 t) r0_0) (View.ld (iblk m c 2 t) r0_1) (ix2 0 h)
      = ∑ x : Fin 2048, peAt (args m c) x * (args m c).w1 x h := by
  pointwise [k0_pay2]
  simp only [blk_pe, blk_w]

/-- A group's hidden layer: the sum's two halves, the second from the row after, and the embedding's product. -/
def hid (A : FVec Ideal S256x512 .f32) (v : FVec Ideal S1x256 .f32) : FVec Ideal S256x256 .f32 :=
  addf (addf (extractStridedSlice S256x256 ![0, 0] A slices_S256x512_o0_0_S256x256)
    (dynamicRotate 0 255#32 none (extractStridedSlice S256x256 ![0, 256] A slices_S256x512_o0_256_S256x256) rotates_S256x256_d0))
    (broadcastTo S256x256 v broadcasts_S1x256_S256x256)

theorem hid_at (t : Fin cfg0.N) (g : Fin 4) (o : ℕ) (ho : S256x256.Slices ![0, o] S256x64) (hg : o = g.val * 64)
    (n h : Fin 256) :
    hid (accum o ho (loads (iblk m c 0 t) (iblk m c 3 t))) (k0_pay2 (View.ld (iblk m c 1 t) r0_0) (View.ld (iblk m c 2 t) r0_1)) (ix2 n h)
      = hiddenK (args m c) (bAt t) g n h := by
  unfold hid
  pointwise [Pointwise.dynamicRotate_apply]
  rw [sum_at m c t g o ho hg, sum_at m c t g o ho hg, bias_at]
  unfold hiddenK
  refine congrArg₂ (· + ·) (congrArg₂ (· + ·) ?_ ?_) rfl
  · refine Finset.sum_congr rfl fun j _ => Finset.sum_congr rfl fun e _ => congrArg (_ * ·) ?_
    exact wPair_lo _ j e h
  · refine Finset.sum_congr rfl fun j _ => Finset.sum_congr rfl fun e _ => congrArg₂ (· * ·) ?_ ?_
    · refine congrArg ((args m c).t (bAt t) · _) (Fin.ext ?_)
      show 16 * ((n.val + 256 - 255) % 256) + j.val = 16 * ((n.val + 1) % 256) + j.val
      omega
    · exact wPair_hi _ j e h

/-- A group's compressed tokens. -/
def piece (o : ℕ) (ho : S256x256.Slices ![0, o] S256x64) (x0 : Vec Ideal S1x256x4096 .f32) (x1 : Vec Ideal S8x2048 .f32)
    (x2 : Vec Ideal S2048x256 .bf16) (x3 : Vec Ideal S16x64x512 .bf16) (x4 : Vec Ideal S256x64 .bf16) :
    FVec Ideal S1x1x256x64 .f32 :=
  have H : FVec Ideal S256x256 .f32 := hid (accum o ho (loads x0 x3)) (k0_pay2 (View.ld x1 r0_0) (View.ld x2 r0_1))
  shapeCast S1x1x256x64 (matmul dot_S256x256_S256x64_S256x64_1_0_0_1_n_n none (truncf .bf16 (mulf H (logistic H)) bitsLt_bf16_f32)
    (k0_pay3 (View.ld x4 r0_2)) (constant S256x64 .f32 0x00000000#32)) shapeCasts_S256x64_S1x1x256x64

variable (hf : Finite (args m c))

include hf in
theorem piece_at (t : Fin cfg0.N) (g : Fin 4) (o : ℕ) (ho : S256x256.Slices ![0, o] S256x64) (hg : o = g.val * 64)
    (n : Fin 256) (d : Fin 64) :
    piece o ho (iblk m c 0 t) (iblk m c 1 t) (iblk m c 2 t) (iblk m c 3 t) (iblk m c 4 t) (ix4 0 0 n d)
      = token (args m c) (bAt t) g n d := by
  unfold piece
  pointwise [k0_pay3]
  unfold token
  refine Finset.sum_congr rfl fun h _ => ?_
  exact congrArg₂ (· * ·) (congrArg silu ((hid_at m c t g o ho hg n h).trans (hiddenK_eq _ hf (bAt t) g n h)))
    (blk_w2 m c t h d)

include hf in
theorem piece_eq (t : Fin cfg0.N) (g : Fin 4) (o : ℕ) (ho : S256x256.Slices ![0, o] S256x64) (hg : o = g.val * 64)
    (y : S1x4x256x64.Idx) (x0 x1 : Fin 1) (x2 : Fin 256) (x3 : Fin 64) (h1 : (y 1).val = g.val + x1.val)
    (h2 : (y 2).val = x2.val) (h3 : (y 3).val = x3.val) :
    piece o ho (iblk m c 0 t) (iblk m c 1 t) (iblk m c 2 t) (iblk m c 3 t) (iblk m c 4 t) (ix4 x0 x1 x2 x3)
      = token (args m c) (bAt t) (y 1) (y 2) (y 3) := by
  have e1 : y 1 = g := Fin.ext (by omega)
  have e2 : y 2 = x2 := Fin.ext h2
  have e3 : y 3 = x3 := Fin.ext h3
  rw [e1, e2, e3, Subsingleton.elim x0 0, Subsingleton.elim x1 0]
  exact piece_at m c hf t g o ho hg x2 x3

set_option maxRecDepth 100000 in
/-- What a grid point leaves: a piece per group. -/
theorem out_eq (x0 : Vec Ideal S1x256x4096 .f32) (x1 : Vec Ideal S8x2048 .f32)
    (x2 : Vec Ideal S2048x256 .bf16) (x3 : Vec Ideal S16x64x512 .bf16) (x4 : Vec Ideal S256x64 .bf16) :
    out0_5 x0 x1 x2 x3 x4
      = View.canon [⟨r0_38, piece 192 slices_S256x256_o0_192_S256x64 x0 x1 x2 x3 x4⟩,
        ⟨r0_37, piece 128 slices_S256x256_o0_128_S256x64 x0 x1 x2 x3 x4⟩,
        ⟨r0_36, piece 64 slices_S256x256_o0_64_S256x64 x0 x1 x2 x3 x4⟩,
        ⟨r0_35, piece 0 slices_S256x256_o0_0_S256x64 x0 x1 x2 x3 x4⟩] := by
  unfold out0_5
  refine congrArg View.canon ?_
  refine congrArg₂ List.cons ?_ (congrArg₂ List.cons ?_ (congrArg₂ List.cons ?_ (congrArg₂ List.cons ?_ rfl)))
  · rfl
  · rfl
  · rfl
  · rfl

include hf in
theorem block_eq (t : Fin cfg0.N) (y : S1x4x256x64.Idx) :
    out0_5 (iblk m c 0 t) (iblk m c 1 t) (iblk m c 2 t) (iblk m c 3 t) (iblk m c 4 t) y
      = token (args m c) (bAt t) (y 1) (y 2) (y 3) := by
  rw [out_eq]
  canon_tiles x h
  · idx_vars x
    exact piece_eq m c hf t 3 192 slices_S256x256_o0_192_S256x64 rfl y _ _ _ _ h1 h2 h3
  · idx_vars x
    exact piece_eq m c hf t 2 128 slices_S256x256_o0_128_S256x64 rfl y _ _ _ _ h1 h2 h3
  · idx_vars x
    exact piece_eq m c hf t 1 64 slices_S256x256_o0_64_S256x64 rfl y _ _ _ _ h1 h2 h3
  · idx_vars x
    exact piece_eq m c hf t 0 0 slices_S256x256_o0_0_S256x64 rfl y _ _ _ _ (h1.trans (Nat.zero_add _).symm) h2 h3

include hf in
/-- The output array. -/
theorem array_eq : (dats m 0 c).arrAt 5 cfg0.N = fun y : S8x4x256x64.Idx => token (args m c) (y 0) (y 1) (y 2) (y 3) := by
  refine (dats m 0 c).arrAt_eq_of_covers 5 _ (by decide +kernel) fun t hf' y => ?_
  blk_simp []
  rw [after0_5]
  obtain ⟨i0, i1, i2, i3⟩ := (idx t).2.2.2.2.2
  have b0 : ((win0_5.blk t).view.emb y 0).val = win0_5.index t (0 : Fin 4) * 1 + 1 * (y 0).val := rfl
  have b1 : ((win0_5.blk t).view.emb y 1).val = win0_5.index t (1 : Fin 4) * 4 + 1 * (y 1).val := rfl
  have b2 : ((win0_5.blk t).view.emb y 2).val = win0_5.index t (2 : Fin 4) * 256 + 1 * (y 2).val := rfl
  have b3 : ((win0_5.blk t).view.emb y 3).val = win0_5.index t (3 : Fin 4) * 64 + 1 * (y 3).val := rfl
  have z0 : (y 0).val = 0 := Nat.lt_one_iff.mp (y 0).isLt
  have e0 : (win0_5.blk t).view.emb y 0 = bAt t := Fin.ext (by rw [b0, i0, z0]; show t.val * 1 + 1 * 0 = t.val; omega)
  have e1 : (win0_5.blk t).view.emb y 1 = (y 1 : Fin 4) := Fin.ext (by rw [b1]; omega)
  have e2 : (win0_5.blk t).view.emb y 2 = (y 2 : Fin 256) := Fin.ext (by rw [b2]; omega)
  have e3 : (win0_5.blk t).view.emb y 3 = (y 3 : Fin 64) := Fin.ext (by rw [b3]; omega)
  rw [e0, e1, e2, e3]
  exact block_eq m c hf t y

/-- A run ends with the compressed tokens and the arguments as they were. -/
theorem run_states (hf : ∀ c, Finite (args m c)) (ρ : Dev nD → PrngReg) :
    θ_run defs (onTc (τ := τ) (main (F := Ideal))) ⟨m, fun _ => 0, ρ⟩ fun r => ∀ c : Dev nD,
      r.2.mem ((c : Thread nD τ).loc main_v11) = (fun y : S8x4x256x64.Idx => token (args m c) (y 0) (y 1) (y 2) (y 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (array_eq m c (hf c)), (h c).2⟩) (Value.run_blocks m ρ)

end Cert.CompressIdeal.Core
-- ==== Proof.CmpRef.lean ====
/-
The compression's reference: its result at every group, block and lane.
-/
module

public import proofs.«01_k».proof.Proof.CmpMath
public import proofs.«01_k».proof.Proof.Gen.CompressReferenceIdeal.Run

@[expose] public section

set_option maxRecDepth 16384

noncomputable section

open Idealize.ShloMosaic Idealize.ShloMosaic.TcCoe Idealize.SL.Sem

namespace Cert.CompressReferenceIdeal.Core

open Cert.CompressReferenceIdeal Cert.CompressReferenceIdeal.Gen Cert.Rows Cert.Cmp

variable (t : FVec Ideal S8x4096x256 .f32) (pe : FVec Ideal S32x64 .f32) (w1 : FVec Ideal S2048x256 .f32)
  (w2 : FVec Ideal S256x64 .f32)

/-- The tokens by 16 positions and by group. -/
def pieces : FVec Ideal S8x256x16x4x64 .f32 := shapeCast S8x256x16x4x64 t shapeCasts_S8x4096x256_S8x256x16x4x64

theorem pieces_at (b : Fin 8) (n : Fin 256) (j : Fin 16) (g : Fin 4) (e : Fin 64) :
    pieces t (ix5 b n j g e) = t (ix3 b ⟨16 * n.val + j.val, by omega⟩ (laneOf g e)) := by
  unfold pieces laneOf
  pointwise []
  blk_ext []

/-- The pieces from the second on, then the first. -/
def later : FVec Ideal S8x256x16x4x64 .f32 :=
  concatenate S8x256x16x4x64 1
    [⟨S8x255x16x4x64, extractStridedSlice S8x255x16x4x64 ![0, 1, 0, 0, 0] (pieces t) slices_S8x256x16x4x64_S8x255x16x4x64_0_1_0_0_0⟩,
      ⟨S8x1x16x4x64, extractStridedSlice S8x1x16x4x64 ![0, 0, 0, 0, 0] (pieces t) slices_S8x256x16x4x64_S8x1x16x4x64_0_0_0_0_0⟩]
    concatenates_S8x255x16x4x64_S8x1x16x4x64_S8x256x16x4x64_d1

theorem later_at (b : Fin 8) (n : Fin 256) (j : Fin 16) (g : Fin 4) (e : Fin 64) :
    later t (ix5 b n j g e) = pieces t (ix5 b (next n) j g e) := by
  unfold later
  pointwise []
  by_cases h : n.val < 255
  · rw [dif_pos h]
    exact congrArg (fun k => pieces t (ix5 b k j g e)) (Fin.ext (by show 1 + n.val = (n.val + 1) % 256; omega))
  · rw [dif_neg h]
    exact congrArg (fun k => pieces t (ix5 b k j g e)) (Fin.ext (by show n.val - 255 = (n.val + 1) % 256; omega))

/-- The blocks of 32 positions plus the embedding. -/
def blocks : FVec Ideal S8x256x32x4x64 .f32 :=
  addf (concatenate S8x256x32x4x64 2 [⟨S8x256x16x4x64, pieces t⟩, ⟨S8x256x16x4x64, later t⟩]
      concatenates_S8x256x16x4x64_S8x256x16x4x64_S8x256x32x4x64_d2)
    (broadcastInDim S8x256x32x4x64 ![0, 1, 2, 3, 4] bcast_S1x1x32x1x64_S8x256x32x4x64_0_1_2_3_4
      (broadcastInDim S1x1x32x1x64 ![2, 4] bcast_S32x64_S1x1x32x1x64_2_4 pe))

theorem blocks_at (b : Fin 8) (n : Fin 256) (l : Fin 32) (g : Fin 4) (e : Fin 64) :
    blocks t pe (ix5 b n l g e) = t (ix3 b (posOf n l.val) (laneOf g e)) + pe (ix2 l e) := by
  unfold blocks
  pointwise []
  refine congrArg (· + pe (ix2 l e)) ?_
  by_cases h : l.val < 16
  · rw [dif_pos h, pieces_at]
    exact congrArg (fun k => t (ix3 b k (laneOf g e))) (Fin.ext (by
      show 16 * n.val + l.val = (16 * n.val + l.val) % 4096; omega))
  · rw [dif_neg h, later_at, pieces_at]
    exact congrArg (fun k => t (ix3 b k (laneOf g e))) (Fin.ext (by
      show 16 * ((n.val + 1) % 256) + (l.val - 16) = (16 * n.val + l.val) % 4096; omega))

/-- The blocks flattened, by group. -/
def flat : FVec Ideal S8x4x256x2048 .f32 :=
  shapeCast S8x4x256x2048 (transpose S8x4x256x32x64 [0, 3, 1, 2, 4] (blocks t pe) transposes_S8x256x32x4x64_S8x4x256x32x64_0_3_1_2_4)
    shapeCasts_S8x4x256x32x64_S8x4x256x2048

theorem flat_at (b : Fin 8) (g : Fin 4) (n : Fin 256) (x : Fin 2048) :
    flat t pe (ix4 b g n x) = tokAt (argsOf t pe w1 w2) b g n x + peAt (argsOf t pe w1 w2) x := by
  refine Eq.trans (b := blocks t pe (ix5 b n ⟨x.val / 64, by omega⟩ g ⟨x.val % 64, by omega⟩)) ?_ (blocks_at t pe b n _ g _)
  unfold flat
  pointwise []

/-- The hidden layer. -/
def layer : FVec Ideal S8x4x256x256 .f32 :=
  Host.dotGeneral (F := Ideal) dot_S8x4x256x2048_S2048x256_S8x4x256x256_3_0_012_1_n_n none (flat t pe) w1

theorem layer_at (b : Fin 8) (g : Fin 4) (n h : Fin 256) :
    layer t pe w1 (ix4 b g n h) = hidden (argsOf t pe w1 w2) b g n h := by
  unfold layer
  pointwise []
  simp only [flat_at t pe w1 w2]
  rfl

/-- Gated by itself. -/
def gated (z : FVec Ideal S8x4x256x256 .f32) : FVec Ideal S8x4x256x256 .f32 :=
  mulf z (Host.divf (broadcastInDim S8x4x256x256 ![] bcast_S_S8x4x256x256 (constant S_ .f32 0x3F800000#32))
    (addf (broadcastInDim S8x4x256x256 ![] bcast_S_S8x4x256x256 (constant S_ .f32 0x3F800000#32)) (Host.exp (Host.negf z))))

theorem gated_at (z : FVec Ideal S8x4x256x256 .f32) (b : Fin 8) (g : Fin 4) (n h : Fin 256) :
    gated z (ix4 b g n h) = silu (z (ix4 b g n h)) := by
  pointwise [gated]
  rfl

/-- The result. -/
def tokens : FVec Ideal S8x4x256x64 .f32 :=
  Host.dotGeneral (F := Ideal) dot_S8x4x256x256_S256x64_S8x4x256x64_3_0_012_1_n_n none (gated (layer t pe w1)) w2

theorem tokens_at (b : Fin 8) (g : Fin 4) (n : Fin 256) (d : Fin 64) :
    tokens t pe w1 w2 (ix4 b g n d) = token (argsOf t pe w1 w2) b g n d := by
  unfold tokens
  pointwise []
  simp only [gated_at, layer_at t pe w1 w2]
  rfl

variable (m : (ℓ : Loc nD τ sig) → Buf (Elt Ideal) ℓ) (c : Dev nD)

/-- The operands in the memory. -/
def args : Args :=
  argsOf (m ((c.tc : Thread nD τ).loc main_arg0)) (m ((c.tc : Thread nD τ).loc main_arg1)) (m ((c.tc : Thread nD τ).loc main_arg2))
    (m ((c.tc : Thread nD τ).loc main_arg3))

/-- A run ends with the compressed tokens and the arguments as they were. -/
theorem run_states (ρ : Dev nD → PrngReg) :
    θ_run defs (onTc (τ := τ) (main (F := Ideal))) ⟨m, fun _ => 0, ρ⟩ fun r => ∀ c : Dev nD,
      r.2.mem ((c.tc : Thread nD τ).loc main_v12) = (fun y : S8x4x256x64.Idx => token (args m c) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  show tokens (m ((c.tc : Thread nD τ).loc main_arg0)) (m ((c.tc : Thread nD τ).loc main_arg1))
    (m ((c.tc : Thread nD τ).loc main_arg2)) (m ((c.tc : Thread nD τ).loc main_arg3)) = _
  exact funext fun y => (congrArg _ (eq_ix4 y)).trans (tokens_at _ _ _ _ (y 0) (y 1) (y 2) (y 3))

end Cert.CompressReferenceIdeal.Core
-- ==== Proof.CmpPre.lean ====
/-
The precondition, read: the embedding and the first weight hold no infinity.
-/
module

public import proofs.«01_k».proof.Defs
public import proofs.«01_k».proof.Proof.CmpMath
public import Idealize.ShloMosaic.Lib.Pointwise

@[expose] public section

set_option maxRecDepth 16384

noncomputable section

open Idealize.ShloMosaic Idealize.ShloMosaic.TcCoe Idealize.SL.Sem

namespace Cert.Pre_weights_finite

/-- What the predicate's operations ask of their shapes. -/
theorem facts : Facts where
  shapeCasts_S32x64_S2048x1 := by decide
  bcast_S_S2048x1 := by decide
  bcast_S_S2048x256 := by decide
  bcast_S2048x1_S2048x256_0_1 := by decide

/-- A number whose size is under the top is real. -/
theorem real_of_lt (v : EReal) (h : max v (-v) < ⊤) : ∃ r : ℝ, v = r := by
  induction v with
  | coe r => exact ⟨r, rfl⟩
  | bot => simp at h
  | top => simp at h

/-- Two bits whose conjunction is one. -/
theorem both_of_and (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Where the predicate is all ones the embedding and the first weight are real. -/
theorem finite [Facts] (a0 : FVec Ideal S8x4096x256 .f32) (a1 : FVec Ideal S32x64 .f32) (a2 : FVec Ideal S2048x256 .f32)
    (a3 : FVec Ideal S256x64 .f32) (h : fn a0 a1 a2 a3 = fun _ => 1#1) : Cert.Cmp.Finite (Cert.Cmp.argsOf a0 a1 a2 a3) := by
  have ht : Ideal.ofBits .f32 0x7F800000#32 = ⊤ := by rfl
  have hb (x : Fin 2048) (e : Fin 256) : max (a1 (ix2 ⟨x.val / 64, by omega⟩ ⟨x.val % 64, by omega⟩))
      (-a1 (ix2 ⟨x.val / 64, by omega⟩ ⟨x.val % 64, by omega⟩)) < ⊤ ∧ max (a2 (ix2 x e)) (-a2 (ix2 x e)) < ⊤ := by
    have hy := congrFun h (ix2 x e)
    revert hy
    unfold fn
    pointwise []
    rw [ht]
    intro hy
    exact both_of_and _ _ hy
  refine ⟨fun l e => real_of_lt _ ?_, fun x k => real_of_lt _ (hb x k).2⟩
  have hl : (⟨(l.val * 64 + e.val) / 64, by omega⟩ : Fin 32) = l := Fin.ext (by simp only []; omega)
  have he : (⟨(l.val * 64 + e.val) % 64, by omega⟩ : Fin 64) = e := Fin.ext (by simp only []; omega)
  have hx := (hb ⟨l.val * 64 + e.val, by omega⟩ 0).1
  simp only [hl, he] at hx
  exact hx

end Cert.Pre_weights_finite
-- ==== Proof.CmpClaim.lean ====
/-
The compression's claims: the reference's frame, and the kernel's array against the reference's result.
-/
module

public import proofs.«01_k».proof.Defs
public import proofs.«01_k».proof.Proof.CmpKernel
public import proofs.«01_k».proof.Proof.CmpRef
public import proofs.«01_k».proof.Proof.CmpPre
public import Idealize.ShloMosaic.Lib.Claim
public import Idealize.ShloMosaic.Lib.Quiescent

@[expose] public section

noncomputable section

namespace Cert.CmpClaim

open Idealize.ShloMosaic Idealize.ShloMosaic.TcCoe Idealize.SL.Sem

/-- The reference's frame: it runs, keeps its arguments, and has no semaphore. -/
theorem frame_reference : Cert.quiescent_CompressReferenceIdeal := fun m g _ =>
  (θ_run Cert.CompressReferenceIdeal.defs _ _).mono
    (fun r h => And.intro (fun c => (h c).2) (sem_eq_zero_of_no_sems (by decide) r.2))
    (Cert.CompressReferenceIdeal.Core.run_states m g)

variable (m : (ℓ : Loc Cert.CompressIdeal.nD Cert.CompressIdeal.τ Cert.CompressIdeal.sig) → Buf (Elt Ideal) ℓ)
  (m' : (ℓ : Loc Cert.CompressReferenceIdeal.nD Cert.CompressReferenceIdeal.τ Cert.CompressReferenceIdeal.sig) → Buf (Elt Ideal) ℓ)
  (c : Dev Cert.CompressIdeal.nD)

/-- The two programs' operands are the same where their arguments agree. -/
theorem args_eq
    (h0 : m' ((c.tc : Thread Cert.CompressReferenceIdeal.nD Cert.CompressReferenceIdeal.τ).loc Cert.CompressReferenceIdeal.main_arg0)
      = m ((c.tc : Thread Cert.CompressIdeal.nD Cert.CompressIdeal.τ).loc Cert.CompressIdeal.main_arg0))
    (h1 : m' ((c.tc : Thread Cert.CompressReferenceIdeal.nD Cert.CompressReferenceIdeal.τ).loc Cert.CompressReferenceIdeal.main_arg1)
      = m ((c.tc : Thread Cert.CompressIdeal.nD Cert.CompressIdeal.τ).loc Cert.CompressIdeal.main_arg1))
    (h2 : m' ((c.tc : Thread Cert.CompressReferenceIdeal.nD Cert.CompressReferenceIdeal.τ).loc Cert.CompressReferenceIdeal.main_arg2)
      = m ((c.tc : Thread Cert.CompressIdeal.nD Cert.CompressIdeal.τ).loc Cert.CompressIdeal.main_arg2))
    (h3 : m' ((c.tc : Thread Cert.CompressReferenceIdeal.nD Cert.CompressReferenceIdeal.τ).loc Cert.CompressReferenceIdeal.main_arg3)
      = m ((c.tc : Thread Cert.CompressIdeal.nD Cert.CompressIdeal.τ).loc Cert.CompressIdeal.main_arg3)) :
    Cert.CompressReferenceIdeal.Core.args m' c = Cert.CompressIdeal.Core.args m c := by
  unfold Cert.CompressReferenceIdeal.Core.args
  rw [h0, h1, h2, h3]
  rfl

/-- The kernel's result is the reference's. -/
theorem algebraic (hp : Cert.Pre_weights_finite.Facts) :
    Cert.algebraic_CompressIdeal_CompressReferenceIdeal_pre_weights_finite := by
  intro m g m' g' hpre hagree
  refine ⟨_, Cert.CompressIdeal.Core.run_states m (fun c => Cert.Pre_weights_finite.finite _ _ _ _ (hpre c)) g, ?_⟩
  refine (θ_run Cert.CompressReferenceIdeal.defs _ _).mono (fun r h c => ?_) (Cert.CompressReferenceIdeal.Core.run_states m' g')
  have hc : Cert.CompressReferenceIdeal.Core.args m' c = Cert.CompressIdeal.Core.args m c := by
    obtain ⟨h0, h1, h2, h3⟩ := hagree c
    exact args_eq m m' c h0 h1 h2 h3
  have hr := h c
  rw [hc] at hr
  exact hr

end Cert.CmpClaim
-- ==== Proof.GlaWords.lean ====
/- The recurrence kernel's body in ONE vocabulary: a tile of 256 rows is 4 chunks of 64 rows, each chunk has 4 heads, and
   the body writes out the sixteen (chunk, head) units one by one. Here each unit is the same handful of vector words,
   and what a grid point leaves in the carried state and in its output block is stated in them. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Core

open Cert.KernelIdeal Cert.KernelIdeal.Gen

/-- The cumulative decays of the tile, all heads side by side: the 0/1 matrix of "not later, same chunk" times the decays. -/
def ballW (g : FVec Ideal S1x256x512 .f32) : FVec Ideal S256x512 .f32 :=
  k0_pay9 (iota .tc S256x256 32 [1] iota_S256x256_d1_w32) k0_pay4 k0_pay5 (64#32) k0_pay6 k0_pay7 (1#32) g

theorem slices_b (ci h : Fin 4) : S256x512.Slices ![64 * ci.val, 128 * h.val] S64x128 := by
  revert ci h; decide +kernel

/-- One unit's cumulative decays. -/
def bW (B : FVec Ideal S256x512 .f32) (ci h : Fin 4) : FVec Ideal S64x128 .f32 :=
  extractStridedSlice S64x128 ![64 * ci.val, 128 * h.val] B (slices_b ci h)

theorem inb_qk (ci h : Fin 4) : ∀ a, (![0, 64 * ci.val, 128 * h.val] : Fin 3 → ℕ) a + ![1, 64, 128] a ≤ S1x256x512.size a := by
  revert ci h; decide +kernel

theorem inb_v (ci h : Fin 4) : ∀ a, (![0, 64 * ci.val, 256 * h.val] : Fin 3 → ℕ) a + ![1, 64, 256] a ≤ S1x256x1024.size a := by
  revert ci h; decide +kernel

theorem inb_s (h : Fin 4) : ∀ a, (![h.val, 0, 0] : Fin 3 → ℕ) a + ![1, 128, 256] a ≤ S4x128x256.size a := by
  revert h; decide +kernel

/-- One unit's rows of a query or key block. -/
def ldQK (X : FVec Ideal S1x256x512 .f32) (ci h : Fin 4) : FVec Ideal S1x64x128 .f32 :=
  fun x => X ((Rect.unit (s := S1x256x512) ![0, 64 * ci.val, 128 * h.val] ![1, 64, 128] (inb_qk ci h)).idx x)

/-- One unit's rows of the value block. -/
def ldV (X : FVec Ideal S1x256x1024 .bf16) (ci h : Fin 4) : FVec Ideal S1x64x256 .bf16 :=
  fun x => X ((Rect.unit (s := S1x256x1024) ![0, 64 * ci.val, 256 * h.val] ![1, 64, 256] (inb_v ci h)).idx x)

/-- One head's carried state. -/
def ldS (X : FVec Ideal S4x128x256 .f32) (h : Fin 4) : FVec Ideal S128x256 .f32 :=
  shapeCast S128x256 (fun x => X ((Rect.unit (s := S4x128x256) ![h.val, 0, 0] ![1, 128, 256] (inb_s h)).idx x))
    shapeCasts_S1x128x256_S128x256

/-- The decayed queries of a unit. -/
def qeW (b : FVec Ideal S64x128 .f32) (q : FVec Ideal S1x64x128 .f32) : FVec Ideal S64x128 .bf16 :=
  truncf .bf16 (mulf (mulf (shapeCast S64x128 q shapeCasts_S1x64x128_S64x128)
    (broadcast S64x128 (Scalar.ofBits .f32 0x3DB504F3#32))) (exp b)) bitsLt_bf16_f32

/-- The keys of a unit, their decay undone. -/
def keW (b : FVec Ideal S64x128 .f32) (k : FVec Ideal S1x64x128 .f32) : FVec Ideal S64x128 .bf16 :=
  truncf .bf16 (mulf (shapeCast S64x128 k shapeCasts_S1x64x128_S64x128)
    (exp (subf (broadcast S64x128 (Scalar.ofBits .f32 0x00000000#32)) b))) bitsLt_bf16_f32

/-- The attention inside a chunk: decayed queries against keys, later keys masked. -/
def aW (b : FVec Ideal S64x128 .f32) (q k : FVec Ideal S1x64x128 .f32) : FVec Ideal S64x64 .bf16 :=
  truncf .bf16 (select k0_pay3 (matmul dot_S64x128_S64x128_S64x64_1_1_0_0_n_n none (qeW b q) (keW b k)
    (constant S64x64 .f32 0x00000000#32)) (broadcast S64x64 (Scalar.ofBits .f32 0x00000000#32))) bitsLt_bf16_f32

/-- A unit's output from its own chunk. -/
def oiW (b : FVec Ideal S64x128 .f32) (q k : FVec Ideal S1x64x128 .f32) (v : FVec Ideal S1x64x256 .bf16) :
    FVec Ideal S64x256 .f32 :=
  matmul dot_S64x64_S64x256_S64x256_1_0_0_1_n_n none (aW b q k) (shapeCast S64x256 v shapeCasts_S1x64x256_S64x256)
    (constant S64x256 .f32 0x00000000#32)

/-- The keys of a unit decayed to the chunk's end, transposed, times the values: what the chunk adds to the state. -/
def kvW (b : FVec Ideal S64x128 .f32) (k : FVec Ideal S1x64x128 .f32) (v : FVec Ideal S1x64x256 .bf16) :
    FVec Ideal S128x256 .f32 :=
  matmul dot_S128x64_S64x256_S128x256_1_0_0_1_n_n none
    (truncf .bf16 (transpose S128x64 [1, 0] (mulf (shapeCast S64x128 k shapeCasts_S1x64x128_S64x128)
      (exp (subf (broadcastTo S64x128 (extractStridedSlice S1x128 ![63, 0] b slices_S64x128_o63_0_S1x128)
        broadcasts_S1x128_S64x128) b))) transposes_S64x128_p1_0_S128x64) bitsLt_bf16_f32)
    (shapeCast S64x256 v shapeCasts_S1x64x256_S64x256) (constant S128x256 .f32 0x00000000#32)

/-- The decay of the state over a whole chunk, as a column. -/
def decW (b : FVec Ideal S64x128 .f32) : FVec Ideal S128x1 .f32 :=
  extractStridedSlice S128x1 ![0, 63] (transpose S128x64 [1, 0] (exp b) transposes_S64x128_p1_0_S128x64)
    slices_S128x64_o0_63_S128x1

/-- The state after a chunk from the state before it. -/
def stW (b : FVec Ideal S64x128 .f32) (k : FVec Ideal S1x64x128 .f32) (v : FVec Ideal S1x64x256 .bf16)
    (s : FVec Ideal S128x256 .f32) : FVec Ideal S128x256 .f32 :=
  addf (mulf (broadcastTo S128x256 (decW b) broadcasts_S128x1_S128x256) s) (kvW b k v)

/-- A unit's output before its norm: its own chunk's part and the state's. -/
def oW (b : FVec Ideal S64x128 .f32) (q k : FVec Ideal S1x64x128 .f32) (v : FVec Ideal S1x64x256 .bf16)
    (s : FVec Ideal S128x256 .f32) : FVec Ideal S64x256 .f32 :=
  addf (oiW b q k v) (matmul dot_S64x128_S128x256_S64x256_1_0_0_1_n_n none (qeW b q) (truncf .bf16 s bitsLt_bf16_f32)
    (constant S64x256 .f32 0x00000000#32))

/-- The norm of a unit's rows over the head's width. -/
def rmsW (o : FVec Ideal S64x256 .f32) (hn : FVec Ideal S1x256 .f32) : FVec Ideal S64x256 .f32 :=
  mulf (mulf o (broadcastTo S64x256 (rsqrt (addf (divf (shapeCast S64x1
      (multiReduction .add [1] S64 (mulf o o) 0x00000000#32 reduces_S64x256_S64 (.inl rfl) rfl) shapeCasts_S64_S64x1)
      (broadcast S64x1 (Scalar.ofBits .f32 0x43800000#32))) (broadcast S64x1 (Scalar.ofBits .f32 0x358637BD#32))))
      broadcasts_S64x1_S64x256))
    (broadcastTo S64x256 (shapeCast S1x256 hn shapeCasts_S1x256_S1x256) broadcasts_S1x256_S64x256)

/-- Chunk number `n` of a tile. -/
abbrev cf (n : ℕ) : Fin 4 := Fin.ofNat 4 n

/-- Head `h`'s state after `n` chunks of the tile. -/
def sAft (B : FVec Ideal S256x512 .f32) (K : FVec Ideal S1x256x512 .f32) (V : FVec Ideal S1x256x1024 .bf16) (h : Fin 4)
    (s : FVec Ideal S128x256 .f32) : ℕ → FVec Ideal S128x256 .f32
  | 0 => s
  | n + 1 => stW (bW B (cf n) h) (ldQK K (cf n) h) (ldV V (cf n) h) (sAft B K V h s n)

/-- Unit (`n`, `h`)'s normed output. -/
def ogW (B : FVec Ideal S256x512 .f32) (Q K : FVec Ideal S1x256x512 .f32) (V : FVec Ideal S1x256x1024 .bf16)
    (hn : FVec Ideal S1x256 .f32) (h : Fin 4) (s : FVec Ideal S128x256 .f32) (n : ℕ) : FVec Ideal S64x256 .f32 :=
  rmsW (oW (bW B (cf n) h) (ldQK Q (cf n) h) (ldQK K (cf n) h) (ldV V (cf n) h) (sAft B K V h s n)) hn

/-- The state a tile leaves, all heads, over the state `S` it found. -/
def stateW (K : FVec Ideal S1x256x512 .f32) (V : FVec Ideal S1x256x1024 .bf16) (G : FVec Ideal S1x256x512 .f32)
    (S : FVec Ideal S4x128x256 .f32) : FVec Ideal S4x128x256 .f32 :=
  fun y => sAft (ballW G) K V (y 0) (ldS S (y 0)) 4 (ix2 (y 1) (y 2))

/-- The normed outputs of a tile: row `r` is row `r % 64` of chunk `r / 64`, lane `l` is lane `l % 256` of head `l / 256`. -/
def tileW (Q K : FVec Ideal S1x256x512 .f32) (V : FVec Ideal S1x256x1024 .bf16) (G : FVec Ideal S1x256x512 .f32)
    (hn : FVec Ideal S1x256 .f32) (S : FVec Ideal S4x128x256 .f32) : FVec Ideal S256x1024 .f32 :=
  fun y => ogW (ballW G) Q K V hn (Fin.ofNat 4 ((y 1).val / 256)) (ldS S (Fin.ofNat 4 ((y 1).val / 256))) ((y 0).val / 64)
    (ix2 (Fin.ofNat 64 (y 0).val) (Fin.ofNat 256 (y 1).val))

/-- The block a tile stores from its normed outputs: gate, output projection, norm, residual. -/
def blockW (O : FVec Ideal S256x1024 .f32) (Z : FVec Ideal S1x256x1024 .bf16) (X : FVec Ideal S1x256x1024 .f32)
    (pn : FVec Ideal S1x1024 .f32) (W : FVec Ideal S1024x1024 .bf16) : FVec Ideal S1x256x1024 .f32 :=
  k0_pay1 (k0_pay211 O Z W) (k0_pay212 X) (k0_pay213 pn) (k0_pay214 O Z W)

/-- A head's stored state, read at the state buffer's index. -/
theorem piece_s (K : FVec Ideal S1x256x512 .f32) (V : FVec Ideal S1x256x1024 .bf16) (G : FVec Ideal S1x256x512 .f32)
    (S : FVec Ideal S4x128x256 .f32) (y : S4x128x256.Idx) (x : S1x128x256.Idx) (h : Fin 4) (h0 : (y 0 : ℕ) = h.val)
    (h1 : (y 1 : ℕ) = x 1) (h2 : (y 2 : ℕ) = x 2) :
    shapeCast S1x128x256 (sAft (ballW G) K V h (ldS S h) 4) shapeCasts_S128x256_S1x128x256 x = stateW K V G S y := by
  obtain rfl : y 0 = h := Fin.ext h0
  unfold stateW
  generalize sAft (ballW G) K V (y 0) (ldS S (y 0)) 4 = s
  pointwise
  congr 1
  idx_ext <;> omega

/-- A unit's stored normed output, read at the tile's index. -/
theorem piece_o (Q K : FVec Ideal S1x256x512 .f32) (V : FVec Ideal S1x256x1024 .bf16) (G : FVec Ideal S1x256x512 .f32)
    (hn : FVec Ideal S1x256 .f32) (S : FVec Ideal S4x128x256 .f32) (y : S256x1024.Idx) (x : S64x256.Idx) (n h : Fin 4)
    (h0 : (y 0 : ℕ) = 64 * n.val + x 0) (h1 : (y 1 : ℕ) = 256 * h.val + x 1) :
    shapeCast S64x256 (ogW (ballW G) Q K V hn h (ldS S h) n.val) shapeCasts_S64x256_S64x256 x = tileW Q K V G hn S y := by
  have b0 : (x 0 : ℕ) < 64 := (x 0).isLt
  have b1 : (x 1 : ℕ) < 256 := (x 1).isLt
  obtain rfl : Fin.ofNat 4 ((y 1).val / 256) = h := Fin.ext (by simp only [Fin.val_ofNat]; omega)
  unfold tileW
  rw [show (y 0 : ℕ) / 64 = n.val by omega]
  generalize ogW (ballW G) Q K V hn (Fin.ofNat 4 ((y 1).val / 256)) (ldS S (Fin.ofNat 4 ((y 1).val / 256))) n.val = s
  pointwise
  congr 1
  idx_ext <;> simp only [Fin.val_ofNat] <;> omega

variable (m : (ℓ : Loc nD τ sig) → Buf (Elt Ideal) ℓ)

set_option maxHeartbeats 1600000 in
/-- The state after a tile that is not a sequence's first is the words over what the tile before left. -/
theorem state_B (c : Dev nD) (t : Fin cfg0.N) (h : ¬ t.val % 16 = 0) :
    (outsAt0 m c t.val t.isLt).2
      = stateW (iblk m c 1 t) (iblk m c 2 t) (iblk m c 3 t) (outsAt0 m c (t.val - 1) (by have := t.isLt; omega)).2 := by
  funext y
  rw [outsAt0_B m c t h]
  frame_out
  rw [(Memref.isWhole_whole _).read_unread]
  canon_tiles x h
  case piece0 => exact piece_s _ _ _ _ y x 3 (by omega) h1 h2
  case piece1 => exact piece_s _ _ _ _ y x 2 (by omega) h1 h2
  case piece2 => exact piece_s _ _ _ _ y x 1 (by omega) h1 h2
  case piece3 => exact piece_s _ _ _ _ y x 0 (by omega) h1 h2

/-- Where a head's stored state lies in the state buffer. -/
theorem emb_s (h : Fin 4) (x : S1x128x256.Idx) :
    (((Rect.unit (s := S4x128x256) ![h.val, 0, 0] ![1, 128, 256] (inb_s h)).emb x 0 : ℕ) = h.val)
      ∧ (((Rect.unit (s := S4x128x256) ![h.val, 0, 0] ![1, 128, 256] (inb_s h)).emb x 1 : ℕ) = x 1)
      ∧ (((Rect.unit (s := S4x128x256) ![h.val, 0, 0] ![1, 128, 256] (inb_s h)).emb x 2 : ℕ) = x 2) := by
  have b0 : (x 0 : ℕ) < 1 := (x 0).isLt
  refine ⟨?_, ?_, ?_⟩
  · show h.val + 1 * (x 0 : ℕ) = _; omega
  · show 0 + 1 * (x 1 : ℕ) = _; omega
  · show 0 + 1 * (x 2 : ℕ) = _; omega

set_option maxHeartbeats 1600000 in
/-- The state after a sequence's first tile is the words over the zero state. -/
theorem state_A (c : Dev nD) (t : Fin cfg0.N) (h : t.val % 16 = 0) :
    (outsAt0 m c t.val t.isLt).2 = stateW (iblk m c 1 t) (iblk m c 2 t) (iblk m c 3 t) k0_pay2 := by
  funext y
  rw [outsAt0_A m c t h]
  frame_out
  simp (disch := decide) only [↓View.readCov_fill]
  refine View.canon_append_of_piecesOf (Val := Elt Ideal) (e := .f32) (stateW (iblk m c 1 t) (iblk m c 2 t) (iblk m c 3 t) k0_pay2) [_] [_, _, _, _]
    ⟨fun x => ?_, fun x => ?_, fun x => ?_, fun x => ?_, trivial⟩ y
    (View.cover_of_tiledL (s := S4x128x256) _ ![1, 128, 256] (by sl_kernel_rfl) y)
  · exact piece_s _ _ _ _ _ x 3 (emb_s 3 x).1 (emb_s 3 x).2.1 (emb_s 3 x).2.2
  · exact piece_s _ _ _ _ _ x 2 (emb_s 2 x).1 (emb_s 2 x).2.1 (emb_s 2 x).2.2
  · exact piece_s _ _ _ _ _ x 1 (emb_s 1 x).1 (emb_s 1 x).2.1 (emb_s 1 x).2.2
  · exact piece_s _ _ _ _ _ x 0 (emb_s 0 x).1 (emb_s 0 x).2.1 (emb_s 0 x).2.2

theorem idx_whole (y : S256x1024.Idx) :
    (Rect.unit (s := S256x1024) ![0, 0] ![256, 1024] inb_S256x1024_S256x1024_0_0).toLoadRect.idx y = y := by
  funext a
  apply Fin.ext
  show (![0, 0] : Fin 2 → ℕ) a + 1 * (y a : ℕ) = _
  match a with
  | ⟨0, _⟩ => show 0 + 1 * (y 0 : ℕ) = y 0; omega
  | ⟨1, _⟩ => show 0 + 1 * (y 1 : ℕ) = y 1; omega

theorem block_congr {O O' : FVec Ideal S256x1024 .f32} (e : O = O') (Z : FVec Ideal S1x256x1024 .bf16)
    (X : FVec Ideal S1x256x1024 .f32) (pn : FVec Ideal S1x1024 .f32) (W : FVec Ideal S1024x1024 .bf16) :
    k0_pay1 (k0_pay211 O Z W) (k0_pay212 X) (k0_pay213 pn) (k0_pay214 O Z W) = blockW O' Z X pn W := by
  rw [e]; rfl

set_option maxHeartbeats 1600000 in
/-- The output block of a tile that is not a sequence's first. -/
theorem out_B (c : Dev nD) (t : Fin cfg0.N) (h : ¬ t.val % 16 = 0) :
    (outsAt0 m c t.val t.isLt).1
      = blockW (tileW (iblk m c 0 t) (iblk m c 1 t) (iblk m c 2 t) (iblk m c 3 t) (iblk m c 6 t)
          (outsAt0 m c (t.val - 1) (by have := t.isLt; omega)).2)
        (iblk m c 4 t) (iblk m c 5 t) (iblk m c 7 t) (iblk m c 8 t) := by
  rw [outsAt0_B m c t h]
  frame_out
  rw [(Memref.isWhole_whole _).read_unread]
  refine block_congr ?_ _ _ _ _
  rw [View.readCov_eq_canon']
  refine funext fun (y : S256x1024.Idx) => ?_
  rw [idx_whole y]
  canon_tiles x h
  case piece0 => exact piece_o _ _ _ _ _ _ y x 3 3 (by omega) (by omega)
  case piece1 => exact piece_o _ _ _ _ _ _ y x 3 2 (by omega) (by omega)
  case piece2 => exact piece_o _ _ _ _ _ _ y x 3 1 (by omega) (by omega)
  case piece3 => exact piece_o _ _ _ _ _ _ y x 3 0 (by omega) (by omega)
  case piece4 => exact piece_o _ _ _ _ _ _ y x 2 3 (by omega) (by omega)
  case piece5 => exact piece_o _ _ _ _ _ _ y x 2 2 (by omega) (by omega)
  case piece6 => exact piece_o _ _ _ _ _ _ y x 2 1 (by omega) (by omega)
  case piece7 => exact piece_o _ _ _ _ _ _ y x 2 0 (by omega) (by omega)
  case piece8 => exact piece_o _ _ _ _ _ _ y x 1 3 (by omega) (by omega)
  case piece9 => exact piece_o _ _ _ _ _ _ y x 1 2 (by omega) (by omega)
  case piece10 => exact piece_o _ _ _ _ _ _ y x 1 1 (by omega) (by omega)
  case piece11 => exact piece_o _ _ _ _ _ _ y x 1 0 (by omega) (by omega)
  case piece12 => exact piece_o _ _ _ _ _ _ y x 0 3 (by omega) (by omega)
  case piece13 => exact piece_o _ _ _ _ _ _ y x 0 2 (by omega) (by omega)
  case piece14 => exact piece_o _ _ _ _ _ _ y x 0 1 (by omega) (by omega)
  case piece15 => exact piece_o _ _ _ _ _ _ y x 0 0 (by omega) (by omega)

set_option maxHeartbeats 1600000 in
/-- The output block of a sequence's first tile. -/
theorem out_A (c : Dev nD) (t : Fin cfg0.N) (h : t.val % 16 = 0) :
    (outsAt0 m c t.val t.isLt).1
      = blockW (tileW (iblk m c 0 t) (iblk m c 1 t) (iblk m c 2 t) (iblk m c 3 t) (iblk m c 6 t) k0_pay2)
        (iblk m c 4 t) (iblk m c 5 t) (iblk m c 7 t) (iblk m c 8 t) := by
  rw [outsAt0_A m c t h]
  frame_out
  simp (disch := decide) only [↓View.readCov_fill]
  refine block_congr ?_ _ _ _ _
  rw [View.readCov_eq_canon']
  refine funext fun (y : S256x1024.Idx) => ?_
  rw [idx_whole y]
  canon_tiles x h
  case piece0 => exact piece_o _ _ _ _ _ _ y x 3 3 (by omega) (by omega)
  case piece1 => exact piece_o _ _ _ _ _ _ y x 3 2 (by omega) (by omega)
  case piece2 => exact piece_o _ _ _ _ _ _ y x 3 1 (by omega) (by omega)
  case piece3 => exact piece_o _ _ _ _ _ _ y x 3 0 (by omega) (by omega)
  case piece4 => exact piece_o _ _ _ _ _ _ y x 2 3 (by omega) (by omega)
  case piece5 => exact piece_o _ _ _ _ _ _ y x 2 2 (by omega) (by omega)
  case piece6 => exact piece_o _ _ _ _ _ _ y x 2 1 (by omega) (by omega)
  case piece7 => exact piece_o _ _ _ _ _ _ y x 2 0 (by omega) (by omega)
  case piece8 => exact piece_o _ _ _ _ _ _ y x 1 3 (by omega) (by omega)
  case piece9 => exact piece_o _ _ _ _ _ _ y x 1 2 (by omega) (by omega)
  case piece10 => exact piece_o _ _ _ _ _ _ y x 1 1 (by omega) (by omega)
  case piece11 => exact piece_o _ _ _ _ _ _ y x 1 0 (by omega) (by omega)
  case piece12 => exact piece_o _ _ _ _ _ _ y x 0 3 (by omega) (by omega)
  case piece13 => exact piece_o _ _ _ _ _ _ y x 0 2 (by omega) (by omega)
  case piece14 => exact piece_o _ _ _ _ _ _ y x 0 1 (by omega) (by omega)
  case piece15 => exact piece_o _ _ _ _ _ _ y x 0 0 (by omega) (by omega)

end Cert.KernelIdeal.Core
-- ==== Proof.GlaTile.lean ====
/-
One tile of 256 rows of the recurrence's kernel, read index by index: where its blocks hold the operands' rows and its
state the recurrence's state before the tile, the state it leaves and the block it stores are the plain formulas'.
-/
module

public import proofs.«01_k».proof.Proof.GlaWords
public import proofs.«01_k».proof.Proof.GlaMath
public import Idealize.ShloMosaic.Lib.WordCmp

@[expose] public section

set_option maxRecDepth 16384

noncomputable section

open Idealize.ShloMosaic Idealize.ShloMosaic.TcCoe Idealize.SL.Sem

namespace Cert.KernelIdeal.Core

open Cert.KernelIdeal Cert.KernelIdeal.Gen Cert.Gla

/-! ### Reads of the loads -/

theorem bW_at (B : FVec Ideal S256x512 .f32) (ci h : Fin 4) (i : Fin 64) (d : Fin 128) :
    bW B ci h (ix2 i d) = B (ix2 ⟨64 * ci.val + i.val, by omega⟩ (colK h d)) := by
  show B _ = B _
  refine congrArg B (funext fun a => Fin.ext ?_)
  match a with
  | ⟨0, _⟩ => show 64 * ci.val + i.val = 64 * ci.val + i.val; rfl
  | ⟨1, _⟩ => show 128 * h.val + d.val = h.val * 128 + d.val; omega

theorem ldQK_at (X : FVec Ideal S1x256x512 .f32) (ci h : Fin 4) (i : Fin 64) (d : Fin 128) :
    ldQK X ci h (ix3 0 i d) = X (ix3 0 ⟨64 * ci.val + i.val, by omega⟩ (colK h d)) := by
  show X _ = X _
  refine congrArg X (funext fun a => Fin.ext ?_)
  match a with
  | ⟨0, _⟩ => rfl
  | ⟨1, _⟩ => show 64 * ci.val + 1 * i.val = 64 * ci.val + i.val; omega
  | ⟨2, _⟩ => show 128 * h.val + 1 * d.val = h.val * 128 + d.val; omega

theorem ldV_at (X : FVec Ideal S1x256x1024 .bf16) (ci h : Fin 4) (i : Fin 64) (e : Fin 256) :
    ldV X ci h (ix3 0 i e) = X (ix3 0 ⟨64 * ci.val + i.val, by omega⟩ (colV h e)) := by
  show X _ = X _
  refine congrArg X (funext fun a => Fin.ext ?_)
  match a with
  | ⟨0, _⟩ => rfl
  | ⟨1, _⟩ => show 64 * ci.val + 1 * i.val = 64 * ci.val + i.val; omega
  | ⟨2, _⟩ => show 256 * h.val + 1 * e.val = h.val * 256 + e.val; omega

/-- A leading axis of extent one dropped. -/
theorem drop_lead (f : FVec Ideal S1x128x256 .f32) (d : Fin 128) (e : Fin 256) :
    shapeCast S128x256 f shapeCasts_S1x128x256_S128x256 (ix2 d e) = f (ix3 0 d e) := by
  pointwise []

theorem ldS_at (X : FVec Ideal S4x128x256 .f32) (h : Fin 4) (d : Fin 128) (e : Fin 256) :
    ldS X h (ix2 d e) = X (ix3 h d e) := by
  refine (drop_lead _ d e).trans (congrArg X (funext fun a => Fin.ext ?_))
  match a with
  | ⟨0, _⟩ => show h.val + 1 * 0 = h.val; omega
  | ⟨1, _⟩ => show 0 + 1 * d.val = d.val; omega
  | ⟨2, _⟩ => show 0 + 1 * e.val = e.val; omega

/-! ### The running sums -/

/-- The printed floor division by 64 of a row number, as a word. -/
theorem word_row : ∀ x : Fin 256,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by
  decide +kernel

/-- The same with the divisor's sign already folded. -/
theorem word_col (x : Fin 256) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi 1#32 (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) :=
  word_row x

/-- A select by a comparison's bit and another's is a choice by both. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- A select by a comparison's bit is a choice. -/
theorem select_bit (p : Prop) [Decidable p] (a b : EReal) :
    Scalar.select (BitVec.ofBool (decide p)) a b = if p then a else b := by
  by_cases hp : p <;> simp [hp, Scalar.select]

/-- The row mask of the running sums. -/
theorem mask_at (i x : Fin 256) (a : EReal) :
    Scalar.select (IntOp.andi (IntOp.cmpi CmpIPredicate.sge (BitVec.ofNat 32 i.val) (BitVec.ofNat 32 x.val))
      (IntOp.cmpi CmpIPredicate.eq (BitVec.ofNat 32 (i.val / 64)) (BitVec.ofNat 32 (x.val / 64)))) a 0
      = if x ≤ i ∧ i.val / 64 = x.val / 64 then a else 0 := by
  rw [WordCmp.cmpi_sge_ofNat (by omega) (by omega), WordCmp.cmpi_eq_ofNat (by omega) (by omega), select_and]
  rfl

/-- A number plus its difference with itself, where it is not the top. -/
theorem add_self_sub (a : EReal) (h : a ≠ ⊤) : a + (a - a) = a := by
  induction a with
  | bot => rw [EReal.bot_add]
  | top => exact absurd rfl h
  | coe r => rw [← EReal.coe_sub, sub_self, EReal.coe_zero, add_zero]

/-- The kernel's running sums: the rows of a row's own chunk, up to it. -/
theorem ballW_at (G : FVec Ideal S1x256x512 .f32) (i : Fin 256) (e : Fin 512) (hG : ∀ x, G (ix3 0 x e) ≠ ⊤) :
    ballW G (ix2 i e) = ∑ x : Fin 256, if x ≤ i ∧ i.val / 64 = x.val / 64 then G (ix3 0 x e) else 0 := by
  pointwise [ballW, k0_pay9, k0_pay4, k0_pay5, k0_pay6, k0_pay7]
  simp only [word_row, word_col, mask_at]
  rw [← Finset.sum_add_distrib]
  refine Finset.sum_congr rfl fun x _ => ?_
  by_cases h : x ≤ i ∧ i.val / 64 = x.val / 64
  · rw [if_pos h, if_pos h]
    exact add_self_sub _ (hG x)
  · rw [if_neg h, if_neg h, add_zero]

/-- A sum over a tile's rows of one chunk, up to a row, is a sum over the chunk's rows. -/
theorem sum_chunk (f : Fin 256 → EReal) (n : Fin 4) (i : Fin 64) :
    (∑ x : Fin 256, if x ≤ (⟨64 * n.val + i.val, by omega⟩ : Fin 256) ∧ (64 * n.val + i.val) / 64 = x.val / 64 then f x else 0)
      = ∑ j : Fin 64, if j ≤ i then f ⟨64 * n.val + j.val, by omega⟩ else 0 := by
  rw [Fin.sum_univ_tiles 4 64 rfl, Finset.sum_eq_single n]
  · refine Finset.sum_congr rfl fun j _ => ?_
    have e : (⟨n.val * 64 + j.val, by omega⟩ : Fin 256) = ⟨64 * n.val + j.val, by omega⟩ := Fin.ext (show n.val * 64 + j.val = 64 * n.val + j.val by omega)
    rw [e]
    refine if_congr ?_ rfl rfl
    rw [Fin.le_def, Fin.le_def]
    constructor
    · intro h; have := h.1; dsimp only at this; omega
    · intro h; dsimp only; omega
  · intro t _ ht
    refine Finset.sum_eq_zero fun j _ => if_neg fun h => ht (Fin.ext ?_)
    have := h.2
    dsimp only at this
    omega
  · intro h; exact absurd (Finset.mem_univ _) h

/-! ### The unit's words -/

theorem oiW_at (b : FVec Ideal S64x128 .f32) (q k : FVec Ideal S1x64x128 .f32) (v : FVec Ideal S1x64x256 .bf16)
    (i : Fin 64) (e : Fin 256) :
    oiW b q k v (ix2 i e) = ∑ j : Fin 64, (if j ≤ i then ∑ d : Fin 128, q (ix3 0 i d) * scale * Ideal.exp (b (ix2 i d))
      * (k (ix3 0 j d) * Ideal.exp (-b (ix2 j d))) else 0) * v (ix3 0 j e) := by
  pointwise [oiW, aW, qeW, keW, k0_pay3]
  refine Finset.sum_congr rfl fun j _ => ?_
  rw [WordCmp.cmpi_sge_ofNat (by omega) (by omega), select_bit]
  simp only [zero_sub]
  by_cases h : j ≤ i
  · rw [if_pos h, if_pos (show j.val ≤ i.val from h)]; rfl
  · rw [if_neg h, if_neg (show ¬ j.val ≤ i.val from h), zero_mul]

theorem stW_at (b : FVec Ideal S64x128 .f32) (k : FVec Ideal S1x64x128 .f32) (v : FVec Ideal S1x64x256 .bf16)
    (s : FVec Ideal S128x256 .f32) (d : Fin 128) (e : Fin 256) :
    stW b k v s (ix2 d e) = Ideal.exp (b (ix2 63 d)) * s (ix2 d e)
      + ∑ j : Fin 64, k (ix3 0 j d) * Ideal.exp (b (ix2 63 d) - b (ix2 j d)) * v (ix3 0 j e) := by
  pointwise [stW, kvW, decW]

theorem oW_at (b : FVec Ideal S64x128 .f32) (q k : FVec Ideal S1x64x128 .f32) (v : FVec Ideal S1x64x256 .bf16)
    (s : FVec Ideal S128x256 .f32) (i : Fin 64) (e : Fin 256) :
    oW b q k v s (ix2 i e) = oiW b q k v (ix2 i e)
      + ∑ d : Fin 128, q (ix3 0 i d) * scale * Ideal.exp (b (ix2 i d)) * s (ix2 d e) := by
  pointwise [oW, qeW]
  rfl

theorem rmsW_at (o : FVec Ideal S64x256 .f32) (hn : FVec Ideal S1x256 .f32) (i : Fin 64) (e : Fin 256) :
    rmsW o hn (ix2 i e) = rms 1132462080#32 (fun x : Fin 256 => o (ix2 i x)) (fun x => hn (ix2 0 x)) e := by
  pointwise [rmsW]
  rfl

theorem blockW_at (O : FVec Ideal S256x1024 .f32) (Z : FVec Ideal S1x256x1024 .bf16) (X : FVec Ideal S1x256x1024 .f32)
    (pn : FVec Ideal S1x1024 .f32) (W : FVec Ideal S1024x1024 .bf16) (i : Fin 256) (e : Fin 1024) :
    blockW O Z X pn W (ix3 0 i e) = X (ix3 0 i e) + rms 1149239296#32
      (fun e : Fin 1024 => ∑ x : Fin 1024, O (ix2 i x) * Z (ix3 0 i x) * W (ix2 x e)) (fun x => pn (ix2 0 x)) e := by
  pointwise [blockW, k0_pay1, k0_pay211, k0_pay212, k0_pay213, k0_pay214]
  rfl

/-! ### A tile whose blocks hold the operands' rows -/

/-- Row `r` of tile `t`. -/
def tileRow (t : ℕ) (r : Fin 256) : Fin 4096 := Fin.ofNat 4096 (256 * t + r.val)

variable (A : Inp) (b : Fin 8) (t : ℕ)

/-- The recurrence's operands of tile `t` of batch entry `b`, with no log decay at the top. -/
structure Holds (Q K : FVec Ideal S1x256x512 .f32) (V : FVec Ideal S1x256x1024 .bf16) (G : FVec Ideal S1x256x512 .f32) :
    Prop where
  q : ∀ r c, Q (ix3 0 r c) = A.q b (tileRow t r) c
  k : ∀ r c, K (ix3 0 r c) = A.k b (tileRow t r) c
  v : ∀ r c, V (ix3 0 r c) = A.v b (tileRow t r) c
  g : ∀ r c, G (ix3 0 r c) = A.g b (tileRow t r) c
  fin : ∀ r c, A.g b r c ≠ ⊤

variable {A b t} {Q K : FVec Ideal S1x256x512 .f32} {V : FVec Ideal S1x256x1024 .bf16} {G : FVec Ideal S1x256x512 .f32}

theorem row_eq (n : ℕ) (hn : n < 4) (i : Fin 64) (p : 64 * (cf n).val + i.val < 256) :
    tileRow t ⟨64 * (cf n).val + i.val, p⟩ = row (4 * t + n) i := by
  have e : (cf n).val = n := Nat.mod_eq_of_lt hn
  refine congrArg (Fin.ofNat 4096) ?_
  dsimp only
  rw [e]
  omega

/-- A unit's running sums. -/
theorem b_eq (H : Holds A b t Q K V G) (n : ℕ) (hn : n < 4) (h : Fin 4) (i : Fin 64) (d : Fin 128) :
    bW (ballW G) (cf n) h (ix2 i d) = cum (chunk A b h (4 * t + n)) i d := by
  rw [bW_at, ballW_at G _ _ fun x => by rw [H.g]; exact H.fin _ _]
  rw [sum_chunk (fun x => G (ix3 0 x (colK h d))) (cf n) i]
  refine Finset.sum_congr rfl fun j _ => ?_
  rw [H.g, row_eq n hn j]
  rfl

theorem q_eq (H : Holds A b t Q K V G) (n : ℕ) (hn : n < 4) (h : Fin 4) (i : Fin 64) (d : Fin 128) :
    ldQK Q (cf n) h (ix3 0 i d) = (chunk A b h (4 * t + n)).q i d := by
  rw [ldQK_at, H.q, row_eq n hn i]
  rfl

theorem k_eq (H : Holds A b t Q K V G) (n : ℕ) (hn : n < 4) (h : Fin 4) (i : Fin 64) (d : Fin 128) :
    ldQK K (cf n) h (ix3 0 i d) = (chunk A b h (4 * t + n)).k i d := by
  rw [ldQK_at, H.k, row_eq n hn i]
  rfl

theorem v_eq (H : Holds A b t Q K V G) (n : ℕ) (hn : n < 4) (h : Fin 4) (i : Fin 64) (e : Fin 256) :
    ldV V (cf n) h (ix3 0 i e) = (chunk A b h (4 * t + n)).v i e := by
  rw [ldV_at, H.v, row_eq n hn i]
  rfl

/-- The state after `n` chunks of the tile. -/
theorem s_eq (H : Holds A b t Q K V G) (h : Fin 4) (s : FVec Ideal S128x256 .f32)
    (hs : ∀ d e, s (ix2 d e) = state A b h (4 * t) d e) :
    ∀ n, n ≤ 4 → ∀ d e, sAft (ballW G) K V h s n (ix2 d e) = state A b h (4 * t + n) d e
  | 0, _, d, e => hs d e
  | n + 1, hn, d, e => by
    show stW _ _ _ (sAft (ballW G) K V h s n) (ix2 d e) = next (chunk A b h (4 * t + n)) (state A b h (4 * t + n)) d e
    rw [stW_at, s_eq H h s hs n (by omega)]
    simp only [b_eq H n (by omega), k_eq H n (by omega), v_eq H n (by omega)]
    rfl

/-- A unit's output before its norm. -/
theorem o_eq (H : Holds A b t Q K V G) (h : Fin 4) (s : FVec Ideal S128x256 .f32)
    (hs : ∀ d e, s (ix2 d e) = state A b h (4 * t) d e) (n : ℕ) (hn : n < 4) (i : Fin 64) (e : Fin 256) :
    oW (bW (ballW G) (cf n) h) (ldQK Q (cf n) h) (ldQK K (cf n) h) (ldV V (cf n) h) (sAft (ballW G) K V h s n) (ix2 i e)
      = out (chunk A b h (4 * t + n)) (state A b h (4 * t + n)) i e := by
  rw [oW_at, oiW_at]
  simp only [b_eq H n hn, q_eq H n hn, k_eq H n hn, v_eq H n hn, s_eq H h s hs n (by omega)]
  rfl

/-- The tile's state after it. -/
theorem state_eq (H : Holds A b t Q K V G) (S : FVec Ideal S4x128x256 .f32)
    (hS : ∀ h d e, S (ix3 h d e) = state A b h (4 * t) d e) (h : Fin 4) (d : Fin 128) (e : Fin 256) :
    stateW K V G S (ix3 h d e) = state A b h (4 * (t + 1)) d e :=
  s_eq H h (ldS S h) (fun d e => (ldS_at S h d e).trans (hS h d e)) 4 le_rfl d e

/-- The tile's normed outputs. -/
theorem tile_eq (H : Holds A b t Q K V G) (ht : t < 16) (hn : FVec Ideal S1x256 .f32) (hh : ∀ x, hn (ix2 0 x) = A.hn x)
    (S : FVec Ideal S4x128x256 .f32) (hS : ∀ h d e, S (ix3 h d e) = state A b h (4 * t) d e) (r : Fin 256) (x : Fin 1024) :
    tileW Q K V G hn S (ix2 r x)
      = rms 1132462080#32 (att A b (tileRow t r) (Fin.ofNat 4 (x.val / 256))) A.hn (Fin.ofNat 256 x.val) := by
  have hr : (tileRow t r).val = 256 * t + r.val := Nat.mod_eq_of_lt (by omega)
  have e1 : (tileRow t r).val / 64 = 4 * t + r.val / 64 := by rw [hr]; omega
  have e2 : (Fin.ofNat 64 (tileRow t r).val : Fin 64) = Fin.ofNat 64 r.val := by
    rw [hr]
    refine Fin.ext ?_
    show (256 * t + r.val) % 64 = r.val % 64
    omega
  refine (rmsW_at _ _ _ _).trans ?_
  refine congrArg₂ (fun u g => rms 1132462080#32 u g (Fin.ofNat 256 x.val)) (funext fun y => ?_) (funext hh)
  refine (o_eq H _ _ (fun d e => (ldS_at S _ d e).trans (hS _ d e)) (r.val / 64) (by omega) _ _).trans ?_
  unfold att
  rw [e1, e2]
  rfl

/-- The block the tile stores. -/
theorem block_eq (H : Holds A b t Q K V G) (ht : t < 16) (hn : FVec Ideal S1x256 .f32) (hh : ∀ x, hn (ix2 0 x) = A.hn x)
    (S : FVec Ideal S4x128x256 .f32) (hS : ∀ h d e, S (ix3 h d e) = state A b h (4 * t) d e)
    (Z : FVec Ideal S1x256x1024 .bf16) (hZ : ∀ r c, Z (ix3 0 r c) = A.z b (tileRow t r) c)
    (X : FVec Ideal S1x256x1024 .f32) (hX : ∀ r c, X (ix3 0 r c) = A.x b (tileRow t r) c)
    (pn : FVec Ideal S1x1024 .f32) (hp : ∀ x, pn (ix2 0 x) = A.pn x)
    (W : FVec Ideal S1024x1024 .bf16) (hW : ∀ x e, W (ix2 x e) = A.w x e) (r : Fin 256) (e : Fin 1024) :
    blockW (tileW Q K V G hn S) Z X pn W (ix3 0 r e) = result A b (tileRow t r) e := by
  rw [blockW_at, hX]
  simp only [tile_eq H ht hn hh S hS, hZ, hp, hW]
  rfl

end Cert.KernelIdeal.Core
-- ==== Proof.GlaKernel.lean ====
/-
What the recurrence's kernel leaves in its output array: `result` of the operands at every index.
-/
module

public import proofs.«01_k».proof.Proof.GlaTile

@[expose] public section

set_option maxRecDepth 16384

noncomputable section

open Idealize.ShloMosaic Idealize.ShloMosaic.TcCoe Idealize.SL.Sem

namespace Cert.KernelIdeal.Core

open Cert.KernelIdeal Cert.KernelIdeal.Gen Cert.Gla

variable (m : (ℓ : Loc nD τ sig) → Buf (Elt Ideal) ℓ) (c : Dev nD)

/-- The operands a memory holds. -/
def inp : Inp where
  q b r x := m ((c : Thread nD τ).loc main_arg0) (ix3 b r x)
  k b r x := m ((c : Thread nD τ).loc main_arg1) (ix3 b r x)
  v b r x := m ((c : Thread nD τ).loc main_arg2) (ix3 b r x)
  g b r x := m ((c : Thread nD τ).loc main_arg3) (ix3 b r x)
  z b r x := m ((c : Thread nD τ).loc main_arg4) (ix3 b r x)
  x b r x := m ((c : Thread nD τ).loc main_arg5) (ix3 b r x)
  hn x := m ((c : Thread nD τ).loc main_arg6) (ix1 x)
  pn x := m ((c : Thread nD τ).loc main_arg7) (ix1 x)
  w x e := m ((c : Thread nD τ).loc main_arg8) (ix2 x e)

/-- The batch entry of a grid point. -/
def bat (t : ℕ) : Fin 8 := Fin.ofNat 8 (t / 16)

/-- A grid point's batch entry and tile are its quotient and remainder by 16: the row windows' index maps. -/
theorem idx_row : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0)
    ∧ (win0_5.index t (0 : Fin 3) = t.val / 16 ∧ win0_5.index t (1 : Fin 3) = t.val % 16 ∧ win0_5.index t (2 : Fin 3) = 0)
    ∧ (win0_9.index t (0 : Fin 3) = t.val / 16 ∧ win0_9.index t (1 : Fin 3) = t.val % 16 ∧ win0_9.index t (2 : Fin 3) = 0) :=
  (by decide +kernel : ∀ t : Fin grid0.N, _)

/-- The gains' and the weight's windows are whole at every point. -/
theorem idx_one : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem bat_val (t : Fin cfg0.N) : (bat t.val).val = t.val / 16 :=
  Nat.mod_eq_of_lt (by have := lt_of_lt_of_eq t.isLt N_0; omega)

theorem tileRow_val (t : ℕ) (r : Fin 256) : (tileRow (t % 16) r).val = t % 16 * 256 + r.val :=
  (Nat.mod_eq_of_lt (by omega)).trans (by omega)

theorem blk_q (t : Fin cfg0.N) (r : Fin 256) (x : Fin 512) :
    iblk m c 0 t (ix3 0 r x) = (inp m c).q (bat t.val) (tileRow (t.val % 16) r) x := by
  have h := (idx_row t).1
  have hb := bat_val t
  have ht := tileRow_val t.val r
  unfold inp
  blk_ext [iblk, V, h, hb, ht]

theorem blk_k (t : Fin cfg0.N) (r : Fin 256) (x : Fin 512) :
    iblk m c 1 t (ix3 0 r x) = (inp m c).k (bat t.val) (tileRow (t.val % 16) r) x := by
  have h := (idx_row t).2.1
  have hb := bat_val t
  have ht := tileRow_val t.val r
  unfold inp
  blk_ext [iblk, V, h, hb, ht]

theorem blk_v (t : Fin cfg0.N) (r : Fin 256) (x : Fin 1024) :
    iblk m c 2 t (ix3 0 r x) = (inp m c).v (bat t.val) (tileRow (t.val % 16) r) x := by
  have h := (idx_row t).2.2.1
  have hb := bat_val t
  have ht := tileRow_val t.val r
  unfold inp
  blk_ext [iblk, V, h, hb, ht]

theorem blk_g (t : Fin cfg0.N) (r : Fin 256) (x : Fin 512) :
    iblk m c 3 t (ix3 0 r x) = (inp m c).g (bat t.val) (tileRow (t.val % 16) r) x := by
  have h := (idx_row t).2.2.2.1
  have hb := bat_val t
  have ht := tileRow_val t.val r
  unfold inp
  blk_ext [iblk, V, h, hb, ht]

theorem blk_z (t : Fin cfg0.N) (r : Fin 256) (x : Fin 1024) :
    iblk m c 4 t (ix3 0 r x) = (inp m c).z (bat t.val) (tileRow (t.val % 16) r) x := by
  have h := (idx_row t).2.2.2.2.1
  have hb := bat_val t
  have ht := tileRow_val t.val r
  unfold inp
  blk_ext [iblk, V, h, hb, ht]

theorem blk_x (t : Fin cfg0.N) (r : Fin 256) (x : Fin 1024) :
    iblk m c 5 t (ix3 0 r x) = (inp m c).x (bat t.val) (tileRow (t.val % 16) r) x := by
  have h := (idx_row t).2.2.2.2.2.1
  have hb := bat_val t
  have ht := tileRow_val t.val r
  unfold inp
  blk_ext [iblk, V, h, hb, ht]

theorem blk_hn (t : Fin cfg0.N) (x : Fin 256) : iblk m c 6 t (ix2 0 x) = (inp m c).hn x := by
  have h := (idx_one t).1
  blk_simp [iblk]
  entry_read
  unfold inp
  pointwise []
  blk_ext [h]

theorem blk_pn (t : Fin cfg0.N) (x : Fin 1024) : iblk m c 7 t (ix2 0 x) = (inp m c).pn x := by
  have h := (idx_one t).2.1
  blk_simp [iblk]
  entry_read
  unfold inp
  pointwise []
  blk_ext [h]

theorem blk_w (t : Fin cfg0.N) (x e : Fin 1024) : iblk m c 8 t (ix2 x e) = (inp m c).w x e := by
  have h := (idx_one t).2.2
  blk_simp [iblk]
  entry_read
  unfold inp
  pointwise []
  blk_ext [h]

variable {m c}

/-- The blocks of a grid point hold its tile's rows. -/
theorem holds (hg : ∀ b r x, (inp m c).g b r x ≠ ⊤) (t : Fin cfg0.N) :
    Holds (inp m c) (bat t.val) (t.val % 16) (iblk m c 0 t) (iblk m c 1 t) (iblk m c 2 t) (iblk m c 3 t) where
  q := blk_q m c t
  k := blk_k m c t
  v := blk_v m c t
  g := blk_g m c t
  fin := hg _

/-- The state buffer's zero fill is the recurrence's first state. -/
theorem zero_state (b : Fin 8) (t : Fin cfg0.N) (ht : t.val % 16 = 0) (h : Fin 4) (d : Fin 128) (e : Fin 256) :
    (k0_pay2 (F := Ideal)) (ix3 h d e) = state (inp m c) b h (4 * (t.val % 16)) d e := by
  rw [ht]
  pointwise [k0_pay2]
  rfl

/-- After a grid point the state buffer holds the recurrence's state after the point's tile. -/
theorem carry_eq (hg : ∀ b r x, (inp m c).g b r x ≠ ⊤) : ∀ (n : ℕ) (hn : n < cfg0.N) (h : Fin 4) (d : Fin 128) (e : Fin 256),
    (outsAt0 m c n hn).2 (ix3 h d e) = state (inp m c) (bat n) h (4 * (n % 16 + 1)) d e := by
  intro n
  induction n with
  | zero =>
    intro hn h d e
    rw [state_A m c ⟨0, hn⟩ rfl]
    exact state_eq (holds hg ⟨0, hn⟩) _ (zero_state _ ⟨0, hn⟩ rfl) h d e
  | succ n ih =>
    intro hn h d e
    by_cases h0 : (n + 1) % 16 = 0
    · rw [state_A m c ⟨n + 1, hn⟩ h0]
      exact state_eq (holds hg ⟨n + 1, hn⟩) _ (zero_state _ ⟨n + 1, hn⟩ h0) h d e
    · rw [state_B m c ⟨n + 1, hn⟩ h0]
      refine state_eq (holds hg ⟨n + 1, hn⟩) _ (fun h d e => (ih _ h d e).trans ?_) h d e
      have e1 : bat n = bat (n + 1) := congrArg (Fin.ofNat 8) (by omega)
      have e2 : n % 16 + 1 = (n + 1) % 16 := by omega
      rw [e1, e2]

/-- The block a grid point stores. -/
theorem stored_eq (hg : ∀ b r x, (inp m c).g b r x ≠ ⊤) (t : Fin cfg0.N) (r : Fin 256) (e : Fin 1024) :
    (outsAt0 m c t.val t.isLt).1 (ix3 0 r e) = result (inp m c) (bat t.val) (tileRow (t.val % 16) r) e := by
  by_cases h0 : t.val % 16 = 0
  · rw [out_A m c t h0]
    exact block_eq (holds hg t) (by omega) _ (blk_hn m c t) _ (zero_state _ t h0) _ (blk_z m c t) _ (blk_x m c t)
      _ (blk_pn m c t) _ (blk_w m c t) r e
  · rw [out_B m c t h0]
    refine block_eq (holds hg t) (by omega) _ (blk_hn m c t) _ (fun h d e => (carry_eq hg _ _ h d e).trans ?_)
      _ (blk_z m c t) _ (blk_x m c t) _ (blk_pn m c t) _ (blk_w m c t) r e
    have e1 : bat (t.val - 1) = bat t.val := congrArg (Fin.ofNat 8) (by omega)
    have e2 : (t.val - 1) % 16 + 1 = t.val % 16 := by omega
    rw [e1, e2]

/-- The output array. -/
theorem array_eq (hg : ∀ b r x, (inp m c).g b r x ≠ ⊤) :
    (dats m 0 c).arrAt 9 cfg0.N = fun y : S8x4096x1024.Idx => result (inp m c) (y 0) (y 1) (y 2) := by
  refine (dats m 0 c).arrAt_eq_of_covers 9 _ (by decide +kernel) fun t hf y => ?_
  blk_simp []
  rw [after0_9]
  obtain ⟨i0, i1, i2⟩ := (idx_row t).2.2.2.2.2.2
  have hb := bat_val t
  have hy0 : (y 0).val < 1 := (y 0).isLt
  have hr := tileRow_val t.val (y 1)
  have b0 : ((win0_9.blk t).view.emb y 0).val = win0_9.index t (0 : Fin 3) * 1 + 1 * (y 0).val := rfl
  have b1 : ((win0_9.blk t).view.emb y 1).val = win0_9.index t (1 : Fin 3) * 256 + 1 * (y 1).val := rfl
  have b2 : ((win0_9.blk t).view.emb y 2).val = win0_9.index t (2 : Fin 3) * 1024 + 1 * (y 2).val := rfl
  have e0 : (win0_9.blk t).view.emb y 0 = bat t.val := Fin.ext (by rw [b0, hb]; omega)
  have e1 : (win0_9.blk t).view.emb y 1 = tileRow (t.val % 16) (y 1) := Fin.ext (by rw [b1, hr]; omega)
  have e2 : (win0_9.blk t).view.emb y 2 = (y 2 : Fin 1024) := Fin.ext (by rw [b2]; omega)
  rw [e0, e1, e2]
  have hy : (y : S1x256x1024.Idx) = ix3 0 (y 1) (y 2) := by
    funext a
    match a with
    | ⟨0, _⟩ => exact Fin.ext (by show (y 0).val = 0; omega)
    | ⟨1, _⟩ => rfl
    | ⟨2, _⟩ => rfl
  exact (congrArg (outsAt0 m c t.val t.isLt).1 hy).trans (stored_eq hg t (y 1) (y 2))

end Cert.KernelIdeal.Core
-- ==== Proof.RefRun.lean ====
/-
The reference's run as its scan's step, iterated. At every loop test the buffers hold a state: the two carried
arrays (the recurrence's state and the stacked outputs), the five arrays the scan slices, and the trip's number.
One trip of the printed body takes such a state to `step` of it, what stands before the loop leaves `init`, and the
result is `R_main_v74` of the state after 64 trips.
-/
module

public import proofs.«01_k».proof.Proof.Gen.ReferenceIdeal.Run
public import proofs.«01_k».proof.Proof.Gen.ReferenceIdeal.Step
public import Idealize.ShloMosaic.Lib.Pointwise

@[expose] public section

noncomputable section

namespace Cert.ReferenceIdeal.Core

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The contents of the buffers `V` at the test before trip `j` are those of the state `s`. -/
structure At (V : Valuation τ sig (Elt Ideal)) (s : State Ideal) (j : ℕ) : Prop where
  intra : V (Proc.devRef .tc main_v40_0) = s.main_v40_0
  query : V (Proc.devRef .tc main_v40_1) = s.main_v40_1
  key : V (Proc.devRef .tc main_v40_2) = s.main_v40_2
  value : V (Proc.devRef .tc main_v40_3) = s.main_v40_3
  decay : V (Proc.devRef .tc main_v40_4) = s.main_v40_4
  trip : V (Proc.devRef .tc main_v40_5) = constantI S_ 32 (BitVec.ofNat 32 j)
  carry : V (Proc.devRef .tc main_v40_6) = s.main_v40_6
  stack : V (Proc.devRef .tc main_v40_7) = s.main_v40_7

variable {V : Valuation τ sig (Elt Ideal)} {s : State Ideal} {j : ℕ}

set_option maxRecDepth 8192 in
/-- The recurrence's state after a trip. -/
theorem carry_next (h : At V s j) : step_main_v40_6 V = (step j s).main_v40_6 := by
  rw [Step.step_main_v40_6]
  unfold step_main_v40_6
  simp only [h.decay, h.key, h.value, h.trip, h.carry]
  rfl

set_option maxRecDepth 8192 in
/-- The stacked outputs after a trip. -/
theorem stack_next (h : At V s j) : step_main_v40_7 V = (step j s).main_v40_7 := by
  rw [Step.step_main_v40_7]
  unfold step_main_v40_7
  simp only [h.intra, h.query, h.trip, h.carry, h.stack]
  rfl

/-- The trip's number goes up by one. -/
theorem trip_next (h : At V s j) : step_main_v40_5 V = constantI S_ 32 (BitVec.ofNat 32 (j + 1)) := by
  unfold step_main_v40_5
  rw [h.trip]
  funext i
  show BitVec.ofNat 32 j + 1#32 = BitVec.ofNat 32 (j + 1)
  rw [BitVec.ofNat_add]

/-- One trip takes the state `s` to `step j s`. -/
theorem at_next (h : At V s j) : At (STEP V) (step j s) (j + 1) where
  intra := (STEP_main_v40_0 V).trans h.intra
  query := (STEP_main_v40_1 V).trans h.query
  key := (STEP_main_v40_2 V).trans h.key
  value := (STEP_main_v40_3 V).trans h.value
  decay := (STEP_main_v40_4 V).trans h.decay
  trip := (STEP_main_v40_5 V).trans (trip_next h)
  carry := (STEP_main_v40_6 V).trans (carry_next h)
  stack := (STEP_main_v40_7 V).trans (stack_next h)

variable (m : (ℓ : Loc nD τ sig) → Buf (Elt Ideal) ℓ) (c : Dev nD)

/-- The states of the scan, from the initial one. -/
def states : ℕ → State Ideal
  | 0 => init (m ((c.tc : Thread nD τ).loc main_arg0)) (m ((c.tc : Thread nD τ).loc main_arg1))
      (m ((c.tc : Thread nD τ).loc main_arg2)) (m ((c.tc : Thread nD τ).loc main_arg3))
  | n + 1 => step n (states n)

set_option maxRecDepth 65536 in
set_option maxHeartbeats 1600000 in
/-- What stands before the loop leaves the initial state. -/
theorem at_entry : At (entryContents preI m c) (states m c 0) 0 := by
  constructor <;> (simp only [entryContents, afterL_cons, afterL_nil]; after_reads_simp) <;> rfl

/-- Before trip `n` the buffers hold the scan's state number `n`. -/
theorem at_trip : ∀ n, At (STEP^[n] (entryContents preI m c)) (states m c n) n
  | 0 => at_entry m c
  | n + 1 => by
    rw [Function.iterate_succ_apply']
    exact at_next (at_trip n)

set_option maxRecDepth 8192 in
/-- Every run of the reference ends with its result made from the state after 64 trips, its arguments unchanged. -/
theorem run_states (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = Step.R_main_v74 (states m c 64)
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  refine ⟨(h c).1.trans ?_, (h c).2⟩
  unfold out_main_v74 Step.R_main_v74
  rw [(at_trip m c 64).stack, iter_main_arg4, iter_main_arg5, iter_main_arg6, iter_main_arg7, iter_main_arg8]
  try rfl

end Cert.ReferenceIdeal.Core
-- ==== Proof.RefSum.lean ====
/-
The reference's running sum of the log decays, read at an index: the sum of a chunk's rows up to the row.
-/
module

public import Idealize.ShloMosaic.Lib.Pointwise

@[expose] public section

noncomputable section

open Idealize.ShloMosaic

namespace Cert.Gla

/-- Adding up a list from a start is the start plus the list's sum. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- The window of a running sum: 64 rows of one element. -/
abbrev Sw : Shape := ⟨5, ![1, 1, 1, 64, 1]⟩

/-- The log decays in chunks. -/
abbrev Sx : Shape := ⟨5, ![8, 4, 64, 64, 128]⟩

/-- A sum over a window's positions is a sum over its 64 rows. -/
theorem sum_window (f : Sw.Idx → EReal) : ∑ n : Fin Sw.numel, f (Sw.rowMajor.symm n) = ∑ w : Fin 64, f (ix5 0 0 0 w 0) := by
  rw [Equiv.sum_comp Sw.rowMajor.symm f, sum_idx5]
  simp

/-- The window padded by 63 rows before its row holds the rows up to it. -/
theorem sum_pad (i : Fin 64) (g : Fin 64 → EReal) :
    (∑ w : Fin 64, if h : 63 ≤ i.val + w.val then g ⟨i.val + w.val - 63, by omega⟩ else 0)
      = ∑ j : Fin 64, if j ≤ i then g j else 0 := by
  rw [← Equiv.sum_comp (Equiv.addRight (i + 1)) (fun j => if j ≤ i then g j else 0)]
  refine Finset.sum_congr rfl fun w _ => ?_
  have e : (w + (i + 1)).val = (w.val + (i.val + 1) % 64) % 64 := by
    rw [Fin.val_add, Fin.val_add]; rfl
  show _ = if w + (i + 1) ≤ i then g (w + (i + 1)) else 0
  by_cases h : 63 ≤ i.val + w.val
  · rw [dif_pos h, if_pos (by rw [Fin.le_def, e]; omega)]
    exact congrArg g (Fin.ext (by rw [e]; show i.val + w.val - 63 = _; omega))
  · rw [dif_neg h, if_neg (by rw [Fin.le_def, e]; omega)]

/-- The running sum along the rows of a chunk. -/
theorem running_sum (x : FVec Ideal Sx .f32) (init : FVec Ideal ⟨0, ![]⟩ .f32) (hi : ∀ y, init y = 0)
    (h : Sx.ReduceWindows ![1, 1, 1, 64, 1] ![1, 1, 1, 1, 1] ![0, 0, 0, 63, 0] ![0, 0, 0, 0, 0] Sx)
    (hu : 0 < (⟨0, ![]⟩ : Shape).numel) (b : Fin 8) (k : Fin 4) (n i : Fin 64) (d : Fin 128) :
    Host.reduceWindowAdd (F := Ideal) (φ := .f32) ![1, 1, 1, 64, 1] ![1, 1, 1, 1, 1] ![0, 0, 0, 63, 0] ![0, 0, 0, 0, 0]
        x init h hu (ix5 b k n i d)
      = ∑ j : Fin 64, if j ≤ i then x (ix5 b k n j d) else 0 := by
  unfold Host.reduceWindowAdd
  rw [hi]
  show Ideal.hostReduceWindowAdd _ _ _ _ h x 0 _ = _
  unfold Ideal.hostReduceWindowAdd Host.reduceWindow
  refine (foldl_add _ _ _).trans ?_
  rw [zero_add, ← Fin.sum_univ_def]
  refine (sum_window (fun q => @dite EReal _ (Nat.decidableForallFin _)
    (fun hin : ∀ a : Fin Sx.rank, (![0, 0, 0, 63, 0] : Fin 5 → ℕ) a
        ≤ (ix5 b k n i d (a.cast h.1.symm)).val * (![1, 1, 1, 1, 1] : Fin 5 → ℕ) a + (q a).val
        ∧ (ix5 b k n i d (a.cast h.1.symm)).val * (![1, 1, 1, 1, 1] : Fin 5 → ℕ) a + (q a).val
          - (![0, 0, 0, 63, 0] : Fin 5 → ℕ) a < Sx.size a =>
      x (fun a => ⟨(ix5 b k n i d (a.cast h.1.symm)).val * (![1, 1, 1, 1, 1] : Fin 5 → ℕ) a + (q a).val
        - (![0, 0, 0, 63, 0] : Fin 5 → ℕ) a, (hin a).2⟩)) (fun _ => 0))).trans ?_
  rw [← sum_pad i fun j => x (ix5 b k n j d)]
  refine Finset.sum_congr rfl fun w _ => ?_
  by_cases hw : 63 ≤ i.val + w.val
  · rw [dif_pos hw, dif_pos]
    · refine congrArg x (funext fun a => Fin.ext ?_)
      match a with
      | ⟨0, _⟩ => show b.val * 1 + 0 - 0 = b.val; omega
      | ⟨1, _⟩ => show k.val * 1 + 0 - 0 = k.val; omega
      | ⟨2, _⟩ => show n.val * 1 + 0 - 0 = n.val; omega
      | ⟨3, _⟩ => show i.val * 1 + w.val - 63 = i.val + w.val - 63; omega
      | ⟨4, _⟩ => show d.val * 1 + 0 - 0 = d.val; omega
    · intro a
      match a with
      | ⟨0, _⟩ => exact ⟨Nat.zero_le _, show b.val * 1 + 0 - 0 < 8 by omega⟩
      | ⟨1, _⟩ => exact ⟨Nat.zero_le _, show k.val * 1 + 0 - 0 < 4 by omega⟩
      | ⟨2, _⟩ => exact ⟨Nat.zero_le _, show n.val * 1 + 0 - 0 < 64 by omega⟩
      | ⟨3, _⟩ => exact ⟨show 63 ≤ i.val * 1 + w.val by omega, show i.val * 1 + w.val - 63 < 64 by omega⟩
      | ⟨4, _⟩ => exact ⟨Nat.zero_le _, show d.val * 1 + 0 - 0 < 128 by omega⟩
  · rw [dif_neg hw, dif_neg]
    intro hin
    have h3 : 63 ≤ i.val * 1 + w.val := (hin 3).1
    omega

end Cert.Gla
-- ==== Proof.GlaRef.lean ====
/-
The reference's arrays: what one trip of its scan computes from the arrays it slices, and those arrays as the plain
formulas' chunks.
-/
module

public import proofs.«01_k».proof.Proof.RefRun
public import proofs.«01_k».proof.Proof.RefSum
public import proofs.«01_k».proof.Proof.GlaMath
public import Idealize.ShloMosaic.Lib.WordCmp

@[expose] public section

set_option maxRecDepth 16384

noncomputable section

open Idealize.ShloMosaic Idealize.ShloMosaic.TcCoe Idealize.SL.Sem

namespace Cert.ReferenceIdeal.Core

open Cert.ReferenceIdeal Cert.ReferenceIdeal.Step Cert.ReferenceIdeal.Gen Cert.Gla

/-! ### Slices along the chunks -/

/-- The slice of one chunk. -/
theorem slice5 {D : ℕ} (x : FVec Ideal ⟨5, ![64, 8, 4, 64, D]⟩ .f32) (st : Fin 5 → Int)
    (hs : (⟨5, ![64, 8, 4, 64, D]⟩ : Shape).Slices (fun _ => 0) ⟨5, ![1, 8, 4, 64, D]⟩) (j : Fin 64)
    (h0 : st 0 = (j.val : ℕ)) (h1 : st 1 = (0 : ℕ)) (h2 : st 2 = (0 : ℕ)) (h3 : st 3 = (0 : ℕ)) (h4 : st 4 = (0 : ℕ))
    (b : Fin 8) (k : Fin 4) (i : Fin 64) (e : Fin D) :
    Host.dynamicSlice ⟨5, ![1, 8, 4, 64, D]⟩ x st hs (ix5 0 b k i e) = x (ix5 j b k i e) := by
  have c0 := Host.clampedStart_of_le hs.1 st 0 j.val h0 (show j.val + 1 ≤ 64 by omega)
  have c1 := Host.clampedStart_of_le hs.1 st 1 0 h1 (show 0 + 8 ≤ 8 by omega)
  have c2 := Host.clampedStart_of_le hs.1 st 2 0 h2 (show 0 + 4 ≤ 4 by omega)
  have c3 := Host.clampedStart_of_le hs.1 st 3 0 h3 (show 0 + 64 ≤ 64 by omega)
  have c4 := Host.clampedStart_of_le hs.1 st 4 0 h4 (show 0 + D ≤ D by omega)
  rw [Host.dynamicSlice_apply]
  refine congrArg x (funext fun a => Fin.ext ?_)
  match a with
  | ⟨0, _⟩ => exact (congrArg (· + 0) c0).trans (Nat.add_zero _)
  | ⟨1, _⟩ => exact (congrArg (· + b.val) c1).trans (Nat.zero_add _)
  | ⟨2, _⟩ => exact (congrArg (· + k.val) c2).trans (Nat.zero_add _)
  | ⟨3, _⟩ => exact (congrArg (· + i.val) c3).trans (Nat.zero_add _)
  | ⟨4, _⟩ => exact (congrArg (· + e.val) c4).trans (Nat.zero_add _)

/-- The slice of one chunk of an array without rows. -/
theorem slice4 {D : ℕ} (x : FVec Ideal ⟨4, ![64, 8, 4, D]⟩ .f32) (st : Fin 4 → Int)
    (hs : (⟨4, ![64, 8, 4, D]⟩ : Shape).Slices (fun _ => 0) ⟨4, ![1, 8, 4, D]⟩) (j : Fin 64)
    (h0 : st 0 = (j.val : ℕ)) (h1 : st 1 = (0 : ℕ)) (h2 : st 2 = (0 : ℕ)) (h3 : st 3 = (0 : ℕ))
    (b : Fin 8) (k : Fin 4) (e : Fin D) :
    Host.dynamicSlice ⟨4, ![1, 8, 4, D]⟩ x st hs (ix4 0 b k e) = x (ix4 j b k e) := by
  have c0 := Host.clampedStart_of_le hs.1 st 0 j.val h0 (show j.val + 1 ≤ 64 by omega)
  have c1 := Host.clampedStart_of_le hs.1 st 1 0 h1 (show 0 + 8 ≤ 8 by omega)
  have c2 := Host.clampedStart_of_le hs.1 st 2 0 h2 (show 0 + 4 ≤ 4 by omega)
  have c3 := Host.clampedStart_of_le hs.1 st 3 0 h3 (show 0 + D ≤ D by omega)
  rw [Host.dynamicSlice_apply]
  refine congrArg x (funext fun a => Fin.ext ?_)
  match a with
  | ⟨0, _⟩ => exact (congrArg (· + 0) c0).trans (Nat.add_zero _)
  | ⟨1, _⟩ => exact (congrArg (· + b.val) c1).trans (Nat.zero_add _)
  | ⟨2, _⟩ => exact (congrArg (· + k.val) c2).trans (Nat.zero_add _)
  | ⟨3, _⟩ => exact (congrArg (· + e.val) c3).trans (Nat.zero_add _)

/-- One chunk written into the stack: the chunk at its number, the stack elsewhere. -/
theorem update5 (x : FVec Ideal S64x8x4x64x256 .f32) (u : FVec Ideal S1x8x4x64x256 .f32) (st : Fin 5 → Int)
    (hs : S64x8x4x64x256.Slices (fun _ => 0) S1x8x4x64x256) (j : Fin 64)
    (h0 : st 0 = (j.val : ℕ)) (h1 : st 1 = (0 : ℕ)) (h2 : st 2 = (0 : ℕ)) (h3 : st 3 = (0 : ℕ)) (h4 : st 4 = (0 : ℕ))
    (n : Fin 64) (b : Fin 8) (k : Fin 4) (i : Fin 64) (e : Fin 256) :
    Host.dynamicUpdateSlice x u st hs (ix5 n b k i e) = if n = j then u (ix5 0 b k i e) else x (ix5 n b k i e) := by
  have c0 := Host.clampedStart_of_le hs.1 st 0 j.val h0 (show j.val + 1 ≤ 64 by omega)
  have c1 := Host.clampedStart_of_le hs.1 st 1 0 h1 (show 0 + 8 ≤ 8 by omega)
  have c2 := Host.clampedStart_of_le hs.1 st 2 0 h2 (show 0 + 4 ≤ 4 by omega)
  have c3 := Host.clampedStart_of_le hs.1 st 3 0 h3 (show 0 + 64 ≤ 64 by omega)
  have c4 := Host.clampedStart_of_le hs.1 st 4 0 h4 (show 0 + 256 ≤ 256 by omega)
  rw [Host.dynamicUpdateSlice_apply]
  by_cases hn : n = j
  · subst hn
    rw [if_pos rfl, dif_pos]
    · refine congrArg u (funext fun a => Fin.ext ?_)
      match a with
      | ⟨0, _⟩ => exact (congrArg (n.val - ·) c0).trans (Nat.sub_self _)
      | ⟨1, _⟩ => exact congrArg (b.val - ·) c1
      | ⟨2, _⟩ => exact congrArg (k.val - ·) c2
      | ⟨3, _⟩ => exact congrArg (i.val - ·) c3
      | ⟨4, _⟩ => exact congrArg (e.val - ·) c4
    · intro a
      match a with
      | ⟨0, _⟩ => exact ⟨le_of_eq c0, lt_of_lt_of_eq (Nat.lt_succ_self _) (congrArg (· + 1) c0.symm)⟩
      | ⟨1, _⟩ => exact ⟨le_of_eq_of_le c1 (Nat.zero_le _), lt_of_lt_of_eq b.isLt (congrArg (· + 8) c1.symm)⟩
      | ⟨2, _⟩ => exact ⟨le_of_eq_of_le c2 (Nat.zero_le _), lt_of_lt_of_eq k.isLt (congrArg (· + 4) c2.symm)⟩
      | ⟨3, _⟩ => exact ⟨le_of_eq_of_le c3 (Nat.zero_le _), lt_of_lt_of_eq i.isLt (congrArg (· + 64) c3.symm)⟩
      | ⟨4, _⟩ => exact ⟨le_of_eq_of_le c4 (Nat.zero_le _), lt_of_lt_of_eq e.isLt (congrArg (· + 256) c4.symm)⟩
  · rw [if_neg hn, dif_neg]
    intro h
    have p1 : j.val ≤ n.val := le_of_eq_of_le c0.symm (h 0).1
    have p2 : n.val < j.val + 1 := lt_of_lt_of_eq (h 0).2 (congrArg (· + 1) c0)
    exact hn (Fin.ext (by omega))

/-- A trip's number, read as an integer. -/
theorem trip_int : ∀ j : Fin 64, (BitVec.ofNat 32 j.val).toInt = ((j.val : ℕ) : Int) := by decide

variable (s : State Ideal) (j : Fin 64)

theorem b4_at (b : Fin 8) (h : Fin 4) (i : Fin 64) (e : Fin 256) :
    b4 j.val s (ix5 0 b h i e) = s.main_v40_0 (ix5 j b h i e) :=
  slice5 _ _ _ j (trip_int j) rfl rfl rfl rfl b h i e

theorem b10_at (b : Fin 8) (h : Fin 4) (i : Fin 64) (d : Fin 128) :
    b10 j.val s (ix5 0 b h i d) = s.main_v40_1 (ix5 j b h i d) :=
  slice5 _ _ _ j (trip_int j) rfl rfl rfl rfl b h i d

theorem b16_at (b : Fin 8) (h : Fin 4) (i : Fin 64) (d : Fin 128) :
    b16 j.val s (ix5 0 b h i d) = s.main_v40_2 (ix5 j b h i d) :=
  slice5 _ _ _ j (trip_int j) rfl rfl rfl rfl b h i d

theorem b22_at (b : Fin 8) (h : Fin 4) (i : Fin 64) (e : Fin 256) :
    b22 j.val s (ix5 0 b h i e) = s.main_v40_3 (ix5 j b h i e) :=
  slice5 _ _ _ j (trip_int j) rfl rfl rfl rfl b h i e

theorem b27_at (b : Fin 8) (h : Fin 4) (d : Fin 128) : b27 j.val s (ix4 0 b h d) = s.main_v40_4 (ix4 j b h d) :=
  slice4 _ _ _ j (trip_int j) rfl rfl rfl b h d

/-- The state after a trip. -/
theorem b35_at (b : Fin 8) (h : Fin 4) (d : Fin 128) (e : Fin 256) :
    b35 j.val s (ix4 b h d e) = s.main_v40_4 (ix4 j b h d) * s.main_v40_6 (ix4 b h d e)
      + ∑ x : Fin 64, s.main_v40_2 (ix5 j b h x d) * s.main_v40_3 (ix5 j b h x e) := by
  pointwise [b35, b34, b33, b32, b31, b28, b17, b23]
  simp only [b27_at, b16_at, b22_at]

/-- A trip's output. -/
theorem b30_at (b : Fin 8) (h : Fin 4) (i : Fin 64) (e : Fin 256) :
    b30 j.val s (ix4 b h i e) = s.main_v40_0 (ix5 j b h i e)
      + ∑ x : Fin 128, s.main_v40_1 (ix5 j b h i x) * s.main_v40_6 (ix4 b h x e) := by
  pointwise [b30, b29, b5, b11]
  simp only [b4_at, b10_at]

theorem b36_at (b : Fin 8) (h : Fin 4) (i : Fin 64) (e : Fin 256) :
    b36 j.val s (ix5 0 b h i e) = b30 j.val s (ix4 b h i e) := by
  pointwise [b36]

/-- The stack after a trip. -/
theorem b41_at (n : Fin 64) (b : Fin 8) (h : Fin 4) (i : Fin 64) (e : Fin 256) :
    b41 j.val s (ix5 n b h i e) = if n = j then b30 j.val s (ix4 b h i e) else s.main_v40_7 (ix5 n b h i e) := by
  rw [← b36_at]
  exact update5 _ _ _ _ j (trip_int j) rfl rfl rfl rfl n b h i e

/-! ### The chunked arrays -/

variable (a0 a1 a3 : (⟨S8x4096x512, .f32⟩ : BufTy).Contents (Elt Ideal))
  (a2 a4 : (⟨S8x4096x1024, .bf16⟩ : BufTy).Contents (Elt Ideal))
  (a5 : (⟨S8x4096x1024, .f32⟩ : BufTy).Contents (Elt Ideal)) (a6 : (⟨S256, .f32⟩ : BufTy).Contents (Elt Ideal))
  (a7 : (⟨S1024, .f32⟩ : BufTy).Contents (Elt Ideal)) (a8 : (⟨S1024x1024, .f32⟩ : BufTy).Contents (Elt Ideal))

/-- The operands as plain functions. -/
def inp : Inp where
  q b r x := a0 (ix3 b r x)
  k b r x := a1 (ix3 b r x)
  v b r x := a2 (ix3 b r x)
  g b r x := a3 (ix3 b r x)
  z b r x := a4 (ix3 b r x)
  x b r x := a5 (ix3 b r x)
  hn x := a6 (ix1 x)
  pn x := a7 (ix1 x)
  w x e := a8 (ix2 x e)

/-- The row of a chunk, as the program's reshapes number it. -/
theorem row_mk (n i : Fin 64) (p : n.val * 64 + i.val < 4096) : (⟨n.val * 64 + i.val, p⟩ : Fin 4096) = row n.val i :=
  Fin.ext (Nat.mod_eq_of_lt p).symm

variable (b : Fin 8) (h : Fin 4) (n i : Fin 64)

/-- The scaled queries. -/
theorem v11_at (d : Fin 128) : A_main_v11 a0 a1 a2 a3 (ix5 b h n i d)
    = (chunk (inp a0 a1 a3 a2 a4 a5 a6 a7 a8) b h n.val).q i d * scale := by
  pointwise [A_main_v11, A_main_v3, A_main_v1, A_main_v0, K_main_v2, K_main_cst]
  rw [row_mk]
  rfl

/-- The keys. -/
theorem v12_at (d : Fin 128) : A_main_v12 a0 a1 a2 a3 (ix5 b h n i d)
    = (chunk (inp a0 a1 a3 a2 a4 a5 a6 a7 a8) b h n.val).k i d := by
  pointwise [A_main_v12, A_main_v5, A_main_v4]
  rw [row_mk]
  rfl

/-- The values. -/
theorem v13_at (e : Fin 256) : A_main_v13 a0 a1 a2 a3 (ix5 b h n i e)
    = (chunk (inp a0 a1 a3 a2 a4 a5 a6 a7 a8) b h n.val).v i e := by
  pointwise [A_main_v13, A_main_v8, A_main_v7, A_main_v6]
  rw [row_mk]
  rfl

/-- The log decays. -/
theorem v14_at (d : Fin 128) : A_main_v14 a0 a1 a2 a3 (ix5 b h n i d)
    = (chunk (inp a0 a1 a3 a2 a4 a5 a6 a7 a8) b h n.val).g i d := by
  pointwise [A_main_v14, A_main_v10, A_main_v9]
  rw [row_mk]
  rfl

/-- The running sums of the log decays. -/
theorem v15_at (d : Fin 128) : A_main_v15 a0 a1 a2 a3 (ix5 b h n i d)
    = cum (chunk (inp a0 a1 a3 a2 a4 a5 a6 a7 a8) b h n.val) i d := by
  have hi : ∀ y, K_main_call0_call0_v0 (F := Ideal) y = 0 := fun y => Ideal.ofBits_zero .f32
  refine (running_sum (A_main_v14 a0 a1 a2 a3) _ hi _ _ b h n i d).trans ?_
  unfold cum
  simp only [v14_at (a4 := a4) (a5 := a5) (a6 := a6) (a7 := a7) (a8 := a8)]

/-- The decayed queries. -/
theorem v32_at (d : Fin 128) : A_main_v32 a0 a1 a2 a3 (ix5 n b h i d)
    = qe (chunk (inp a0 a1 a3 a2 a4 a5 a6 a7 a8) b h n.val) i d := by
  pointwise [A_main_v32, A_main_v18, A_main_v17]
  rw [v11_at (a4 := a4) (a5 := a5) (a6 := a6) (a7 := a7) (a8 := a8),
    v15_at (a4 := a4) (a5 := a5) (a6 := a6) (a7 := a7) (a8 := a8)]
  rfl

/-- The keys, decayed to the chunk's end. -/
theorem v33_at (d : Fin 128) : A_main_v33 a0 a1 a2 a3 (ix5 n b h i d)
    = (chunk (inp a0 a1 a3 a2 a4 a5 a6 a7 a8) b h n.val).k i d
      * Ideal.exp (cum (chunk (inp a0 a1 a3 a2 a4 a5 a6 a7 a8) b h n.val) 63 d
        - cum (chunk (inp a0 a1 a3 a2 a4 a5 a6 a7 a8) b h n.val) i d) := by
  pointwise [A_main_v33, A_main_v25, A_main_v24, A_main_v23, A_main_v22, A_main_v16]
  rw [v12_at (a4 := a4) (a5 := a5) (a6 := a6) (a7 := a7) (a8 := a8),
    v15_at (a4 := a4) (a5 := a5) (a6 := a6) (a7 := a7) (a8 := a8)]
  erw [v15_at (a4 := a4) (a5 := a5) (a6 := a6) (a7 := a7) (a8 := a8)]

/-- The values, chunk by chunk. -/
theorem v34_at (e : Fin 256) : A_main_v34 a0 a1 a2 a3 (ix5 n b h i e)
    = (chunk (inp a0 a1 a3 a2 a4 a5 a6 a7 a8) b h n.val).v i e := by
  pointwise [A_main_v34]
  exact v13_at a0 a1 a3 a2 a4 a5 a6 a7 a8 b h n i e

/-- A chunk's whole decay. -/
theorem v37_at (d : Fin 128) : A_main_v37 a0 a1 a2 a3 (ix4 n b h d)
    = Ideal.exp (cum (chunk (inp a0 a1 a3 a2 a4 a5 a6 a7 a8) b h n.val) 63 d) := by
  pointwise [A_main_v37, A_main_v36, A_main_v35, A_main_v16]
  exact congrArg Ideal.exp (v15_at a0 a1 a3 a2 a4 a5 a6 a7 a8 b h n 63 d)

/-- The causal mask's selection. -/
theorem masked (i j : Fin 64) (x y : EReal) :
    Scalar.select (Scalar.select (IntOp.cmpi .sge (IntOp.addi (BitVec.ofNat 32 i.val) 0#32) (BitVec.ofNat 32 j.val))
      1#1 0#1) x y = if j ≤ i then x else y := by
  have e : IntOp.addi (BitVec.ofNat 32 i.val) 0#32 = BitVec.ofNat 32 i.val := BitVec.add_zero _
  rw [e, WordCmp.cmpi_sge_ofNat (by omega) (by omega)]
  by_cases hp : j ≤ i
  · have hv : j.val ≤ i.val := hp
    simp [hp, hv, Scalar.select]
  · have hv : ¬ j.val ≤ i.val := hp
    simp [hp, hv, Scalar.select]

/-- The attention within the chunks. -/
theorem v31_at (e : Fin 256) : A_main_v31 a0 a1 a2 a3 (ix5 n b h i e)
    = intra (chunk (inp a0 a1 a3 a2 a4 a5 a6 a7 a8) b h n.val) i e := by
  pointwise [A_main_v31, A_main_v30, A_main_v29, A_main_v28, A_main_v18, A_main_v21, A_main_v20, A_main_v17,
    A_main_v19, K_main_v27, K_main_call1_v4, K_main_v26, K_main_call1_v5, K_main_call1_v2, K_main_call1_v3,
    K_main_call1_v0, K_main_call1_v1, K_main_call1_c, K_main_call1_c_0, K_main_c, K_main_call2_v2, K_main_call2_v1,
    K_main_call2_v0, K_main_cst_0]
  unfold intra
  refine Finset.sum_congr rfl fun j _ => ?_
  erw [masked]
  rw [v13_at (a4 := a4) (a5 := a5) (a6 := a6) (a7 := a7) (a8 := a8)]
  simp only [v11_at (a4 := a4) (a5 := a5) (a6 := a6) (a7 := a7) (a8 := a8),
    v12_at (a4 := a4) (a5 := a5) (a6 := a6) (a7 := a7) (a8 := a8),
    v15_at (a4 := a4) (a5 := a5) (a6 := a6) (a7 := a7) (a8 := a8)]
  have z : id (constant (F := Ideal) S_ .f32 0x00000000#32) ix0 = 0 := Ideal.ofBits_zero .f32
  rw [z]
  rfl

end Cert.ReferenceIdeal.Core
-- ==== Proof.GlaScan.lean ====
/-
The reference's value: its scan carries the recurrence's state and stacks the chunks' outputs, and its result is
`result` of the operands at every index.
-/
module

public import proofs.«01_k».proof.Proof.GlaRef

@[expose] public section

set_option maxRecDepth 16384

noncomputable section

open Idealize.ShloMosaic Idealize.ShloMosaic.TcCoe Idealize.SL.Sem

namespace Cert.ReferenceIdeal.Core

open Cert.ReferenceIdeal Cert.ReferenceIdeal.Step Cert.ReferenceIdeal.Gen Cert.Gla

variable (m : (ℓ : Loc nD τ sig) → Buf (Elt Ideal) ℓ) (c : Dev nD)

/-- The operands a memory holds. -/
def operands : Inp :=
  inp (m ((c.tc : Thread nD τ).loc main_arg0)) (m ((c.tc : Thread nD τ).loc main_arg1))
    (m ((c.tc : Thread nD τ).loc main_arg3)) (m ((c.tc : Thread nD τ).loc main_arg2))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-- The arrays the scan slices stay as they are. -/
theorem sliced (n : ℕ) : (states m c n).main_v40_0 = (states m c 0).main_v40_0
    ∧ (states m c n).main_v40_1 = (states m c 0).main_v40_1 ∧ (states m c n).main_v40_2 = (states m c 0).main_v40_2
    ∧ (states m c n).main_v40_3 = (states m c 0).main_v40_3
    ∧ (states m c n).main_v40_4 = (states m c 0).main_v40_4 := by
  induction n with
  | zero => exact ⟨rfl, rfl, rfl, rfl, rfl⟩
  | succ n ih => exact ih

variable (b : Fin 8) (h : Fin 4)

/-- The state after a trip is the recurrence's step of the state before it. -/
theorem carry_at (j : Fin 64) (f : Fin 128 → Fin 256 → EReal)
    (hf : ∀ d e, (states m c j.val).main_v40_6 (ix4 b h d e) = f d e) (d : Fin 128) (e : Fin 256) :
    (states m c (j.val + 1)).main_v40_6 (ix4 b h d e) = next (chunk (operands m c) b h j.val) f d e := by
  obtain ⟨_, _, e2, e3, e4⟩ := sliced m c j.val
  show b35 j.val (states m c j.val) (ix4 b h d e) = _
  rw [b35_at, hf, e2, e3, e4]
  refine congr (congrArg _ (congrArg (· * f d e) (v37_at _ _ _ _ _ _ _ _ _ b h j d))) ?_
  exact Finset.sum_congr rfl fun x _ =>
    congr (congrArg _ (v33_at _ _ _ _ _ _ _ _ _ b h j x d)) (v34_at _ _ _ _ _ _ _ _ _ b h j x e)

/-- Before trip `n` the carry is the recurrence's state. -/
theorem carry_state (n : ℕ) (hn : n ≤ 64) : ∀ d e,
    (states m c n).main_v40_6 (ix4 b h d e) = state (operands m c) b h n d e := by
  induction n with
  | zero => exact fun d e => Ideal.ofBits_zero .f32
  | succ n ih => exact fun d e => carry_at m c b h ⟨n, hn⟩ _ (ih (by omega)) d e

/-- What a trip writes is its chunk's output. -/
theorem trip_out (j : Fin 64) (i : Fin 64) (e : Fin 256) : b30 j.val (states m c j.val) (ix4 b h i e)
    = out (chunk (operands m c) b h j.val) (state (operands m c) b h j.val) i e := by
  obtain ⟨e0, e1, _, _, _⟩ := sliced m c j.val
  rw [b30_at, e0, e1]
  refine congr (congrArg _ (v31_at _ _ _ _ _ _ _ _ _ b h j i e)) ?_
  exact Finset.sum_congr rfl fun x _ =>
    congr (congrArg _ (v32_at _ _ _ _ _ _ _ _ _ b h j i x)) (carry_state m c b h j.val (by omega) x e)

/-- Before trip `n` the stack holds the outputs of the chunks before it. -/
theorem stack_out (n : ℕ) (hn : n ≤ 64) : ∀ p : Fin 64, p.val < n → ∀ i e,
    (states m c n).main_v40_7 (ix5 p b h i e)
      = out (chunk (operands m c) b h p.val) (state (operands m c) b h p.val) i e := by
  induction n with
  | zero => exact fun p hp => absurd hp (Nat.not_lt_zero _)
  | succ n ih =>
    intro p hp i e
    show b41 (⟨n, hn⟩ : Fin 64).val (states m c n) (ix5 p b h i e) = _
    rw [b41_at]
    split
    · rename_i q
      subst q
      exact trip_out m c b h _ i e
    · rename_i q
      refine ih (by omega) p ?_ i e
      have : p.val ≠ n := fun t => q (Fin.ext t)
      omega

variable (s : State Ideal) (a4 : (⟨S8x4096x1024, .bf16⟩ : BufTy).Contents (Elt Ideal))
  (a5 : (⟨S8x4096x1024, .f32⟩ : BufTy).Contents (Elt Ideal)) (a6 : (⟨S256, .f32⟩ : BufTy).Contents (Elt Ideal))
  (a7 : (⟨S1024, .f32⟩ : BufTy).Contents (Elt Ideal)) (a8 : (⟨S1024x1024, .f32⟩ : BufTy).Contents (Elt Ideal))

/-- A stacked row of a head, at a row of the batch entry. -/
def stacked (b : Fin 8) (r : Fin 4096) (h : Fin 4) (e : Fin 256) : EReal :=
  s.main_v40_7 (ix5 ⟨r.val / 64, by omega⟩ b h (Fin.ofNat 64 r.val) e)

/-- What the reference returns, from its stacked outputs. -/
theorem returns (b : Fin 8) (r : Fin 4096) (e : Fin 1024) : R_main_v74 s a4 a5 a6 a7 a8 (ix3 b r e)
    = a5 (ix3 b r e) + rms 1149239296#32 (fun e => ∑ x : Fin 1024,
        (rms 1132462080#32 (stacked s b r (Fin.ofNat 4 (x.val / 256))) (fun x => a6 (ix1 x)) (Fin.ofNat 256 x.val)
          * a4 (ix3 b r x)) * a8 (ix2 x e)) (fun x => a7 (ix1 x)) e := by
  pointwise [R_main_v74]
  have hx : ∀ x : Fin 1024, (⟨x.val / 256, by omega⟩ : Fin 4) = Fin.ofNat 4 (x.val / 256) := fun x =>
    Fin.ext (Nat.mod_eq_of_lt (by omega)).symm
  simp only [hx]
  rfl

/-- The reference's result is `result` of its operands. -/
theorem returns_result : R_main_v74 (states m c 64) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
    = fun y : S8x4096x1024.Idx => result (operands m c) (y 0) (y 1) (y 2) := by
  have hs : ∀ b r h, stacked (states m c 64) b r h = att (operands m c) b r h := fun b r h =>
    funext fun e => stack_out m c b h 64 le_rfl ⟨r.val / 64, by omega⟩ (by show r.val / 64 < 64; omega) _ e
  funext y
  obtain ⟨b, r, e, rfl⟩ : ∃ b r e, y = ix3 b r e := ⟨y 0, y 1, y 2, eq_ix3 y⟩
  refine (returns _ _ _ _ _ _ b r e).trans ?_
  simp only [hs]
  rfl

end Cert.ReferenceIdeal.Core
-- ==== Proof.GlaPre.lean ====
/-
The precondition, read: every log decay is at most zero, so none of them is the top.
-/
module

public import proofs.«01_k».proof.Defs
public import Idealize.ShloMosaic.Lib.Pointwise

@[expose] public section

set_option maxRecDepth 16384

noncomputable section

open Idealize.ShloMosaic Idealize.ShloMosaic.TcCoe Idealize.SL.Sem

namespace Cert.Pre_decay_nonpositive

/-- What the predicate's operations ask of their shapes. -/
theorem facts : Facts where
  bcast_S_S8x4096x512 := by decide

/-- Where the predicate is all ones no log decay is the top. -/
theorem not_top [Facts] (a0 a1 a3 : FVec Ideal S8x4096x512 .f32) (a2 a4 : FVec Ideal S8x4096x1024 .bf16)
    (a5 : FVec Ideal S8x4096x1024 .f32) (a6 : FVec Ideal S256 .f32) (a7 : FVec Ideal S1024 .f32)
    (a8 : FVec Ideal S1024x1024 .f32) (h : fn a0 a1 a2 a3 a4 a5 a6 a7 a8 = fun _ => 1#1) (y : S8x4096x512.Idx) :
    a3 y ≠ ⊤ := by
  have hy : BitVec.ofBool (decide (a3 y ≤ Ideal.ofBits .f32 0x00000000#32)) = 1#1 := congrFun h y
  have z : Ideal.ofBits .f32 0x00000000#32 = 0 := Ideal.ofBits_zero .f32
  rw [z] at hy
  intro t
  rw [t] at hy
  simp at hy

end Cert.Pre_decay_nonpositive
-- ==== Proof.lean ====
/-
The certificate: the kernels' frames are the generated ones, a reference's frame is its run, and preservation is
trivial. The recurrence's equation is here; the projections' are in OutClaim, GlaProjClaim and NsaProjClaim,
and the compression's in CmpClaim.
-/
module

public import proofs.«01_k».proof.Defs
public import proofs.«01_k».proof.Proof.Gen.Kernel
public import proofs.«01_k».proof.Proof.Gen.Kernel.Frame
public import proofs.«01_k».proof.Proof.Gen.Out
public import proofs.«01_k».proof.Proof.Gen.Out.Frame
public import proofs.«01_k».proof.Proof.Gen.OutIdeal.Value
public import proofs.«01_k».proof.Proof.Gen.OutReferenceIdeal.Run
public import proofs.«01_k».proof.Proof.Gen.GlaProj
public import proofs.«01_k».proof.Proof.Gen.GlaProj.Frame
public import proofs.«01_k».proof.Proof.Gen.GlaProjIdeal.Value
public import proofs.«01_k».proof.Proof.Gen.GlaProjReferenceIdeal.Run
public import proofs.«01_k».proof.Proof.Gen.NsaProj
public import proofs.«01_k».proof.Proof.Gen.NsaProj.Frame
public import proofs.«01_k».proof.Proof.Gen.NsaProjIdeal.Value
public import proofs.«01_k».proof.Proof.Gen.NsaProjReferenceIdeal.Run
public import proofs.«01_k».proof.Proof.Gen.Compress
public import proofs.«01_k».proof.Proof.Gen.Compress.Frame
public import proofs.«01_k».proof.Proof.Gen.CompressIdeal.Value
public import proofs.«01_k».proof.Proof.Gen.CompressReferenceIdeal.Run
public import proofs.«01_k».proof.Proof.OutClaim
public import proofs.«01_k».proof.Proof.GlaProjClaim
public import proofs.«01_k».proof.Proof.NsaProjClaim
public import proofs.«01_k».proof.Proof.CmpClaim
public import proofs.«01_k».proof.Proof.GlaKernel
public import proofs.«01_k».proof.Proof.GlaScan
public import proofs.«01_k».proof.Proof.GlaPre
public import Idealize.ShloMosaic.Lib.Claim
public import Idealize.ShloMosaic.Lib.Quiescent

@[expose] public section

noncomputable section

namespace Cert.Proof

open Idealize.ShloMosaic Idealize.ShloMosaic.TcCoe Idealize.SL.Sem

/-- The reference's frame: it runs, keeps its arguments, and has no semaphore. -/
theorem frame_reference : Cert.quiescent_ReferenceIdeal := fun m g _ =>
  (θ_run Cert.ReferenceIdeal.defs _ _).mono
    (fun r h => And.intro (fun c => (h c).2) (sem_eq_zero_of_no_sems (by decide) r.2))
    (Cert.ReferenceIdeal.Core.run_states m g)

/-- The two programs' operands are the same functions where their arguments agree. -/
theorem operands_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Core.operands m' c = Cert.KernelIdeal.Core.inp m c := by
  obtain ⟨h0, h1, h2, h3, h4, h5, h6, h7, h8⟩ := h
  unfold Cert.ReferenceIdeal.Core.operands
  rw [h0, h1, h2, h3, h4, h5, h6, h7, h8]
  rfl

/-- The kernel's result is the reference's. -/
theorem algebraic (hp : Cert.Pre_decay_nonpositive.Facts) :
    Cert.algebraic_KernelIdeal_ReferenceIdeal_pre_decay_nonpositive := by
  intro m g m' g' hpre hagree
  refine ⟨fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Core.run_states m' g')
  refine (Cert.ReferenceIdeal.Core.returns_result m' c).trans ?_
  rw [operands_eq m m' c (hagree c)]
  exact (Cert.KernelIdeal.Core.array_eq (m := m) (c := c) fun b r x =>
    Cert.Pre_decay_nonpositive.not_top _ _ _ _ _ _ _ _ _ (hpre c) _).symm

theorem claim : Cert.Claim :=
  ⟨Cert.Kernel.Gen.facts, Cert.KernelIdeal.Gen.facts, Cert.ReferenceIdeal.Gen.facts, Cert.Out.Gen.facts,
    Cert.OutIdeal.Gen.facts, Cert.OutReferenceIdeal.Gen.facts, Cert.GlaProj.Gen.facts, Cert.GlaProjIdeal.Gen.facts,
    Cert.GlaProjReferenceIdeal.Gen.facts, Cert.NsaProj.Gen.facts, Cert.NsaProjIdeal.Gen.facts,
    Cert.NsaProjReferenceIdeal.Gen.facts, Cert.Compress.Gen.facts, Cert.CompressIdeal.Gen.facts,
    Cert.CompressReferenceIdeal.Gen.facts, Cert.Pre_decay_nonpositive.facts, Cert.Pre_weights_finite.facts,
    fun m g _ => Cert.Kernel.Gen.frame m g, fun m g _ => Cert.KernelIdeal.Gen.frame m g,
    fun m g _ => Cert.KernelIdeal.Gen.frame m g, frame_reference,
    fun m g _ => frame_reference m g trivial,
    fun m g _ => Cert.Out.Gen.frame m g, fun m g _ => Cert.OutIdeal.Gen.frame m g, Cert.OutClaim.frame_reference,
    fun m g _ => Cert.GlaProj.Gen.frame m g, fun m g _ => Cert.GlaProjIdeal.Gen.frame m g,
    Cert.GlaProjClaim.frame_reference,
    fun m g _ => Cert.NsaProj.Gen.frame m g, fun m g _ => Cert.NsaProjIdeal.Gen.frame m g,
    Cert.NsaProjClaim.frame_reference,
    fun m g _ => Cert.Compress.Gen.frame m g, fun m g _ => Cert.CompressIdeal.Gen.frame m g,
    fun m g _ => Cert.CompressIdeal.Gen.frame m g, Cert.CmpClaim.frame_reference,
    fun m g _ => Cert.CmpClaim.frame_reference m g trivial,
    trivial, algebraic _, trivial, Cert.OutClaim.algebraic, trivial, Cert.GlaProjClaim.algebraic,
    trivial, Cert.NsaProjClaim.algebraic, trivial, Cert.CmpClaim.algebraic _⟩

end Cert.Proof

end
